-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_names_experts : Cert.Pre_names_experts.Facts] (m : (ℓ : Loc Cert.Kernel3.nD Cert.Kernel3.τ Cert.Kernel3.sig) → Buf (Elt Bits) ℓ) : Prop :=
  ∀ c : Dev Cert.Kernel3.nD,
    (Cert.Pre_names_experts.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_names_experts : Cert.Pre_names_experts.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_names_experts.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_names_experts [hPre_names_experts : Cert.Pre_names_experts.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_names_experts.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_numbers [hPre_numbers : Cert.Pre_numbers.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_numbers.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_numbers [hPre_numbers : Cert.Pre_numbers.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_numbers.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_names_experts : Cert.Pre_names_experts.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_names_experts : Cert.Pre_names_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_names_experts [hReference3Ideal : Cert.Reference3Ideal.Facts] [hPre_names_experts : Cert.Pre_names_experts.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_names_experts m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_numbers [hKernel5Ideal : Cert.Kernel5Ideal.Facts] [hPre_numbers : Cert.Pre_numbers.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_numbers m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_numbers [hReference5Ideal : Cert.Reference5Ideal.Facts] [hPre_numbers : Cert.Pre_numbers.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_numbers m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)) (v3 : (c : Dev Cert.Kernel2Ideal.nD) → Buf (Elt Ideal) ((c.tc : Thread Cert.Kernel2Ideal.nD Cert.Kernel2Ideal.τ).loc Cert.Kernel2Ideal.main_v33_0)) (v4 : (c : Dev Cert.Kernel2Ideal.nD) → Buf (Elt Ideal) ((c.tc : Thread Cert.Kernel2Ideal.nD Cert.Kernel2Ideal.τ).loc Cert.Kernel2Ideal.main_v33_1)) (v5 : (c : Dev Cert.Kernel2Ideal.nD) → Buf (Elt Ideal) ((c.tc : Thread Cert.Kernel2Ideal.nD Cert.Kernel2Ideal.τ).loc Cert.Kernel2Ideal.main_v33_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_v33_0) = v3 c
          ∧ r.2.mem ((c.tc : Thread Cert.Kernel2Ideal.nD Cert.Kernel2Ideal.τ).loc Cert.Kernel2Ideal.main_v33_1) = v4 c
          ∧ r.2.mem ((c.tc : Thread Cert.Kernel2Ideal.nD Cert.Kernel2Ideal.τ).loc Cert.Kernel2Ideal.main_v33_2) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v64) = v2 c
          ∧ r.2.mem ((c.tc : Thread Cert.Reference2Ideal.nD Cert.Reference2Ideal.τ).loc Cert.Reference2Ideal.main_v65) = v3 c
          ∧ r.2.mem ((c.tc : Thread Cert.Reference2Ideal.nD Cert.Reference2Ideal.τ).loc Cert.Reference2Ideal.main_v66) = v4 c
          ∧ r.2.mem ((c.tc : Thread Cert.Reference2Ideal.nD Cert.Reference2Ideal.τ).loc Cert.Reference2Ideal.main_v67) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_on_rows_in_use [hKernel3Ideal : Cert.Kernel3Ideal.Facts] [hReference3Ideal : Cert.Reference3Ideal.Facts] [hPre_names_experts : Cert.Pre_names_experts.Facts] [hOn_rows_in_use : Cert.On_rows_in_use.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![4, 327680, 256]⟩ : Shape).Idx, (Cert.On_rows_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Kernel3Ideal.nD Cert.Kernel3Ideal.τ).loc Cert.Kernel3Ideal.main_v3) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![4, 327680, 256]⟩ : Shape).Idx, (Cert.On_rows_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Reference3Ideal.nD Cert.Reference3Ideal.τ).loc Cert.Reference3Ideal.main_v36) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)) (v2 : (c : Dev Cert.Kernel4Ideal.nD) → Buf (Elt Ideal) ((c.tc : Thread Cert.Kernel4Ideal.nD Cert.Kernel4Ideal.τ).loc Cert.Kernel4Ideal.main_v26_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_v26_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v91) = v1 c
          ∧ r.2.mem ((c.tc : Thread Cert.Reference4Ideal.nD Cert.Reference4Ideal.τ).loc Cert.Reference4Ideal.main_v88) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def preserves_Kernel5_Kernel5Ideal : Prop :=
  True

def algebraic_Kernel5Ideal_Reference5Ideal_pre_numbers [hKernel5Ideal : Cert.Kernel5Ideal.Facts] [hReference5Ideal : Cert.Reference5Ideal.Facts] [hPre_numbers : Cert.Pre_numbers.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_numbers m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v44_0)) (v1 : (c : Dev Cert.Kernel5Ideal.nD) → Buf (Elt Ideal) ((c.tc : Thread Cert.Kernel5Ideal.nD Cert.Kernel5Ideal.τ).loc Cert.Kernel5Ideal.main_v44_1)) (v2 : (c : Dev Cert.Kernel5Ideal.nD) → Buf (Elt Ideal) ((c.tc : Thread Cert.Kernel5Ideal.nD Cert.Kernel5Ideal.τ).loc Cert.Kernel5Ideal.main_v44_2)) (v3 : (c : Dev Cert.Kernel5Ideal.nD) → Buf (Elt Ideal) ((c.tc : Thread Cert.Kernel5Ideal.nD Cert.Kernel5Ideal.τ).loc Cert.Kernel5Ideal.main_v44_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v44_0) = v0 c
          ∧ r.2.mem ((c.tc : Thread Cert.Kernel5Ideal.nD Cert.Kernel5Ideal.τ).loc Cert.Kernel5Ideal.main_v44_1) = v1 c
          ∧ r.2.mem ((c.tc : Thread Cert.Kernel5Ideal.nD Cert.Kernel5Ideal.τ).loc Cert.Kernel5Ideal.main_v44_2) = v2 c
          ∧ r.2.mem ((c.tc : Thread Cert.Kernel5Ideal.nD Cert.Kernel5Ideal.τ).loc Cert.Kernel5Ideal.main_v44_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v215) = v0 c
          ∧ r.2.mem ((c.tc : Thread Cert.Reference5Ideal.nD Cert.Reference5Ideal.τ).loc Cert.Reference5Ideal.main_v219) = v1 c
          ∧ r.2.mem ((c.tc : Thread Cert.Reference5Ideal.nD Cert.Reference5Ideal.τ).loc Cert.Reference5Ideal.main_v221) = v2 c
          ∧ r.2.mem ((c.tc : Thread Cert.Reference5Ideal.nD Cert.Reference5Ideal.τ).loc Cert.Reference5Ideal.main_v209) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_names_experts : Cert.Pre_names_experts.Facts) (hPre_numbers : Cert.Pre_numbers.Facts) (hOn_rows_in_use : Cert.On_rows_in_use.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_names_experts := hPre_names_experts)
    ∧ quiescent_Kernel3Ideal (hKernel3Ideal := hKernel3Ideal) (hPre_names_experts := hPre_names_experts)
    ∧ quiescent_Reference3Ideal (hReference3Ideal := hReference3Ideal)
    ∧ quiescent_Reference3Ideal_pre_names_experts (hReference3Ideal := hReference3Ideal) (hPre_names_experts := hPre_names_experts)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_numbers (hKernel5Ideal := hKernel5Ideal) (hPre_numbers := hPre_numbers)
    ∧ quiescent_Reference5Ideal (hReference5Ideal := hReference5Ideal)
    ∧ quiescent_Reference5Ideal_pre_numbers (hReference5Ideal := hReference5Ideal) (hPre_numbers := hPre_numbers)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_rows_in_use (hKernel3Ideal := hKernel3Ideal) (hReference3Ideal := hReference3Ideal) (hPre_names_experts := hPre_names_experts) (hOn_rows_in_use := hOn_rows_in_use)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_numbers (hKernel5Ideal := hKernel5Ideal) (hReference5Ideal := hReference5Ideal) (hPre_numbers := hPre_numbers)
-- ==== On_rows_in_use.lean ====
abbrev S321 : Shape := ⟨1, ![321]⟩
abbrev S2x327680x256 : Shape := ⟨3, ![2, 327680, 256]⟩
abbrev S1x64x1024x256 : Shape := ⟨4, ![1, 64, 1024, 256]⟩
abbrev S1x64x256x1024 : Shape := ⟨4, ![1, 64, 256, 1024]⟩
abbrev S320 : Shape := ⟨1, ![320]⟩
abbrev S1 : Shape := ⟨1, ![1]⟩
abbrev S_ : Shape := ⟨0, ![]⟩
abbrev S320x1 : Shape := ⟨2, ![320, 1]⟩
abbrev S320x1024 : Shape := ⟨2, ![320, 1024]⟩
abbrev S327680 : Shape := ⟨1, ![327680]⟩
abbrev S1x327680x1 : Shape := ⟨3, ![1, 327680, 1]⟩
abbrev S4x327680x256 : Shape := ⟨3, ![4, 327680, 256]⟩

class Facts : Prop where
  slices_S321_S1_320 : S321.Slices ![320] S1
  shapeCasts_S1_S_ : S1.ShapeCasts S_
  bcast_S_S320 : S_.BroadcastsInDim S320 (![] : Fin 0 → Fin S320.rank)
  bcast_S320_S320x1_0 : S320.BroadcastsInDim S320x1 (![0] : Fin 1 → Fin S320x1.rank)
  bcast_S320x1_S320x1024_0_1 : S320x1.BroadcastsInDim S320x1024 (![0, 1] : Fin 2 → Fin S320x1024.rank)
  shapeCasts_S320x1024_S327680 : S320x1024.ShapeCasts S327680
  bcast_S327680_S1x327680x1_1 : S327680.BroadcastsInDim S1x327680x1 (![1] : Fin 1 → Fin S1x327680x1.rank)
  bcast_S1x327680x1_S4x327680x256_0_1_2 : S1x327680x1.BroadcastsInDim S4x327680x256 (![0, 1, 2] : Fin 3 → Fin S4x327680x256.rank)

variable [Facts]

def fn {F : FTy → Type} [FloatOps F] (main_arg0 : IVec S321 32) (main_arg1 : IVec S2x327680x256 32) (main_arg2 : FVec F S1x64x1024x256 .f32) (main_arg3 : FVec F S1x64x1024x256 .f32) (main_arg4 : FVec F S1x64x256x1024 .f32) : IVec S4x327680x256 1 :=
  let main_v0 : IVec S320 32 := iotaInDim S320 32 0
  let main_v1 : IVec S1 32 := (extractStridedSlice S1 ![320] · slices_S321_S1_320) main_arg0
  let main_v2 : IVec S_ 32 := shapeCast S_ main_v1 shapeCasts_S1_S_
  let main_v3 : IVec S320 32 := broadcastInDim S320 ![] bcast_S_S320 main_v2
  let main_v4 : IVec S320 1 := cmpi .slt main_v0 main_v3
  let main_v5 : IVec S320x1 1 := broadcastInDim S320x1 ![0] bcast_S320_S320x1_0 main_v4
  let main_v6 : IVec S320x1024 1 := broadcastInDim S320x1024 ![0, 1] bcast_S320x1_S320x1024_0_1 main_v5
  let main_v7 : IVec S327680 1 := shapeCast S327680 main_v6 shapeCasts_S320x1024_S327680
  let main_v8 : IVec S1x327680x1 1 := broadcastInDim S1x327680x1 ![1] bcast_S327680_S1x327680x1_1 main_v7
  let main_v9 : IVec S4x327680x256 1 := broadcastInDim S4x327680x256 ![0, 1, 2] bcast_S1x327680x1_S4x327680x256_0_1_2 main_v8
  main_v9
-- ==== Pre_names_experts.lean ====
abbrev S321 : Shape := ⟨1, ![321]⟩
abbrev S2x327680x256 : Shape := ⟨3, ![2, 327680, 256]⟩
abbrev S1x64x1024x256 : Shape := ⟨4, ![1, 64, 1024, 256]⟩
abbrev S1x64x256x1024 : Shape := ⟨4, ![1, 64, 256, 1024]⟩
abbrev S320 : Shape := ⟨1, ![320]⟩
abbrev S_ : Shape := ⟨0, ![]⟩

class Facts : Prop where
  slices_S321_S320_0 : S321.Slices ![0] S320
  bcast_S_S320 : S_.BroadcastsInDim S320 (![] : Fin 0 → Fin S320.rank)

variable [Facts]

def fn {F : FTy → Type} [FloatOps F] (main_arg0 : IVec S321 32) (main_arg1 : IVec S2x327680x256 32) (main_arg2 : FVec F S1x64x1024x256 .f32) (main_arg3 : FVec F S1x64x1024x256 .f32) (main_arg4 : FVec F S1x64x256x1024 .f32) : IVec S320 1 :=
  let main_v0 : IVec S320 32 := (extractStridedSlice S320 ![0] · slices_S321_S320_0) main_arg0
  let main_c : IVec S_ 32 := constantI S_ 32 0#32
  let main_v1 : IVec S320 32 := broadcastInDim S320 ![] bcast_S_S320 main_c
  let main_v2 : IVec S320 1 := cmpi .sge main_v0 main_v1
  let main_v3 : IVec S320 32 := (extractStridedSlice S320 ![0] · slices_S321_S320_0) main_arg0
  let main_c_0 : IVec S_ 32 := constantI S_ 32 64#32
  let main_v4 : IVec S320 32 := broadcastInDim S320 ![] bcast_S_S320 main_c_0
  let main_v5 : IVec S320 1 := cmpi .slt main_v3 main_v4
  let main_v6 : IVec S320 1 := andi main_v2 main_v5
  main_v6
-- ==== Pre_numbers.lean ====
abbrev S16x2048x1536 : Shape := ⟨3, ![16, 2048, 1536]⟩
abbrev S16x2048x384 : Shape := ⟨3, ![16, 2048, 384]⟩
abbrev S1x3x3x1536 : Shape := ⟨4, ![1, 3, 3, 1536]⟩
abbrev S1x2x512 : Shape := ⟨3, ![1, 2, 512]⟩
abbrev S1x2x64x512 : Shape := ⟨4, ![1, 2, 64, 512]⟩
abbrev S1x128x512 : Shape := ⟨3, ![1, 128, 512]⟩
abbrev S1x512 : Shape := ⟨2, ![1, 512]⟩
abbrev S1x8x64 : Shape := ⟨3, ![1, 8, 64]⟩
abbrev S_ : Shape := ⟨0, ![]⟩

class Facts : Prop where
  bcast_S_S16x2048x1536 : S_.BroadcastsInDim S16x2048x1536 (![] : Fin 0 → Fin S16x2048x1536.rank)
  reducesTo_S16x2048x1536_S_d0_1_2 : S16x2048x1536.ReducesTo [0, 1, 2] S_
  h_S_ : 0 < S_.numel
  bcast_S_S16x2048x384 : S_.BroadcastsInDim S16x2048x384 (![] : Fin 0 → Fin S16x2048x384.rank)
  reducesTo_S16x2048x384_S_d0_1_2 : S16x2048x384.ReducesTo [0, 1, 2] S_
  bcast_S_S1x3x3x1536 : S_.BroadcastsInDim S1x3x3x1536 (![] : Fin 0 → Fin S1x3x3x1536.rank)
  reducesTo_S1x3x3x1536_S_d0_1_2_3 : S1x3x3x1536.ReducesTo [0, 1, 2, 3] S_
  bcast_S_S1x2x64x512 : S_.BroadcastsInDim S1x2x64x512 (![] : Fin 0 → Fin S1x2x64x512.rank)
  reducesTo_S1x2x64x512_S_d0_1_2_3 : S1x2x64x512.ReducesTo [0, 1, 2, 3] S_
  bcast_S_S1x128x512 : S_.BroadcastsInDim S1x128x512 (![] : Fin 0 → Fin S1x128x512.rank)
  reducesTo_S1x128x512_S_d0_1_2 : S1x128x512.ReducesTo [0, 1, 2] S_
  bcast_S_S1x512 : S_.BroadcastsInDim S1x512 (![] : Fin 0 → Fin S1x512.rank)
  reducesTo_S1x512_S_d0_1 : S1x512.ReducesTo [0, 1] S_
  bcast_S_S1x8x64 : S_.BroadcastsInDim S1x8x64 (![] : Fin 0 → Fin S1x8x64.rank)
  reducesTo_S1x8x64_S_d0_1_2 : S1x8x64.ReducesTo [0, 1, 2] S_

variable [Facts]

def fn_part2 {F : FTy → Type} [FloatOps F] (main_arg10 : FVec F S1x8x64 .f32) (main_v33 : IVec S_ 1) : IVec S_ 1 :=
  let main_v34 : FVec F S1x8x64 .f32 := subf main_arg10 main_arg10
  let main_cst_12 : FVec F S_ .f32 := constant S_ .f32 0x00000000#32
  let main_v35 : FVec F S1x8x64 .f32 := broadcastInDim S1x8x64 ![] bcast_S_S1x8x64 main_cst_12
  let main_v36 : IVec S1x8x64 1 := cmpf .oeq main_v34 main_v35
  let main_c_13 : IVec S_ 1 := constantI S_ 1 1#1
  let main_v37 : IVec S_ 1 := (fun x v => Host.reduce IntOp.andi x v reducesTo_S1x8x64_S_d0_1_2 h_S_) main_v36 main_c_13
  let main_v38 : IVec S_ 1 := andi main_v33 main_v37
  main_v38

def fn_part1 {F : FTy → Type} [FloatOps F] (main_arg6 : FVec F S1x2x64x512 .f32) (main_arg7 : FVec F S1x128x512 .f32) (main_arg9 : FVec F S1x512 .f32) (main_arg10 : FVec F S1x8x64 .f32) (main_v13 : IVec S_ 1) (main_v16 : IVec S1x2x64x512 1) : IVec S_ 1 :=
  let main_c_5 : IVec S_ 1 := constantI S_ 1 1#1
  let main_v17 : IVec S_ 1 := (fun x v => Host.reduce IntOp.andi x v reducesTo_S1x2x64x512_S_d0_1_2_3 h_S_) main_v16 main_c_5
  let main_v18 : IVec S_ 1 := andi main_v13 main_v17
  let main_v19 : FVec F S1x2x64x512 .f32 := subf main_arg6 main_arg6
  let main_cst_6 : FVec F S_ .f32 := constant S_ .f32 0x00000000#32
  let main_v20 : FVec F S1x2x64x512 .f32 := broadcastInDim S1x2x64x512 ![] bcast_S_S1x2x64x512 main_cst_6
  let main_v21 : IVec S1x2x64x512 1 := cmpf .oeq main_v19 main_v20
  let main_c_7 : IVec S_ 1 := constantI S_ 1 1#1
  let main_v22 : IVec S_ 1 := (fun x v => Host.reduce IntOp.andi x v reducesTo_S1x2x64x512_S_d0_1_2_3 h_S_) main_v21 main_c_7
  let main_v23 : IVec S_ 1 := andi main_v18 main_v22
  let main_v24 : FVec F S1x128x512 .f32 := subf main_arg7 main_arg7
  let main_cst_8 : FVec F S_ .f32 := constant S_ .f32 0x00000000#32
  let main_v25 : FVec F S1x128x512 .f32 := broadcastInDim S1x128x512 ![] bcast_S_S1x128x512 main_cst_8
  let main_v26 : IVec S1x128x512 1 := cmpf .oeq main_v24 main_v25
  let main_c_9 : IVec S_ 1 := constantI S_ 1 1#1
  let main_v27 : IVec S_ 1 := (fun x v => Host.reduce IntOp.andi x v reducesTo_S1x128x512_S_d0_1_2 h_S_) main_v26 main_c_9
  let main_v28 : IVec S_ 1 := andi main_v23 main_v27
  let main_v29 : FVec F S1x512 .f32 := subf main_arg9 main_arg9
  let main_cst_10 : FVec F S_ .f32 := constant S_ .f32 0x00000000#32
  let main_v30 : FVec F S1x512 .f32 := broadcastInDim S1x512 ![] bcast_S_S1x512 main_cst_10
  let main_v31 : IVec S1x512 1 := cmpf .oeq main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg10 main_v33

def fn {F : FTy → Type} [FloatOps F] (main_arg0 : FVec F S16x2048x1536 .f32) (main_arg1 : FVec F S16x2048x384 .f32) (main_arg2 : FVec F S1x3x3x1536 .f32) (main_arg3 : FVec F S1x2x512 .f32) (main_arg4 : FVec F S1x2x64x512 .f32) (main_arg5 : FVec F S1x2x512 .f32) (main_arg6 : FVec F S1x2x64x512 .f32) (main_arg7 : FVec F S1x128x512 .f32) (main_arg8 : FVec F S1x512 .f32) (main_arg9 : FVec F S1x512 .f32) (main_arg10 : FVec F S1x8x64 .f32) : IVec S_ 1 :=
  let main_v0 : FVec F S16x2048x1536 .f32 := subf main_arg0 main_arg0
  let main_cst : FVec F S_ .f32 := constant S_ .f32 0x00000000#32
  let main_v1 : FVec F S16x2048x1536 .f32 := broadcastInDim S16x2048x1536 ![] bcast_S_S16x2048x1536 main_cst
  let main_v2 : IVec S16x2048x1536 1 := cmpf .oeq main_v0 main_v1
  let main_c : IVec S_ 1 := constantI S_ 1 1#1
  let main_v3 : IVec S_ 1 := (fun x v => Host.reduce IntOp.andi x v reducesTo_S16x2048x1536_S_d0_1_2 h_S_) main_v2 main_c
  let main_v4 : FVec F S16x2048x384 .f32 := subf main_arg1 main_arg1
  let main_cst_0 : FVec F S_ .f32 := constant S_ .f32 0x00000000#32
  let main_v5 : FVec F S16x2048x384 .f32 := broadcastInDim S16x2048x384 ![] bcast_S_S16x2048x384 main_cst_0
  let main_v6 : IVec S16x2048x384 1 := cmpf .oeq main_v4 main_v5
  let main_c_1 : IVec S_ 1 := constantI S_ 1 1#1
  let main_v7 : IVec S_ 1 := (fun x v => Host.reduce IntOp.andi x v reducesTo_S16x2048x384_S_d0_1_2 h_S_) main_v6 main_c_1
  let main_v8 : IVec S_ 1 := andi main_v3 main_v7
  let main_v9 : FVec F S1x3x3x1536 .f32 := subf main_arg2 main_arg2
  let main_cst_2 : FVec F S_ .f32 := constant S_ .f32 0x00000000#32
  let main_v10 : FVec F S1x3x3x1536 .f32 := broadcastInDim S1x3x3x1536 ![] bcast_S_S1x3x3x1536 main_cst_2
  let main_v11 : IVec S1x3x3x1536 1 := cmpf .oeq main_v9 main_v10
  let main_c_3 : IVec S_ 1 := constantI S_ 1 1#1
  let main_v12 : IVec S_ 1 := (fun x v => Host.reduce IntOp.andi x v reducesTo_S1x3x3x1536_S_d0_1_2_3 h_S_) main_v11 main_c_3
  let main_v13 : IVec S_ 1 := andi main_v8 main_v12
  let main_v14 : FVec F S1x2x64x512 .f32 := subf main_arg4 main_arg4
  let main_cst_4 : FVec F S_ .f32 := constant S_ .f32 0x00000000#32
  let main_v15 : FVec F S1x2x64x512 .f32 := broadcastInDim S1x2x64x512 ![] bcast_S_S1x2x64x512 main_cst_4
  let main_v16 : IVec S1x2x64x512 1 := cmpf .oeq main_v14 main_v15
  fn_part1 (F := F) main_arg6 main_arg7 main_arg9 main_arg10 main_v13 main_v16
-- ==== Kernel.lean ====
abbrev S8x2x32768x256 : Shape := ⟨4, ![8, 2, 32768, 256]⟩
abbrev S8x32768 : Shape := ⟨2, ![8, 32768]⟩
abbrev S2x32768x256 : Shape := ⟨3, ![2, 32768, 256]⟩
abbrev S16x2048x1024 : Shape := ⟨3, ![16, 2048, 1024]⟩
abbrev S16x1x1024 : Shape := ⟨3, ![16, 1, 1024]⟩
abbrev S1024 : Shape := ⟨1, ![1024]⟩
abbrev S1x1024x256 : Shape := ⟨3, ![1, 1024, 256]⟩
abbrev S1x256x1024 : Shape := ⟨3, ![1, 256, 1024]⟩
abbrev S32768x8 : Shape := ⟨2, ![32768, 8]⟩
abbrev S1024x256 : Shape := ⟨2, ![1024, 256]⟩
abbrev S256x1024 : Shape := ⟨2, ![256, 1024]⟩
abbrev S1x1024 : Shape := ⟨2, ![1, 1024]⟩
abbrev S8x2x512x256 : Shape := ⟨4, ![8, 2, 512, 256]⟩
abbrev S512x8 : Shape := ⟨2, ![512, 8]⟩
abbrev S2x512x256 : Shape := ⟨3, ![2, 512, 256]⟩
abbrev S1x512x1024 : Shape := ⟨3, ![1, 512, 1024]⟩
abbrev S1x1x1024 : Shape := ⟨3, ![1, 1, 1024]⟩
abbrev S512x1 : Shape := ⟨2, ![512, 1]⟩
abbrev S1x1x512x256 : Shape := ⟨4, ![1, 1, 512, 256]⟩
abbrev S512x256 : Shape := ⟨2, ![512, 256]⟩
abbrev S512x1024 : Shape := ⟨2, ![512, 1024]⟩
abbrev S1x512x256 : Shape := ⟨3, ![1, 512, 256]⟩
abbrev S512 : Shape := ⟨1, ![512]⟩

abbrev nBuf : Space → Nat
  | .hbm => 15
  | .vmem => 16
  | .smem => 0
  | _ => 0

abbrev bufTy : (tb : Table) → Fin (tcTables nBuf tb) → BufTy
  | .hbm, ⟨0, _⟩ => ⟨S8x2x32768x256, .i32⟩
  | .hbm, ⟨1, _⟩ => ⟨S8x32768, .f32⟩
  | .hbm, ⟨2, _⟩ => ⟨S2x32768x256, .i32⟩
  | .hbm, ⟨3, _⟩ => ⟨S16x2048x1024, .f32⟩
  | .hbm, ⟨4, _⟩ => ⟨S16x1x1024, .f32⟩
  | .hbm, ⟨5, _⟩ => ⟨S1024, .f32⟩
  | .hbm, ⟨6, _⟩ => ⟨S1x1024x256, .f32⟩
  | .hbm, ⟨7, _⟩ => ⟨S1x1024x256, .f32⟩
  | .hbm, ⟨8, _⟩ => ⟨S1x256x1024, .f32⟩
  | .hbm, ⟨9, _⟩ => ⟨S32768x8, .f32⟩
  | .hbm, ⟨10, _⟩ => ⟨S1024x256, .f32⟩
  | .hbm, ⟨11, _⟩ => ⟨S1024x256, .f32⟩
  | .hbm, ⟨12, _⟩ => ⟨S256x1024, .f32⟩
  | .hbm, ⟨13, _⟩ => ⟨S1x1024, .f32⟩
  | .hbm, ⟨14, _⟩ => ⟨S16x2048x1024, .f32⟩
  | .local _ .vmem, ⟨0, _⟩ => ⟨S8x2x512x256, .i32⟩
  | .local _ .vmem, ⟨1, _⟩ => ⟨S8x2x512x256, .i32⟩
  | .local _ .vmem, ⟨2, _⟩ => ⟨S512x8, .f32⟩
  | .local _ .vmem, ⟨3, _⟩ => ⟨S512x8, .f32⟩
  | .local _ .vmem, ⟨4, _⟩ => ⟨S2x512x256, .i32⟩
  | .local _ .vmem, ⟨5, _⟩ => ⟨S2x512x256, .i32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x256, .f32⟩
  | .local _ .vmem, ⟨12, _⟩ => ⟨S1024x256, .f32⟩
  | .local _ .vmem, ⟨13, _⟩ => ⟨S256x1024, .f32⟩
  | .local _ .vmem, ⟨14, _⟩ => ⟨S1x512x1024, .f32⟩
  | .local _ .vmem, ⟨15, _⟩ => ⟨S1x512x1024, .f32⟩
  | _, _ => ⟨S8x2x32768x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x2x512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x2x32768x256 : Shape := ⟨4, ![8, 2, 32768, 256]⟩
abbrev S8x32768 : Shape := ⟨2, ![8, 32768]⟩
abbrev S2x32768x256 : Shape := ⟨3, ![2, 32768, 256]⟩
abbrev S16x2048x1024 : Shape := ⟨3, ![16, 2048, 1024]⟩
abbrev S16x1x1024 : Shape := ⟨3, ![16, 1, 1024]⟩
abbrev S1024 : Shape := ⟨1, ![1024]⟩
abbrev S1x1024x256 : Shape := ⟨3, ![1, 1024, 256]⟩
abbrev S1x256x1024 : Shape := ⟨3, ![1, 256, 1024]⟩
abbrev S8x2x32768x256x2 : Shape := ⟨5, ![8, 2, 32768, 256, 2]⟩
abbrev S8x32768x2x2x256 : Shape := ⟨5, ![8, 32768, 2, 2, 256]⟩
abbrev S8x32768x1024 : Shape := ⟨3, ![8, 32768, 1024]⟩
abbrev S2x32768x256x2 : Shape := ⟨4, ![2, 32768, 256, 2]⟩
abbrev S32768x2x2x256 : Shape := ⟨4, ![32768, 2, 2, 256]⟩
abbrev S32768x1024 : Shape := ⟨2, ![32768, 1024]⟩
abbrev S8x32768x1 : Shape := ⟨3, ![8, 32768, 1]⟩
abbrev S_ : Shape := ⟨0, ![]⟩
abbrev S1024x256 : Shape := ⟨2, ![1024, 256]⟩
abbrev S32768x256 : Shape := ⟨2, ![32768, 256]⟩
abbrev S256x1024 : Shape := ⟨2, ![256, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x2x32768x256, .i32⟩
  | .hbm, ⟨1, _⟩ => ⟨S8x32768, .f32⟩
  | .hbm, ⟨2, _⟩ => ⟨S2x32768x256, .i32⟩
  | .hbm, ⟨3, _⟩ => ⟨S16x2048x1024, .f32⟩
  | .hbm, ⟨4, _⟩ => ⟨S16x1x1024, .f32⟩
  | .hbm, ⟨5, _⟩ => ⟨S1024, .f32⟩
  | .hbm, ⟨6, _⟩ => ⟨S1x1024x256, .f32⟩
  | .hbm, ⟨7, _⟩ => ⟨S1x1024x256, .f32⟩
  | .hbm, ⟨8, _⟩ => ⟨S1x256x1024, .f32⟩
  | .hbm, ⟨9, _⟩ => ⟨S8x2x32768x256x2, .bf16⟩
  | .hbm, ⟨10, _⟩ => ⟨S8x2x32768x256x2, .f32⟩
  | .hbm, ⟨11, _⟩ => ⟨S8x32768x2x2x256, .f32⟩
  | .hbm, ⟨12, _⟩ => ⟨S8x32768x1024, .f32⟩
  | .hbm, ⟨13, _⟩ => ⟨S2x32768x256x2, .bf16⟩
  | .hbm, ⟨14, _⟩ => ⟨S2x32768x256x2, .f32⟩
  | .hbm, ⟨15, _⟩ => ⟨S32768x2x2x256, .f32⟩
  | .hbm, ⟨16, _⟩ => ⟨S32768x1024, .f32⟩
  | .hbm, ⟨17, _⟩ => ⟨S8x32768x1, .f32⟩
  | .hbm, ⟨18, _⟩ => ⟨S8x32768x1024, .f32⟩
  | .hbm, ⟨19, _⟩ => ⟨S8x32768x1024, .f32⟩
  | .hbm, ⟨20, _⟩ => ⟨S_, .f32⟩
  | .hbm, ⟨21, _⟩ => ⟨S32768x1024, .f32⟩
  | .hbm, ⟨22, _⟩ => ⟨S1024x256, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S_, .f32⟩
  | .hbm, ⟨27, _⟩ => ⟨S32768x256, .f32⟩
  | .hbm, ⟨28, _⟩ => ⟨S32768x256, .f32⟩
  | .hbm, ⟨29, _⟩ => ⟨S_, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S1024x256, .f32⟩
  | .hbm, ⟨34, _⟩ => ⟨S32768x256, .f32⟩
  | .hbm, ⟨35, _⟩ => ⟨S32768x256, .f32⟩
  | .hbm, ⟨36, _⟩ => ⟨S256x1024, .f32⟩
  | .hbm, ⟨37, _⟩ => ⟨S32768x1024, .f32⟩
  | .hbm, ⟨38, _⟩ => ⟨S32768x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1, .f32⟩
  | .hbm, ⟨54, _⟩ => ⟨S16x2048x1024, .f32⟩
  | .hbm, ⟨55, _⟩ => ⟨S16x2048x1024, .f32⟩
  | .hbm, ⟨56, _⟩ => ⟨S1x1x1024, .f32⟩
  | .hbm, ⟨57, _⟩ => ⟨S16x2048x1024, .f32⟩
  | .hbm, ⟨58, _⟩ => ⟨S16x2048x1024, .f32⟩
  | _, _ => ⟨S8x2x32768x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x1024 : Shape := ⟨2, ![16, 1024]⟩
abbrev S16x256x1024 : Shape := ⟨3, ![16, 256, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x4480 : Shape := ⟨3, ![1, 1024, 4480]⟩
abbrev S_ : Shape := ⟨0, ![]⟩
abbrev S7x1024 : Shape := ⟨2, ![7, 1024]⟩
abbrev S24x1024 : Shape := ⟨2, ![24, 1024]⟩
abbrev S1024x6144 : Shape := ⟨2, ![1024, 6144]⟩
abbrev S6144 : Shape := ⟨1, ![6144]⟩
abbrev S24x6144 : Shape := ⟨2, ![24, 6144]⟩
abbrev S1024x1024 : Shape := ⟨2, ![1024, 1024]⟩
abbrev S16x6144 : Shape := ⟨2, ![16, 6144]⟩
abbrev S16x1x1024 : Shape := ⟨3, ![16, 1, 1024]⟩
abbrev S1x1x6144 : Shape := ⟨3, ![1, 1, 6144]⟩
abbrev S16x1x6144 : Shape := ⟨3, ![16, 1, 6144]⟩
abbrev S1024x4480 : Shape := ⟨2, ![1024, 4480]⟩
abbrev S16x2048x1536 : Shape := ⟨3, ![16, 2048, 1536]⟩
abbrev S16x2048x384 : Shape := ⟨3, ![16, 2048, 384]⟩
abbrev S16x2048x2560 : Shape := ⟨3, ![16, 2048, 2560]⟩
abbrev S1x256x1024 : Shape := ⟨3, ![1, 256, 1024]⟩
abbrev S1x1x1024 : Shape := ⟨3, ![1, 1, 1024]⟩
abbrev S1x256x1536 : Shape := ⟨3, ![1, 256, 1536]⟩
abbrev S1x256x384 : Shape := ⟨3, ![1, 256, 384]⟩
abbrev S1x256x2560 : Shape := ⟨3, ![1, 256, 2560]⟩
abbrev S256x1024 : Shape := ⟨2, ![256, 1024]⟩
abbrev S256 : Shape := ⟨1, ![256]⟩
abbrev S256x1 : Shape := ⟨2, ![256, 1]⟩
abbrev S256x4480 : Shape := ⟨2, ![256, 4480]⟩
abbrev S256x1536 : Shape := ⟨2, ![256, 1536]⟩
abbrev S256x384 : Shape := ⟨2, ![256, 384]⟩
abbrev S256x2560 : Shape := ⟨2, ![256, 2560]⟩
abbrev S16x256x1536 : Shape := ⟨3, ![16, 256, 1536]⟩
abbrev S16x256x384 : Shape := ⟨3, ![16, 256, 384]⟩
abbrev S16x256x2560 : Shape := ⟨3, ![16, 256, 2560]⟩

abbrev nBuf : Space → Nat
  | .hbm => 47
  | .vmem => 35
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S16x256x1024, .f32⟩
  | .hbm, ⟨3, _⟩ => ⟨S1024, .f32⟩
  | .hbm, ⟨4, _⟩ => ⟨S1x1024x6144, .f32⟩
  | .hbm, ⟨5, _⟩ => ⟨S1x6144, .f32⟩
  | .hbm, ⟨6, _⟩ => ⟨S1x1024, .f32⟩
  | .hbm, ⟨7, _⟩ => ⟨S1x1024x4480, .f32⟩
  | .hbm, ⟨8, _⟩ => ⟨S1x1024, .f32⟩
  | .hbm, ⟨9, _⟩ => ⟨S_, .f32⟩
  | .hbm, ⟨10, _⟩ => ⟨S7x1024, .f32⟩
  | .hbm, ⟨11, _⟩ => ⟨S24x1024, .f32⟩
  | .hbm, ⟨12, _⟩ => ⟨S1024x6144, .f32⟩
  | .hbm, ⟨13, _⟩ => ⟨S6144, .f32⟩
  | .hbm, ⟨14, _⟩ => ⟨S1x6144, .f32⟩
  | .hbm, ⟨15, _⟩ => ⟨S24x6144, .f32⟩
  | .hbm, ⟨16, _⟩ => ⟨S16x6144, .f32⟩
  | .hbm, ⟨17, _⟩ => ⟨S16x1024, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S16x1024, .f32⟩
  | .hbm, ⟨22, _⟩ => ⟨S16x1024, .f32⟩
  | .hbm, ⟨23, _⟩ => ⟨S16x1x1024, .f32⟩
  | .hbm, ⟨24, _⟩ => ⟨S16x1x1024, .f32⟩
  | .hbm, ⟨25, _⟩ => ⟨S16x1x1024, .f32⟩
  | .hbm, ⟨26, _⟩ => ⟨S16x1x1024, .f32⟩
  | .hbm, ⟨27, _⟩ => ⟨S16x1x1024, .f32⟩
  | .hbm, ⟨28, _⟩ => ⟨S16x1x1024, .f32⟩
  | .hbm, ⟨29, _⟩ => ⟨S1x6144, .f32⟩
  | .hbm, ⟨30, _⟩ => ⟨S6144, .f32⟩
  | .hbm, ⟨31, _⟩ => ⟨S1x1x6144, .f32⟩
  | .hbm, ⟨32, _⟩ => ⟨S16x1x6144, .f32⟩
  | .hbm, ⟨33, _⟩ => ⟨S16x1x1024, .f32⟩
  | .hbm, ⟨34, _⟩ => ⟨S16x1x1024, .f32⟩
  | .hbm, ⟨35, _⟩ => ⟨S1024x4480, .f32⟩
  | .hbm, ⟨36, _⟩ => ⟨S1024x4480, .bf16⟩
  | .hbm, ⟨37, _⟩ => ⟨S1024, .f32⟩
  | .hbm, ⟨38, _⟩ => ⟨S1x1024, .f32⟩
  | .hbm, ⟨39, _⟩ => ⟨S16x2048x1536, .f32⟩
  | .hbm, ⟨40, _⟩ => ⟨S16x2048x384, .f32⟩
  | .hbm, ⟨41, _⟩ => ⟨S16x2048x2560, .f32⟩
  | .hbm, ⟨42, _⟩ => ⟨S1024, .f32⟩
  | .hbm, ⟨43, _⟩ => ⟨S1x1024, .f32⟩
  | .hbm, ⟨44, _⟩ => ⟨S16x256x1536, .f32⟩
  | .hbm, ⟨45, _⟩ => ⟨S16x256x384, .f32⟩
  | .hbm, ⟨46, _⟩ => ⟨S16x256x2560, .f32⟩
  | .local _ .vmem, ⟨0, _⟩ => ⟨S24x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S24x1024, .f32⟩
  | .local _ .vmem, ⟨6, _⟩ => ⟨S24x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x4480, .bf16⟩
  | .local _ .vmem, ⟨15, _⟩ => ⟨S1x256x1536, .f32⟩
  | .local _ .vmem, ⟨16, _⟩ => ⟨S1x256x1536, .f32⟩
  | .local _ .vmem, ⟨17, _⟩ => ⟨S1x256x384, .f32⟩
  | .local _ .vmem, ⟨18, _⟩ => ⟨S1x256x384, .f32⟩
  | .local _ .vmem, ⟨19, _⟩ => ⟨S1x256x2560, .f32⟩
  | .local _ .vmem, ⟨20, _⟩ => ⟨S1x256x2560, .f32⟩
  | .local _ .vmem, ⟨21, _⟩ => ⟨S1x256x1024, .f32⟩
  | .local _ .vmem, ⟨22, _⟩ => ⟨S1x256x1024, .f32⟩
  | .local _ .vmem, ⟨23, _⟩ => ⟨S1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1024x4480, .bf16⟩
  | .local _ .vmem, ⟨29, _⟩ => ⟨S1x256x1536, .f32⟩
  | .local _ .vmem, ⟨30, _⟩ => ⟨S1x256x1536, .f32⟩
  | .local _ .vmem, ⟨31, _⟩ => ⟨S1x256x384, .f32⟩
  | .local _ .vmem, ⟨32, _⟩ => ⟨S1x256x384, .f32⟩
  | .local _ .vmem, ⟨33, _⟩ => ⟨S1x256x2560, .f32⟩
  | .local _ .vmem, ⟨34, _⟩ => ⟨S1x256x2560, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc2_sem7_0 : DmaSem sig := 33
abbrev cc2_sem7_1 : DmaSem sig := 34

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1024x4480 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x2560 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![16, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1024x4480 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x256x1536 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x256x2560 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== Reference2Ideal.lean ====
abbrev S16x2048x1024 : Shape := ⟨3, ![16, 2048, 1024]⟩
abbrev S16x1024 : Shape := ⟨2, ![16, 1024]⟩
abbrev S16x256x1024 : Shape := ⟨3, ![16, 256, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x4480 : Shape := ⟨3, ![1, 1024, 4480]⟩
abbrev S_ : Shape := ⟨0, ![]⟩
abbrev S1024x6144 : Shape := ⟨2, ![1024, 6144]⟩
abbrev S16x6144 : Shape := ⟨2, ![16, 6144]⟩
abbrev S6144 : Shape := ⟨1, ![6144]⟩
abbrev S16x1x6144 : Shape := ⟨3, ![16, 1, 6144]⟩
abbrev S1x1x6144 : Shape := ⟨3, ![1, 1, 6144]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x256 : Shape := ⟨2, ![16, 256]⟩
abbrev S16x256x1 : Shape := ⟨3, ![16, 256, 1]⟩
abbrev S1024x4480 : Shape := ⟨2, ![1024, 4480]⟩
abbrev S16x2048x4480 : Shape := ⟨3, ![16, 2048, 4480]⟩
abbrev S16x256x4480 : Shape := ⟨3, ![16, 256, 4480]⟩
abbrev S16x2048x1536 : Shape := ⟨3, ![16, 2048, 1536]⟩
abbrev S16x2048x384 : Shape := ⟨3, ![16, 2048, 384]⟩
abbrev S16x2048x2560 : Shape := ⟨3, ![16, 2048, 2560]⟩
abbrev S16x256x1536 : Shape := ⟨3, ![16, 256, 1536]⟩
abbrev S16x256x384 : Shape := ⟨3, ![16, 256, 384]⟩
abbrev S16x256x2560 : Shape := ⟨3, ![16, 256, 2560]⟩

abbrev nBuf : Space → Nat
  | .hbm => 100
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S16x256x1024, .f32⟩
  | .hbm, ⟨3, _⟩ => ⟨S1024, .f32⟩
  | .hbm, ⟨4, _⟩ => ⟨S1x1024x6144, .f32⟩
  | .hbm, ⟨5, _⟩ => ⟨S1x6144, .f32⟩
  | .hbm, ⟨6, _⟩ => ⟨S1x1024, .f32⟩
  | .hbm, ⟨7, _⟩ => ⟨S1x1024x4480, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1024x6144, .f32⟩
  | .hbm, ⟨18, _⟩ => ⟨S16x6144, .f32⟩
  | .hbm, ⟨19, _⟩ => ⟨S6144, .f32⟩
  | .hbm, ⟨20, _⟩ => ⟨S1x6144, .f32⟩
  | .hbm, ⟨21, _⟩ => ⟨S16x6144, .f32⟩
  | .hbm, ⟨22, _⟩ => ⟨S16x6144, .f32⟩
  | .hbm, ⟨23, _⟩ => ⟨S16x1x6144, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024x6144, .f32⟩
  | .hbm, ⟨34, _⟩ => ⟨S6144, .f32⟩
  | .hbm, ⟨35, _⟩ => ⟨S6144, .f32⟩
  | .hbm, ⟨36, _⟩ => ⟨S6144, .f32⟩
  | .hbm, ⟨37, _⟩ => ⟨S1x1x6144, .f32⟩
  | .hbm, ⟨38, _⟩ => ⟨S1024, .f32⟩
  | .hbm, ⟨39, _⟩ => ⟨S16x2048x1024, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x1, .f32⟩
  | .hbm, ⟨50, _⟩ => ⟨S16x2048x1024, .f32⟩
  | .hbm, ⟨51, _⟩ => ⟨S16x2048x1024, .f32⟩
  | .hbm, ⟨52, _⟩ => ⟨S1x1x1024, .f32⟩
  | .hbm, ⟨53, _⟩ => ⟨S16x2048x1024, .f32⟩
  | .hbm, ⟨54, _⟩ => ⟨S16x2048x1024, .f32⟩
  | .hbm, ⟨55, _⟩ => ⟨S16x1x1024, .f32⟩
  | .hbm, ⟨56, _⟩ => ⟨S_, .f32⟩
  | .hbm, ⟨57, _⟩ => ⟨S16x1x1024, .f32⟩
  | .hbm, ⟨58, _⟩ => ⟨S16x1x1024, .f32⟩
  | .hbm, ⟨59, _⟩ => ⟨S16x2048x1024, .f32⟩
  | .hbm, ⟨60, _⟩ => ⟨S16x2048x1024, .f32⟩
  | .hbm, ⟨61, _⟩ => ⟨S16x1x1024, .f32⟩
  | .hbm, ⟨62, _⟩ => ⟨S16x2048x1024, .f32⟩
  | .hbm, ⟨63, _⟩ => ⟨S16x2048x1024, .f32⟩
  | .hbm, ⟨64, _⟩ => ⟨S1024, .f32⟩
  | .hbm, ⟨65, _⟩ => ⟨S16x256x1024, .f32⟩
  | .hbm, ⟨66, _⟩ => ⟨S_, .f32⟩
  | .hbm, ⟨67, _⟩ => ⟨S16x256, .f32⟩
  | .hbm, ⟨68, _⟩ => ⟨S16x256x1, .f32⟩
  | .hbm, ⟨69, _⟩ => ⟨S_, .f32⟩
  | .hbm, ⟨70, _⟩ => ⟨S16x256x1, .f32⟩
  | .hbm, ⟨71, _⟩ => ⟨S16x256x1, .f32⟩
  | .hbm, ⟨72, _⟩ => ⟨S_, .f32⟩
  | .hbm, ⟨73, _⟩ => ⟨S16x256x1, .f32⟩
  | .hbm, ⟨74, _⟩ => ⟨S16x256x1, .f32⟩
  | .hbm, ⟨75, _⟩ => ⟨S16x256x1, .f32⟩
  | .hbm, ⟨76, _⟩ => ⟨S16x256x1024, .f32⟩
  | .hbm, ⟨77, _⟩ => ⟨S16x256x1024, .f32⟩
  | .hbm, ⟨78, _⟩ => ⟨S1x1x1024, .f32⟩
  | .hbm, ⟨79, _⟩ => ⟨S16x256x1024, .f32⟩
  | .hbm, ⟨80, _⟩ => ⟨S16x256x1024, .f32⟩
  | .hbm, ⟨81, _⟩ => ⟨S1x1x1024, .f32⟩
  | .hbm, ⟨82, _⟩ => ⟨S_, .f32⟩
  | .hbm, ⟨83, _⟩ => ⟨S1x1x1024, .f32⟩
  | .hbm, ⟨84, _⟩ => ⟨S1x1x1024, .f32⟩
  | .hbm, ⟨85, _⟩ => ⟨S16x256x1024, .f32⟩
  | .hbm, ⟨86, _⟩ => ⟨S16x256x1024, .f32⟩
  | .hbm, ⟨87, _⟩ => ⟨S1x1x1024, .f32⟩
  | .hbm, ⟨88, _⟩ => ⟨S16x256x1024, .f32⟩
  | .hbm, ⟨89, _⟩ => ⟨S16x256x1024, .f32⟩
  | .hbm, ⟨90, _⟩ => ⟨S1024x4480, .f32⟩
  | .hbm, ⟨91, _⟩ => ⟨S16x2048x4480, .f32⟩
  | .hbm, ⟨92, _⟩ => ⟨S1024x4480, .f32⟩
  | .hbm, ⟨93, _⟩ => ⟨S16x256x4480, .f32⟩
  | .hbm, ⟨94, _⟩ => ⟨S16x2048x1536, .f32⟩
  | .hbm, ⟨95, _⟩ => ⟨S16x2048x384, .f32⟩
  | .hbm, ⟨96, _⟩ => ⟨S16x2048x2560, .f32⟩
  | .hbm, ⟨97, _⟩ => ⟨S16x256x1536, .f32⟩
  | .hbm, ⟨98, _⟩ => ⟨S16x256x384, .f32⟩
  | .hbm, ⟨99, _⟩ => ⟨S16x256x2560, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_v17 : Ref sig .tc := ⟨.hbm, 42, rfl⟩
abbrev main_cst_0 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_3 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_6 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]
-- ==== Kernel3.lean ====
abbrev S321 : Shape := ⟨1, ![321]⟩
abbrev S2x327680x256 : Shape := ⟨3, ![2, 327680, 256]⟩
abbrev S1x64x1024x256 : Shape := ⟨4, ![1, 64, 1024, 256]⟩
abbrev S1x64x256x1024 : Shape := ⟨4, ![1, 64, 256, 1024]⟩
abbrev S64x1024x256 : Shape := ⟨3, ![64, 1024, 256]⟩
abbrev S64x256x1024 : Shape := ⟨3, ![64, 256, 1024]⟩
abbrev S4x327680x256 : Shape := ⟨3, ![4, 327680, 256]⟩
abbrev S2x1024x256 : Shape := ⟨3, ![2, 1024, 256]⟩
abbrev S1x1024x256 : Shape := ⟨3, ![1, 1024, 256]⟩
abbrev S1 : Shape := ⟨1, ![1]⟩
abbrev S1x256x1024 : Shape := ⟨3, ![1, 256, 1024]⟩
abbrev S4x1024x256 : Shape := ⟨3, ![4, 1024, 256]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 8
  | .vmem => 10
  | .smem => 1
  | _ => 0

abbrev bufTy : (tb : Table) → Fin (tcTables nBuf tb) → BufTy
  | .hbm, ⟨0, _⟩ => ⟨S2x327680x256, .i32⟩
  | .hbm, ⟨1, _⟩ => ⟨S1x64x1024x256, .f32⟩
  | .hbm, ⟨2, _⟩ => ⟨S1x64x1024x256, .f32⟩
  | .hbm, ⟨3, _⟩ => ⟨S1x64x256x1024, .f32⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S4x327680x256, .bf16⟩
  | .local _ .vmem, ⟨0, _⟩ => ⟨S2x1024x256, .i32⟩
  | .local _ .vmem, ⟨1, _⟩ => ⟨S2x1024x256, .i32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S4x1024x256, .bf16⟩
  | .local _ .vmem, ⟨9, _⟩ => ⟨S4x1024x256, .bf16⟩
  | .local _ .smem, ⟨0, _⟩ => ⟨S321, .i32⟩
  | _, _ => ⟨S2x327680x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![320], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S321.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S321) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S321.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S321) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S321.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S321) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x1024x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S321 : Shape := ⟨1, ![321]⟩
abbrev S2x327680x256 : Shape := ⟨3, ![2, 327680, 256]⟩
abbrev S1x64x1024x256 : Shape := ⟨4, ![1, 64, 1024, 256]⟩
abbrev S1x64x256x1024 : Shape := ⟨4, ![1, 64, 256, 1024]⟩
abbrev S2x327680x256x2 : Shape := ⟨4, ![2, 327680, 256, 2]⟩
abbrev S327680x2x2x256 : Shape := ⟨4, ![327680, 2, 2, 256]⟩
abbrev S320x1024x1024 : Shape := ⟨3, ![320, 1024, 1024]⟩
abbrev S320 : Shape := ⟨1, ![320]⟩
abbrev S64x1024x256 : Shape := ⟨3, ![64, 1024, 256]⟩
abbrev S_ : Shape := ⟨0, ![]⟩
abbrev S320x1 : Shape := ⟨2, ![320, 1]⟩
abbrev S320x1024x256 : Shape := ⟨3, ![320, 1024, 256]⟩
abbrev S64x256x1024 : Shape := ⟨3, ![64, 256, 1024]⟩
abbrev S320x256x1024 : Shape := ⟨3, ![320, 256, 1024]⟩
abbrev S327680x4x256 : Shape := ⟨3, ![327680, 4, 256]⟩
abbrev S4x327680x256 : Shape := ⟨3, ![4, 327680, 256]⟩

abbrev nBuf : Space → Nat
  | .hbm => 56
  | .vmem => 0
  | .smem => 0
  | _ => 0

abbrev bufTy : (tb : Table) → Fin (tcTables nBuf tb) → BufTy
  | .hbm, ⟨0, _⟩ => ⟨S321, .i32⟩
  | .hbm, ⟨1, _⟩ => ⟨S2x327680x256, .i32⟩
  | .hbm, ⟨2, _⟩ => ⟨S1x64x1024x256, .f32⟩
  | .hbm, ⟨3, _⟩ => ⟨S1x64x1024x256, .f32⟩
  | .hbm, ⟨4, _⟩ => ⟨S1x64x256x1024, .f32⟩
  | .hbm, ⟨5, _⟩ => ⟨S2x327680x256x2, .bf16⟩
  | .hbm, ⟨6, _⟩ => ⟨S2x327680x256x2, .f32⟩
  | .hbm, ⟨7, _⟩ => ⟨S327680x2x2x256, .f32⟩
  | .hbm, ⟨8, _⟩ => ⟨S320x1024x1024, .f32⟩
  | .hbm, ⟨9, _⟩ => ⟨S320, .i32⟩
  | .hbm, ⟨10, _⟩ => ⟨S64x1024x256, .f32⟩
  | .hbm, ⟨11, _⟩ => ⟨S_, .i32⟩
  | .hbm, ⟨12, _⟩ => ⟨S320, .i32⟩
  | .hbm, ⟨13, _⟩ => ⟨S320, .i1⟩
  | .hbm, ⟨14, _⟩ => ⟨S_, .i32⟩
  | .hbm, ⟨15, _⟩ => ⟨S320, .i32⟩
  | .hbm, ⟨16, _⟩ => ⟨S320, .i32⟩
  | .hbm, ⟨17, _⟩ => ⟨S320, .i32⟩
  | .hbm, ⟨18, _⟩ => ⟨S320x1, .i32⟩
  | .hbm, ⟨19, _⟩ => ⟨S320x1024x256, .f32⟩
  | .hbm, ⟨20, _⟩ => ⟨S64x1024x256, .f32⟩
  | .hbm, ⟨21, _⟩ => ⟨S_, .i32⟩
  | .hbm, ⟨22, _⟩ => ⟨S320, .i32⟩
  | .hbm, ⟨23, _⟩ => ⟨S320, .i1⟩
  | .hbm, ⟨24, _⟩ => ⟨S_, .i32⟩
  | .hbm, ⟨25, _⟩ => ⟨S320, .i32⟩
  | .hbm, ⟨26, _⟩ => ⟨S320, .i32⟩
  | .hbm, ⟨27, _⟩ => ⟨S320, .i32⟩
  | .hbm, ⟨28, _⟩ => ⟨S320x1, .i32⟩
  | .hbm, ⟨29, _⟩ => ⟨S320x1024x256, .f32⟩
  | .hbm, ⟨30, _⟩ => ⟨S64x256x1024, .f32⟩
  | .hbm, ⟨31, _⟩ => ⟨S_, .i32⟩
  | .hbm, ⟨32, _⟩ => ⟨S320, .i32⟩
  | .hbm, ⟨33, _⟩ => ⟨S320, .i1⟩
  | .hbm, ⟨34, _⟩ => ⟨S_, .i32⟩
  | .hbm, ⟨35, _⟩ => ⟨S320, .i32⟩
  | .hbm, ⟨36, _⟩ => ⟨S320, .i32⟩
  | .hbm, ⟨37, _⟩ => ⟨S320, .i32⟩
  | .hbm, ⟨38, _⟩ => ⟨S320x1, .i32⟩
  | .hbm, ⟨39, _⟩ => ⟨S320x256x1024, .f32⟩
  | .hbm, ⟨40, _⟩ => ⟨S320x1024x256, .f32⟩
  | .hbm, ⟨41, _⟩ => ⟨S320x1024x256, .f32⟩
  | .hbm, ⟨42, _⟩ => ⟨S320x1024x256, .f32⟩
  | .hbm, ⟨43, _⟩ => ⟨S_, .f32⟩
  | .hbm, ⟨44, _⟩ => ⟨S320x1024x256, .f32⟩
  | .hbm, ⟨45, _⟩ => ⟨S320x1024x256, .f32⟩
  | .hbm, ⟨46, _⟩ => ⟨S_, .f32⟩
  | .hbm, ⟨47, _⟩ => ⟨S320x1024x256, .f32⟩
  | .hbm, ⟨48, _⟩ => ⟨S320x1024x256, .f32⟩
  | .hbm, ⟨49, _⟩ => ⟨S320x1024x256, .f32⟩
  | .hbm, ⟨50, _⟩ => ⟨S320x1024x256, .f32⟩
  | .hbm, ⟨51, _⟩ => ⟨S320x1024x256, .f32⟩
  | .hbm, ⟨52, _⟩ => ⟨S320x1024x1024, .f32⟩
  | .hbm, ⟨53, _⟩ => ⟨S327680x4x256, .f32⟩
  | .hbm, ⟨54, _⟩ => ⟨S4x327680x256, .f32⟩
  | .hbm, ⟨55, _⟩ => ⟨S4x327680x256, .bf16⟩
  | _, _ => ⟨S321, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel4.lean ====
abbrev S2x16x2048x512 : Shape := ⟨4, ![2, 16, 2048, 512]⟩
abbrev S16x2048x512 : Shape := ⟨3, ![16, 2048, 512]⟩
abbrev S1x512 : Shape := ⟨2, ![1, 512]⟩
abbrev S16x2048x2560 : Shape := ⟨3, ![16, 2048, 2560]⟩
abbrev S1x64 : Shape := ⟨2, ![1, 64]⟩
abbrev S16x2048x1024 : Shape := ⟨3, ![16, 2048, 1024]⟩
abbrev S1x1024x1024 : Shape := ⟨3, ![1, 1024, 1024]⟩
abbrev S16x1x1024 : Shape := ⟨3, ![16, 1, 1024]⟩
abbrev S1x1024 : Shape := ⟨2, ![1, 1024]⟩
abbrev S1x1024x64 : Shape := ⟨3, ![1, 1024, 64]⟩
abbrev S512 : Shape := ⟨1, ![512]⟩
abbrev S_ : Shape := ⟨0, ![]⟩
abbrev S512x1 : Shape := ⟨2, ![512, 1]⟩
abbrev S512x512 : Shape := ⟨2, ![512, 512]⟩
abbrev S1024x64 : Shape := ⟨2, ![1024, 64]⟩
abbrev S64x1024 : Shape := ⟨2, ![64, 1024]⟩
abbrev S8x8x1024 : Shape := ⟨3, ![8, 8, 1024]⟩
abbrev S64 : Shape := ⟨1, ![64]⟩
abbrev S8x64 : Shape := ⟨2, ![8, 64]⟩
abbrev S1024x1024 : Shape := ⟨2, ![1024, 1024]⟩
abbrev S1024 : Shape := ⟨1, ![1024]⟩
abbrev S4x32768x256 : Shape := ⟨3, ![4, 32768, 256]⟩
abbrev S64x32768 : Shape := ⟨2, ![64, 32768]⟩
abbrev S2x1x512x512 : Shape := ⟨4, ![2, 1, 512, 512]⟩
abbrev S1x512x512 : Shape := ⟨3, ![1, 512, 512]⟩
abbrev S1x512x1024 : Shape := ⟨3, ![1, 512, 1024]⟩
abbrev S1x1x1024 : Shape := ⟨3, ![1, 1, 1024]⟩
abbrev S4x512x256 : Shape := ⟨3, ![4, 512, 256]⟩
abbrev S64x512 : Shape := ⟨2, ![64, 512]⟩
abbrev S1x1x512x512 : Shape := ⟨4, ![1, 1, 512, 512]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 62
  | .vmem => 33
  | .smem => 0
  | _ => 0

abbrev bufTy : (tb : Table) → Fin (tcTables nBuf tb) → BufTy
  | .hbm, ⟨0, _⟩ => ⟨S2x16x2048x512, .bf16⟩
  | .hbm, ⟨1, _⟩ => ⟨S16x2048x512, .f32⟩
  | .hbm, ⟨2, _⟩ => ⟨S16x2048x512, .f32⟩
  | .hbm, ⟨3, _⟩ => ⟨S1x512, .f32⟩
  | .hbm, ⟨4, _⟩ => ⟨S1x512, .f32⟩
  | .hbm, ⟨5, _⟩ => ⟨S16x2048x512, .f32⟩
  | .hbm, ⟨6, _⟩ => ⟨S16x2048x512, .f32⟩
  | .hbm, ⟨7, _⟩ => ⟨S16x2048x2560, .f32⟩
  | .hbm, ⟨8, _⟩ => ⟨S1x64, .f32⟩
  | .hbm, ⟨9, _⟩ => ⟨S16x2048x1024, .f32⟩
  | .hbm, ⟨10, _⟩ => ⟨S1x1024x1024, .f32⟩
  | .hbm, ⟨11, _⟩ => ⟨S16x1x1024, .f32⟩
  | .hbm, ⟨12, _⟩ => ⟨S1x1024, .f32⟩
  | .hbm, ⟨13, _⟩ => ⟨S16x1x1024, .f32⟩
  | .hbm, ⟨14, _⟩ => ⟨S16x1x1024, .f32⟩
  | .hbm, ⟨15, _⟩ => ⟨S1x1024x64, .f32⟩
  | .hbm, ⟨16, _⟩ => ⟨S512, .i32⟩
  | .hbm, ⟨17, _⟩ => ⟨S_, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S1x512, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S512x512, .bf16⟩
  | .hbm, ⟨41, _⟩ => ⟨S1024x64, .f32⟩
  | .hbm, ⟨42, _⟩ => ⟨S64x1024, .f32⟩
  | .hbm, ⟨43, _⟩ => ⟨S8x8x1024, .f32⟩
  | .hbm, ⟨44, _⟩ => ⟨S8x8x1024, .f32⟩
  | .hbm, ⟨45, _⟩ => ⟨S64x1024, .f32⟩
  | .hbm, ⟨46, _⟩ => ⟨S64, .f32⟩
  | .hbm, ⟨47, _⟩ => ⟨S1x64, .f32⟩
  | .hbm, ⟨48, _⟩ => ⟨S8x64, .f32⟩
  | .hbm, ⟨49, _⟩ => ⟨S512, .f32⟩
  | .hbm, ⟨50, _⟩ => ⟨S1x512, .f32⟩
  | .hbm, ⟨51, _⟩ => ⟨S512, .f32⟩
  | .hbm, ⟨52, _⟩ => ⟨S512, .f32⟩
  | .hbm, ⟨53, _⟩ => ⟨S1024x1024, .f32⟩
  | .hbm, ⟨54, _⟩ => ⟨S1024x1024, .bf16⟩
  | .hbm, ⟨55, _⟩ => ⟨S1024, .f32⟩
  | .hbm, ⟨56, _⟩ => ⟨S1x512, .f32⟩
  | .hbm, ⟨57, _⟩ => ⟨S1x512, .f32⟩
  | .hbm, ⟨58, _⟩ => ⟨S1x1024, .f32⟩
  | .hbm, ⟨59, _⟩ => ⟨S16x2048x1024, .f32⟩
  | .hbm, ⟨60, _⟩ => ⟨S4x32768x256, .bf16⟩
  | .hbm, ⟨61, _⟩ => ⟨S64x32768, .f32⟩
  | .local _ .vmem, ⟨0, _⟩ => ⟨S2x1x512x512, .bf16⟩
  | .local _ .vmem, ⟨1, _⟩ => ⟨S2x1x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S1x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512, .f32⟩
  | .local _ .vmem, ⟨15, _⟩ => ⟨S512x512, .bf16⟩
  | .local _ .vmem, ⟨16, _⟩ => ⟨S1x512x1024, .f32⟩
  | .local _ .vmem, ⟨17, _⟩ => ⟨S1x512x1024, .f32⟩
  | .local _ .vmem, ⟨18, _⟩ => ⟨S1024x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S64x1024, .f32⟩
  | .local _ .vmem, ⟨27, _⟩ => ⟨S1x512x1024, .f32⟩
  | .local _ .vmem, ⟨28, _⟩ => ⟨S1x512x1024, .f32⟩
  | .local _ .vmem, ⟨29, _⟩ => ⟨S4x512x256, .bf16⟩
  | .local _ .vmem, ⟨30, _⟩ => ⟨S4x512x256, .bf16⟩
  | .local _ .vmem, ⟨31, _⟩ => ⟨S64x512, .f32⟩
  | .local _ .vmem, ⟨32, _⟩ => ⟨S64x512, .f32⟩
  | _, _ => ⟨S2x16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26_0 : Ref sig .tc := ⟨.hbm, 59, rfl⟩
abbrev main_v26_1 : Ref sig .tc := ⟨.hbm, 60, rfl⟩
abbrev main_v26_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2x1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S64x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S4x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S64x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference4Ideal.lean ====
abbrev S2x16x2048x512 : Shape := ⟨4, ![2, 16, 2048, 512]⟩
abbrev S16x2048x512 : Shape := ⟨3, ![16, 2048, 512]⟩
abbrev S1x512 : Shape := ⟨2, ![1, 512]⟩
abbrev S16x2048x2560 : Shape := ⟨3, ![16, 2048, 2560]⟩
abbrev S1x64 : Shape := ⟨2, ![1, 64]⟩
abbrev S16x2048x1024 : Shape := ⟨3, ![16, 2048, 1024]⟩
abbrev S1x1024x1024 : Shape := ⟨3, ![1, 1024, 1024]⟩
abbrev S16x1x1024 : Shape := ⟨3, ![16, 1, 1024]⟩
abbrev S1x1024 : Shape := ⟨2, ![1, 1024]⟩
abbrev S1x1024x64 : Shape := ⟨3, ![1, 1024, 64]⟩
abbrev S1x16x2048x512 : Shape := ⟨4, ![1, 16, 2048, 512]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩
abbrev S512 : Shape := ⟨1, ![512]⟩
abbrev S1x1x512 : Shape := ⟨3, ![1, 1, 512]⟩
abbrev S64 : Shape := ⟨1, ![64]⟩
abbrev S1x1x1x64 : Shape := ⟨4, ![1, 1, 1, 64]⟩
abbrev S1024x1024 : Shape := ⟨2, ![1024, 1024]⟩
abbrev S16x2048 : Shape := ⟨2, ![16, 2048]⟩
abbrev S16x2048x1 : Shape := ⟨3, ![16, 2048, 1]⟩
abbrev S1024 : Shape := ⟨1, ![1024]⟩
abbrev S1x1x1024 : Shape := ⟨3, ![1, 1, 1024]⟩
abbrev S32768x1024 : Shape := ⟨2, ![32768, 1024]⟩
abbrev S1024x64 : Shape := ⟨2, ![1024, 64]⟩
abbrev S32768x64 : Shape := ⟨2, ![32768, 64]⟩
abbrev S32768x8x8 : Shape := ⟨3, ![32768, 8, 8]⟩
abbrev S8x8x32768 : Shape := ⟨3, ![8, 8, 32768]⟩
abbrev S64x32768 : Shape := ⟨2, ![64, 32768]⟩
abbrev S32768x4x256 : Shape := ⟨3, ![32768, 4, 256]⟩
abbrev S4x32768x256 : Shape := ⟨3, ![4, 32768, 256]⟩

abbrev nBuf : Space → Nat
  | .hbm => 128
  | .vmem => 0
  | .smem => 0
  | _ => 0

abbrev bufTy : (tb : Table) → Fin (tcTables nBuf tb) → BufTy
  | .hbm, ⟨0, _⟩ => ⟨S2x16x2048x512, .bf16⟩
  | .hbm, ⟨1, _⟩ => ⟨S16x2048x512, .f32⟩
  | .hbm, ⟨2, _⟩ => ⟨S16x2048x512, .f32⟩
  | .hbm, ⟨3, _⟩ => ⟨S1x512, .f32⟩
  | .hbm, ⟨4, _⟩ => ⟨S1x512, .f32⟩
  | .hbm, ⟨5, _⟩ => ⟨S16x2048x512, .f32⟩
  | .hbm, ⟨6, _⟩ => ⟨S16x2048x512, .f32⟩
  | .hbm, ⟨7, _⟩ => ⟨S16x2048x2560, .f32⟩
  | .hbm, ⟨8, _⟩ => ⟨S1x64, .f32⟩
  | .hbm, ⟨9, _⟩ => ⟨S16x2048x1024, .f32⟩
  | .hbm, ⟨10, _⟩ => ⟨S1x1024x1024, .f32⟩
  | .hbm, ⟨11, _⟩ => ⟨S16x1x1024, .f32⟩
  | .hbm, ⟨12, _⟩ => ⟨S1x1024, .f32⟩
  | .hbm, ⟨13, _⟩ => ⟨S16x1x1024, .f32⟩
  | .hbm, ⟨14, _⟩ => ⟨S16x1x1024, .f32⟩
  | .hbm, ⟨15, _⟩ => ⟨S1x1024x64, .f32⟩
  | .hbm, ⟨16, _⟩ => ⟨S1x16x2048x512, .bf16⟩
  | .hbm, ⟨17, _⟩ => ⟨S16x2048x512, .bf16⟩
  | .hbm, ⟨18, _⟩ => ⟨S16x2048x512, .f32⟩
  | .hbm, ⟨19, _⟩ => ⟨S1x16x2048x512, .bf16⟩
  | .hbm, ⟨20, _⟩ => ⟨S16x2048x512, .bf16⟩
  | .hbm, ⟨21, _⟩ => ⟨S16x2048x512, .f32⟩
  | .hbm, ⟨22, _⟩ => ⟨S16x2048x512, .f32⟩
  | .hbm, ⟨23, _⟩ => ⟨S16x2048x8x64, .f32⟩
  | .hbm, ⟨24, _⟩ => ⟨S_, .f32⟩
  | .hbm, ⟨25, _⟩ => ⟨S16x2048x8, .f32⟩
  | .hbm, ⟨26, _⟩ => ⟨S16x2048x8x1, .f32⟩
  | .hbm, ⟨27, _⟩ => ⟨S_, .f32⟩
  | .hbm, ⟨28, _⟩ => ⟨S16x2048x8x1, .f32⟩
  | .hbm, ⟨29, _⟩ => ⟨S16x2048x8x1, .f32⟩
  | .hbm, ⟨30, _⟩ => ⟨S16x2048x8x64, .f32⟩
  | .hbm, ⟨31, _⟩ => ⟨S16x2048x8x64, .f32⟩
  | .hbm, ⟨32, _⟩ => ⟨S16x2048x8x64, .f32⟩
  | .hbm, ⟨33, _⟩ => ⟨S_, .f32⟩
  | .hbm, ⟨34, _⟩ => ⟨S16x2048x8, .f32⟩
  | .hbm, ⟨35, _⟩ => ⟨S16x2048x8x1, .f32⟩
  | .hbm, ⟨36, _⟩ => ⟨S_, .f32⟩
  | .hbm, ⟨37, _⟩ => ⟨S16x2048x8x1, .f32⟩
  | .hbm, ⟨38, _⟩ => ⟨S16x2048x8x1, .f32⟩
  | .hbm, ⟨39, _⟩ => ⟨S16x2048x8x64, .f32⟩
  | .hbm, ⟨40, _⟩ => ⟨S16x2048x8x64, .f32⟩
  | .hbm, ⟨41, _⟩ => ⟨S_, .f32⟩
  | .hbm, ⟨42, _⟩ => ⟨S16x2048x8x1, .f32⟩
  | .hbm, ⟨43, _⟩ => ⟨S16x2048x8x1, .f32⟩
  | .hbm, ⟨44, _⟩ => ⟨S16x2048x8x1, .f32⟩
  | .hbm, ⟨45, _⟩ => ⟨S16x2048x8x64, .f32⟩
  | .hbm, ⟨46, _⟩ => ⟨S16x2048x8x64, .f32⟩
  | .hbm, ⟨47, _⟩ => ⟨S16x2048x512, .f32⟩
  | .hbm, ⟨48, _⟩ => ⟨S512, .f32⟩
  | .hbm, ⟨49, _⟩ => ⟨S1x1x512, .f32⟩
  | .hbm, ⟨50, _⟩ => ⟨S16x2048x512, .f32⟩
  | .hbm, ⟨51, _⟩ => ⟨S16x2048x512, .f32⟩
  | .hbm, ⟨52, _⟩ => ⟨S512, .f32⟩
  | .hbm, ⟨53, _⟩ => ⟨S1x1x512, .f32⟩
  | .hbm, ⟨54, _⟩ => ⟨S16x2048x512, .f32⟩
  | .hbm, ⟨55, _⟩ => ⟨S16x2048x512, .f32⟩
  | .hbm, ⟨56, _⟩ => ⟨S16x2048x512, .f32⟩
  | .hbm, ⟨57, _⟩ => ⟨S16x2048x512, .f32⟩
  | .hbm, ⟨58, _⟩ => ⟨S16x2048x512, .f32⟩
  | .hbm, ⟨59, _⟩ => ⟨S16x2048x8x64, .f32⟩
  | .hbm, ⟨60, _⟩ => ⟨S16x2048x8x64, .f32⟩
  | .hbm, ⟨61, _⟩ => ⟨S_, .f32⟩
  | .hbm, ⟨62, _⟩ => ⟨S16x2048x8, .f32⟩
  | .hbm, ⟨63, _⟩ => ⟨S16x2048x8x1, .f32⟩
  | .hbm, ⟨64, _⟩ => ⟨S_, .f32⟩
  | .hbm, ⟨65, _⟩ => ⟨S16x2048x8x1, .f32⟩
  | .hbm, ⟨66, _⟩ => ⟨S16x2048x8x1, .f32⟩
  | .hbm, ⟨67, _⟩ => ⟨S_, .f32⟩
  | .hbm, ⟨68, _⟩ => ⟨S16x2048x8x1, .f32⟩
  | .hbm, ⟨69, _⟩ => ⟨S16x2048x8x1, .f32⟩
  | .hbm, ⟨70, _⟩ => ⟨S16x2048x8x1, .f32⟩
  | .hbm, ⟨71, _⟩ => ⟨S16x2048x8x64, .f32⟩
  | .hbm, ⟨72, _⟩ => ⟨S16x2048x8x64, .f32⟩
  | .hbm, ⟨73, _⟩ => ⟨S64, .f32⟩
  | .hbm, ⟨74, _⟩ => ⟨S1x1x1x64, .f32⟩
  | .hbm, ⟨75, _⟩ => ⟨S16x2048x8x64, .f32⟩
  | .hbm, ⟨76, _⟩ => ⟨S16x2048x8x64, .f32⟩
  | .hbm, ⟨77, _⟩ => ⟨S16x2048x512, .f32⟩
  | .hbm, ⟨78, _⟩ => ⟨S16x2048x512, .f32⟩
  | .hbm, ⟨79, _⟩ => ⟨S16x2048x512, .f32⟩
  | .hbm, ⟨80, _⟩ => ⟨S16x2048x512, .f32⟩
  | .hbm, ⟨81, _⟩ => ⟨S_, .f32⟩
  | .hbm, ⟨82, _⟩ => ⟨S16x2048x512, .f32⟩
  | .hbm, ⟨83, _⟩ => ⟨S16x2048x512, .f32⟩
  | .hbm, ⟨84, _⟩ => ⟨S_, .f32⟩
  | .hbm, ⟨85, _⟩ => ⟨S16x2048x512, .f32⟩
  | .hbm, ⟨86, _⟩ => ⟨S16x2048x512, .f32⟩
  | .hbm, ⟨87, _⟩ => ⟨S16x2048x512, .f32⟩
  | .hbm, ⟨88, _⟩ => ⟨S16x2048x512, .f32⟩
  | .hbm, ⟨89, _⟩ => ⟨S16x2048x1024, .f32⟩
  | .hbm, ⟨90, _⟩ => ⟨S1024x1024, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | .hbm, ⟨94, _⟩ => ⟨S16x2048x1024, .f32⟩
  | .hbm, ⟨95, _⟩ => ⟨S16x2048x1024, .f32⟩
  | .hbm, ⟨96, _⟩ => ⟨S_, .f32⟩
  | .hbm, ⟨97, _⟩ => ⟨S16x2048, .f32⟩
  | .hbm, ⟨98, _⟩ => ⟨S16x2048x1, .f32⟩
  | .hbm, ⟨99, _⟩ => ⟨S_, .f32⟩
  | .hbm, ⟨100, _⟩ => ⟨S16x2048x1, .f32⟩
  | .hbm, ⟨101, _⟩ => ⟨S16x2048x1, .f32⟩
  | .hbm, ⟨102, _⟩ => ⟨S_, .f32⟩
  | .hbm, ⟨103, _⟩ => ⟨S16x2048x1, .f32⟩
  | .hbm, ⟨104, _⟩ => ⟨S16x2048x1, .f32⟩
  | .hbm, ⟨105, _⟩ => ⟨S16x2048x1, .f32⟩
  | .hbm, ⟨106, _⟩ => ⟨S16x2048x1024, .f32⟩
  | .hbm, ⟨107, _⟩ => ⟨S16x2048x1024, .f32⟩
  | .hbm, ⟨108, _⟩ => ⟨S1024, .f32⟩
  | .hbm, ⟨109, _⟩ => ⟨S1x1x1024, .f32⟩
  | .hbm, ⟨110, _⟩ => ⟨S16x2048x1024, .f32⟩
  | .hbm, ⟨111, _⟩ => ⟨S16x2048x1024, .f32⟩
  | .hbm, ⟨112, _⟩ => ⟨S_, .f32⟩
  | .hbm, ⟨113, _⟩ => ⟨S16x1x1024, .f32⟩
  | .hbm, ⟨114, _⟩ => ⟨S16x1x1024, .f32⟩
  | .hbm, ⟨115, _⟩ => ⟨S16x2048x1024, .f32⟩
  | .hbm, ⟨116, _⟩ => ⟨S16x2048x1024, .f32⟩
  | .hbm, ⟨117, _⟩ => ⟨S16x2048x1024, .f32⟩
  | .hbm, ⟨118, _⟩ => ⟨S16x2048x1024, .f32⟩
  | .hbm, ⟨119, _⟩ => ⟨S32768x1024, .f32⟩
  | .hbm, ⟨120, _⟩ => ⟨S1024x64, .f32⟩
  | .hbm, ⟨121, _⟩ => ⟨S32768x64, .f32⟩
  | .hbm, ⟨122, _⟩ => ⟨S32768x8x8, .f32⟩
  | .hbm, ⟨123, _⟩ => ⟨S8x8x32768, .f32⟩
  | .hbm, ⟨124, _⟩ => ⟨S64x32768, .f32⟩
  | .hbm, ⟨125, _⟩ => ⟨S32768x4x256, .f32⟩
  | .hbm, ⟨126, _⟩ => ⟨S4x32768x256, .f32⟩
  | .hbm, ⟨127, _⟩ => ⟨S4x32768x256, .bf16⟩
  | _, _ => ⟨S2x16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_7 : Ref sig .tc := ⟨.hbm, 96, rfl⟩
abbrev main_v64 : Ref sig .tc := ⟨.hbm, 97, rfl⟩
abbrev main_v65 : Ref sig .tc := ⟨.hbm, 98, rfl⟩
abbrev main_cst_8 : Ref sig .tc := ⟨.hbm, 99, rfl⟩
abbrev main_v66 : Ref sig .tc := ⟨.hbm, 100, rfl⟩
abbrev main_v67 : Ref sig .tc := ⟨.hbm, 101, rfl⟩
abbrev main_cst_9 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_10 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]
-- ==== Kernel5.lean ====
abbrev S16x2048x1536 : Shape := ⟨3, ![16, 2048, 1536]⟩
abbrev S16x2048x384 : Shape := ⟨3, ![16, 2048, 384]⟩
abbrev S1x3x3x1536 : Shape := ⟨4, ![1, 3, 3, 1536]⟩
abbrev S1x2x512 : Shape := ⟨3, ![1, 2, 512]⟩
abbrev S1x2x64x512 : Shape := ⟨4, ![1, 2, 64, 512]⟩
abbrev S1x128x512 : Shape := ⟨3, ![1, 128, 512]⟩
abbrev S1x512 : Shape := ⟨2, ![1, 512]⟩
abbrev S1x8x64 : Shape := ⟨3, ![1, 8, 64]⟩
abbrev S3x3x1536 : Shape := ⟨3, ![3, 3, 1536]⟩
abbrev S9x1536 : Shape := ⟨2, ![9, 1536]⟩
abbrev S512 : Shape := ⟨1, ![512]⟩
abbrev S_ : Shape := ⟨0, ![]⟩
abbrev S512x1 : Shape := ⟨2, ![512, 1]⟩
abbrev S512x512 : Shape := ⟨2, ![512, 512]⟩
abbrev S2x512 : Shape := ⟨2, ![2, 512]⟩
abbrev S2x64x512 : Shape := ⟨3, ![2, 64, 512]⟩
abbrev S2x2x64x512 : Shape := ⟨4, ![2, 2, 64, 512]⟩
abbrev S128x512 : Shape := ⟨2, ![128, 512]⟩
abbrev S2x128x512 : Shape := ⟨3, ![2, 128, 512]⟩
abbrev S8x64 : Shape := ⟨2, ![8, 64]⟩
abbrev S4x2x16x2048x512 : Shape := ⟨5, ![4, 2, 16, 2048, 512]⟩
abbrev S2x16x2048x512 : Shape := ⟨4, ![2, 16, 2048, 512]⟩
abbrev S16x2048x512 : Shape := ⟨3, ![16, 2048, 512]⟩
abbrev S1x512x1536 : Shape := ⟨3, ![1, 512, 1536]⟩
abbrev S1x64x1536 : Shape := ⟨3, ![1, 64, 1536]⟩
abbrev S1x512x384 : Shape := ⟨3, ![1, 512, 384]⟩
abbrev S4x2x1x512x512 : Shape := ⟨5, ![4, 2, 1, 512, 512]⟩
abbrev S2x1x512x512 : Shape := ⟨4, ![2, 1, 512, 512]⟩
abbrev S1x512x512 : Shape := ⟨3, ![1, 512, 512]⟩
abbrev S640x512 : Shape := ⟨2, ![640, 512]⟩
abbrev S1x64x512 : Shape := ⟨3, ![1, 64, 512]⟩
abbrev S64x512 : Shape := ⟨2, ![64, 512]⟩
abbrev S2x512x512 : Shape := ⟨3, ![2, 512, 512]⟩
abbrev S1x2x1x512x512 : Shape := ⟨5, ![1, 2, 1, 512, 512]⟩
abbrev S512x384 : Shape := ⟨2, ![512, 384]⟩
abbrev S512x64 : Shape := ⟨2, ![512, 64]⟩
abbrev S512x128 : Shape := ⟨2, ![512, 128]⟩

abbrev nBuf : Space → Nat
  | .hbm => 76
  | .vmem => 26
  | .smem => 0
  | _ => 0

abbrev bufTy : (tb : Table) → Fin (tcTables nBuf tb) → BufTy
  | .hbm, ⟨0, _⟩ => ⟨S16x2048x1536, .f32⟩
  | .hbm, ⟨1, _⟩ => ⟨S16x2048x384, .f32⟩
  | .hbm, ⟨2, _⟩ => ⟨S1x3x3x1536, .f32⟩
  | .hbm, ⟨3, _⟩ => ⟨S1x2x512, .f32⟩
  | .hbm, ⟨4, _⟩ => ⟨S1x2x64x512, .f32⟩
  | .hbm, ⟨5, _⟩ => ⟨S1x2x512, .f32⟩
  | .hbm, ⟨6, _⟩ => ⟨S1x2x64x512, .f32⟩
  | .hbm, ⟨7, _⟩ => ⟨S1x128x512, .f32⟩
  | .hbm, ⟨8, _⟩ => ⟨S1x512, .f32⟩
  | .hbm, ⟨9, _⟩ => ⟨S1x512, .f32⟩
  | .hbm, ⟨10, _⟩ => ⟨S1x8x64, .f32⟩
  | .hbm, ⟨11, _⟩ => ⟨S3x3x1536, .f32⟩
  | .hbm, ⟨12, _⟩ => ⟨S9x1536, .f32⟩
  | .hbm, ⟨13, _⟩ => ⟨S512, .i32⟩
  | .hbm, ⟨14, _⟩ => ⟨S_, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S1x512, .i32⟩
  | .hbm, ⟨34, _⟩ => ⟨S512x512, .i32⟩
  | .hbm, ⟨35, _⟩ => ⟨S512x512, .i32⟩
  | .hbm, ⟨36, _⟩ => ⟨S512x512, .i1⟩
  | .hbm, ⟨37, _⟩ => ⟨S512x512, .bf16⟩
  | .hbm, ⟨38, _⟩ => ⟨S2x512, .f32⟩
  | .hbm, ⟨39, _⟩ => ⟨S2x64x512, .f32⟩
  | .hbm, ⟨40, _⟩ => ⟨S2x64x512, .bf16⟩
  | .hbm, ⟨41, _⟩ => ⟨S2x64x512, .f32⟩
  | .hbm, ⟨42, _⟩ => ⟨S2x64x512, .f32⟩
  | .hbm, ⟨43, _⟩ => ⟨S2x64x512, .bf16⟩
  | .hbm, ⟨44, _⟩ => ⟨S1x2x64x512, .bf16⟩
  | .hbm, ⟨45, _⟩ => ⟨S1x2x64x512, .bf16⟩
  | .hbm, ⟨46, _⟩ => ⟨S2x2x64x512, .bf16⟩
  | .hbm, ⟨47, _⟩ => ⟨S2x2x64x512, .bf16⟩
  | .hbm, ⟨48, _⟩ => ⟨S2x512, .f32⟩
  | .hbm, ⟨49, _⟩ => ⟨S2x64x512, .f32⟩
  | .hbm, ⟨50, _⟩ => ⟨S2x64x512, .bf16⟩
  | .hbm, ⟨51, _⟩ => ⟨S2x64x512, .f32⟩
  | .hbm, ⟨52, _⟩ => ⟨S2x64x512, .f32⟩
  | .hbm, ⟨53, _⟩ => ⟨S2x64x512, .bf16⟩
  | .hbm, ⟨54, _⟩ => ⟨S1x2x64x512, .bf16⟩
  | .hbm, ⟨55, _⟩ => ⟨S1x2x64x512, .bf16⟩
  | .hbm, ⟨56, _⟩ => ⟨S2x2x64x512, .bf16⟩
  | .hbm, ⟨57, _⟩ => ⟨S2x2x64x512, .bf16⟩
  | .hbm, ⟨58, _⟩ => ⟨S128x512, .f32⟩
  | .hbm, ⟨59, _⟩ => ⟨S128x512, .bf16⟩
  | .hbm, ⟨60, _⟩ => ⟨S128x512, .f32⟩
  | .hbm, ⟨61, _⟩ => ⟨S128x512, .f32⟩
  | .hbm, ⟨62, _⟩ => ⟨S128x512, .bf16⟩
  | .hbm, ⟨63, _⟩ => ⟨S1x128x512, .bf16⟩
  | .hbm, ⟨64, _⟩ => ⟨S1x128x512, .bf16⟩
  | .hbm, ⟨65, _⟩ => ⟨S2x128x512, .bf16⟩
  | .hbm, ⟨66, _⟩ => ⟨S512, .f32⟩
  | .hbm, ⟨67, _⟩ => ⟨S512, .f32⟩
  | .hbm, ⟨68, _⟩ => ⟨S8x64, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S4x2x16x2048x512, .bf16⟩
  | .hbm, ⟨73, _⟩ => ⟨S2x16x2048x512, .bf16⟩
  | .hbm, ⟨74, _⟩ => ⟨S16x2048x512, .f32⟩
  | .hbm, ⟨75, _⟩ => ⟨S16x2048x512, .f32⟩
  | .local _ .vmem, ⟨0, _⟩ => ⟨S1x512x1536, .f32⟩
  | .local _ .vmem, ⟨1, _⟩ => ⟨S1x512x1536, .f32⟩
  | .local _ .vmem, ⟨2, _⟩ => ⟨S1x64x1536, .f32⟩
  | .local _ .vmem, ⟨3, _⟩ => ⟨S1x64x1536, .f32⟩
  | .local _ .vmem, ⟨4, _⟩ => ⟨S1x64x1536, .f32⟩
  | .local _ .vmem, ⟨5, _⟩ => ⟨S1x64x1536, .f32⟩
  | .local _ .vmem, ⟨6, _⟩ => ⟨S1x512x384, .f32⟩
  | .local _ .vmem, ⟨7, _⟩ => ⟨S1x512x384, .f32⟩
  | .local _ .vmem, ⟨8, _⟩ => ⟨S9x1536, .f32⟩
  | .local _ .vmem, ⟨9, _⟩ => ⟨S2x512, .f32⟩
  | .local _ .vmem, ⟨10, _⟩ => ⟨S2x2x64x512, .bf16⟩
  | .local _ .vmem, ⟨11, _⟩ => ⟨S2x512, .f32⟩
  | .local _ .vmem, ⟨12, _⟩ => ⟨S2x2x64x512, .bf16⟩
  | .local _ .vmem, ⟨13, _⟩ => ⟨S2x128x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x512, .bf16⟩
  | .local _ .vmem, ⟨18, _⟩ => ⟨S4x2x1x512x512, .bf16⟩
  | .local _ .vmem, ⟨19, _⟩ => ⟨S4x2x1x512x512, .bf16⟩
  | .local _ .vmem, ⟨20, _⟩ => ⟨S2x1x512x512, .bf16⟩
  | .local _ .vmem, ⟨21, _⟩ => ⟨S2x1x512x512, .bf16⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | _, _ => ⟨S16x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44_0 : Ref sig .tc := ⟨.hbm, 72, rfl⟩
abbrev main_v44_1 : Ref sig .tc := ⟨.hbm, 73, rfl⟩
abbrev main_v44_2 : Ref sig .tc := ⟨.hbm, 74, rfl⟩
abbrev main_v44_3 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S9x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x2x64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x2x64x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S4x2x1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2x1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference5Ideal.lean ====
abbrev S16x2048x1536 : Shape := ⟨3, ![16, 2048, 1536]⟩
abbrev S16x2048x384 : Shape := ⟨3, ![16, 2048, 384]⟩
abbrev S1x3x3x1536 : Shape := ⟨4, ![1, 3, 3, 1536]⟩
abbrev S1x2x512 : Shape := ⟨3, ![1, 2, 512]⟩
abbrev S1x2x64x512 : Shape := ⟨4, ![1, 2, 64, 512]⟩
abbrev S1x128x512 : Shape := ⟨3, ![1, 128, 512]⟩
abbrev S1x512 : Shape := ⟨2, ![1, 512]⟩
abbrev S1x8x64 : Shape := ⟨3, ![1, 8, 64]⟩
abbrev S16x32x64x1536 : Shape := ⟨4, ![16, 32, 64, 1536]⟩
abbrev S_ : Shape := ⟨0, ![]⟩
abbrev S16x34x66x1536 : Shape := ⟨4, ![16, 34, 66, 1536]⟩
abbrev S3x3x1536 : Shape := ⟨3, ![3, 3, 1536]⟩
abbrev S1x1x1536 : Shape := ⟨3, ![1, 1, 1536]⟩
abbrev S1536 : Shape := ⟨1, ![1536]⟩
abbrev S1x1x1x1536 : Shape := ⟨4, ![1, 1, 1, 1536]⟩
abbrev S16x2048x512 : Shape := ⟨3, ![16, 2048, 512]⟩
abbrev S512 : Shape := ⟨1, ![512]⟩
abbrev S1x1x512 : Shape := ⟨3, ![1, 1, 512]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x16x2048x512 : Shape := ⟨4, ![1, 16, 2048, 512]⟩
abbrev S2x16x2048x512 : Shape := ⟨4, ![2, 16, 2048, 512]⟩
abbrev S16x2048x64 : Shape := ⟨3, ![16, 2048, 64]⟩
abbrev S1x1x64x512 : Shape := ⟨4, ![1, 1, 64, 512]⟩
abbrev S64x512 : Shape := ⟨2, ![64, 512]⟩
abbrev S8x64 : Shape := ⟨2, ![8, 64]⟩
abbrev S1x1x8x64 : Shape := ⟨4, ![1, 1, 8, 64]⟩
abbrev S16x2048x128 : Shape := ⟨3, ![16, 2048, 128]⟩
abbrev S128x512 : Shape := ⟨2, ![128, 512]⟩
abbrev S1x2x16x2048x512 : Shape := ⟨5, ![1, 2, 16, 2048, 512]⟩
abbrev S4x2x16x2048x512 : Shape := ⟨5, ![4, 2, 16, 2048, 512]⟩

abbrev nBuf : Space → Nat
  | .hbm => 277
  | .vmem => 0
  | .smem => 0
  | _ => 0

abbrev hbmTy0_0 (i : Nat) : BufTy := match i % 128 with
  | 0 => ⟨S16x2048x1536, .f32⟩
  | 1 => ⟨S16x2048x384, .f32⟩
  | 2 => ⟨S1x3x3x1536, .f32⟩
  | 3 => ⟨S1x2x512, .f32⟩
  | 4 => ⟨S1x2x64x512, .f32⟩
  | 5 => ⟨S1x2x512, .f32⟩
  | 6 => ⟨S1x2x64x512, .f32⟩
  | 7 => ⟨S1x128x512, .f32⟩
  | 8 => ⟨S1x512, .f32⟩
  | 9 => ⟨S1x512, .f32⟩
  | 10 => ⟨S1x8x64, .f32⟩
  | 11 => ⟨S16x32x64x1536, .f32⟩
  | 12 => ⟨S_, .i32⟩
  | 13 => ⟨S_, .f32⟩
  | 14 => ⟨S16x34x66x1536, .f32⟩
  | 15 => ⟨S3x3x1536, .f32⟩
  | 16 => ⟨S16x32x64x1536, .f32⟩
  | 17 => ⟨S1x1x1536, .f32⟩
  | 18 => ⟨S1536, .f32⟩
  | 19 => ⟨S1x1x1x1536, .f32⟩
  | 20 => ⟨S16x32x64x1536, .f32⟩
  | 21 => ⟨S16x32x64x1536, .f32⟩
  | 22 => ⟨S16x32x64x1536, .f32⟩
  | 23 => ⟨S1x1x1536, .f32⟩
  | 24 => ⟨S1536, .f32⟩
  | 25 => ⟨S1x1x1x1536, .f32⟩
  | 26 => ⟨S16x32x64x1536, .f32⟩
  | 27 => ⟨S16x32x64x1536, .f32⟩
  | 28 => ⟨S16x32x64x1536, .f32⟩
  | 29 => ⟨S1x1x1536, .f32⟩
  | 30 => ⟨S1536, .f32⟩
  | 31 => ⟨S1x1x1x1536, .f32⟩
  | 32 => ⟨S16x32x64x1536, .f32⟩
  | 33 => ⟨S16x32x64x1536, .f32⟩
  | 34 => ⟨S16x32x64x1536, .f32⟩
  | 35 => ⟨S1x1x1536, .f32⟩
  | 36 => ⟨S1536, .f32⟩
  | 37 => ⟨S1x1x1x1536, .f32⟩
  | 38 => ⟨S16x32x64x1536, .f32⟩
  | 39 => ⟨S16x32x64x1536, .f32⟩
  | 40 => ⟨S16x32x64x1536, .f32⟩
  | 41 => ⟨S1x1x1536, .f32⟩
  | 42 => ⟨S1536, .f32⟩
  | 43 => ⟨S1x1x1x1536, .f32⟩
  | 44 => ⟨S16x32x64x1536, .f32⟩
  | 45 => ⟨S16x32x64x1536, .f32⟩
  | 46 => ⟨S16x32x64x1536, .f32⟩
  | 47 => ⟨S1x1x1536, .f32⟩
  | 48 => ⟨S1536, .f32⟩
  | 49 => ⟨S1x1x1x1536, .f32⟩
  | 50 => ⟨S16x32x64x1536, .f32⟩
  | 51 => ⟨S16x32x64x1536, .f32⟩
  | 52 => ⟨S16x32x64x1536, .f32⟩
  | 53 => ⟨S1x1x1536, .f32⟩
  | 54 => ⟨S1536, .f32⟩
  | 55 => ⟨S1x1x1x1536, .f32⟩
  | 56 => ⟨S16x32x64x1536, .f32⟩
  | 57 => ⟨S16x32x64x1536, .f32⟩
  | 58 => ⟨S16x32x64x1536, .f32⟩
  | 59 => ⟨S1x1x1536, .f32⟩
  | 60 => ⟨S1536, .f32⟩
  | 61 => ⟨S1x1x1x1536, .f32⟩
  | 62 => ⟨S16x32x64x1536, .f32⟩
  | 63 => ⟨S16x32x64x1536, .f32⟩
  | 64 => ⟨S16x32x64x1536, .f32⟩
  | 65 => ⟨S1x1x1536, .f32⟩
  | 66 => ⟨S1536, .f32⟩
  | 67 => ⟨S1x1x1x1536, .f32⟩
  | 68 => ⟨S16x32x64x1536, .f32⟩
  | 69 => ⟨S16x32x64x1536, .f32⟩
  | 70 => ⟨S16x32x64x1536, .f32⟩
  | 71 => ⟨S16x32x64x1536, .f32⟩
  | 72 => ⟨S16x32x64x1536, .f32⟩
  | 73 => ⟨S16x32x64x1536, .f32⟩
  | 74 => ⟨S16x32x64x1536, .f32⟩
  | 75 => ⟨S16x32x64x1536, .f32⟩
  | 76 => ⟨S16x32x64x1536, .f32⟩
  | 77 => ⟨S16x32x64x1536, .f32⟩
  | 78 => ⟨S16x2048x1536, .f32⟩
  | 79 => ⟨S16x2048x512, .f32⟩
  | 80 => ⟨S16x2048x512, .f32⟩
  | 81 => ⟨S16x2048x512, .f32⟩
  | 82 => ⟨S512, .f32⟩
  | 83 => ⟨S1x1x512, .f32⟩
  | 84 => ⟨S16x2048x512, .f32⟩
  | 85 => ⟨S16x2048x512, .f32⟩
  | 86 => ⟨S16x2048x8x64, .f32⟩
  | 87 => ⟨S16x2048x8x64, .f32⟩
  | 88 => ⟨S_, .f32⟩
  | 89 => ⟨S16x2048x8, .f32⟩
  | 90 => ⟨S16x2048x8x1, .f32⟩
  | 91 => ⟨S16x2048x8x1, .f32⟩
  | 92 => ⟨S_, .f32⟩
  | 93 => ⟨S16x2048x8x1, .f32⟩
  | 94 => ⟨S16x2048x8x1, .f32⟩
  | 95 => ⟨S16x2048x8x64, .f32⟩
  | 96 => ⟨S16x2048x8x64, .f32⟩
  | 97 => ⟨S16x2048x512, .f32⟩
  | 98 => ⟨S1x16x2048x512, .f32⟩
  | 99 => ⟨S1x16x2048x512, .f32⟩
  | 100 => ⟨S2x16x2048x512, .f32⟩
  | 101 => ⟨S1x16x2048x512, .f32⟩
  | 102 => ⟨S1x16x2048x512, .f32⟩
  | 103 => ⟨S2x16x2048x512, .f32⟩
  | 104 => ⟨S16x2048x64, .f32⟩
  | 105 => ⟨S16x2048x64, .f32⟩
  | 106 => ⟨S1x1x512, .f32⟩
  | 107 => ⟨S512, .f32⟩
  | 108 => ⟨S16x2048x64, .f32⟩
  | 109 => ⟨S1x1x64x512, .f32⟩
  | 110 => ⟨S64x512, .f32⟩
  | 111 => ⟨S16x2048x512, .f32⟩
  | 112 => ⟨S1x1x512, .f32⟩
  | 113 => ⟨S16x2048x512, .f32⟩
  | 114 => ⟨S16x2048x512, .f32⟩
  | 115 => ⟨S16x2048x512, .f32⟩
  | 116 => ⟨S_, .f32⟩
  | 117 => ⟨S16x2048x512, .f32⟩
  | 118 => ⟨S16x2048x512, .f32⟩
  | 119 => ⟨S16x2048x512, .f32⟩
  | 120 => ⟨S16x2048x512, .f32⟩
  | 121 => ⟨S16x2048x512, .i1⟩
  | 122 => ⟨S16x2048x512, .f32⟩
  | 123 => ⟨S16x2048x512, .f32⟩
  | 124 => ⟨S16x2048x512, .f32⟩
  | 125 => ⟨S16x2048x512, .f32⟩
  | 126 => ⟨S16x2048x512, .f32⟩
  | 127 => ⟨S16x2048x512, .f32⟩
  | _ => ⟨S16x2048x1536, .f32⟩

abbrev hbmTy0_1 (i : Nat) : BufTy := match i % 128 with
  | 0 => ⟨S16x2048x512, .f32⟩
  | 1 => ⟨S16x2048x512, .f32⟩
  | 2 => ⟨S16x2048x512, .f32⟩
  | 3 => ⟨S_, .f32⟩
  | 4 => ⟨S16x2048x512, .f32⟩
  | 5 => ⟨S16x2048x512, .f32⟩
  | 6 => ⟨S16x2048x512, .f32⟩
  | 7 => ⟨S16x2048x512, .f32⟩
  | 8 => ⟨S1x1x512, .f32⟩
  | 9 => ⟨S512, .f32⟩
  | 10 => ⟨S1x1x64x512, .f32⟩
  | 11 => ⟨S64x512, .f32⟩
  | 12 => ⟨S16x2048x512, .f32⟩
  | 13 => ⟨S1x1x512, .f32⟩
  | 14 => ⟨S16x2048x512, .f32⟩
  | 15 => ⟨S16x2048x512, .f32⟩
  | 16 => ⟨S16x2048x512, .f32⟩
  | 17 => ⟨S16x2048x512, .f32⟩
  | 18 => ⟨S_, .f32⟩
  | 19 => ⟨S16x2048x512, .f32⟩
  | 20 => ⟨S16x2048x512, .f32⟩
  | 21 => ⟨S_, .f32⟩
  | 22 => ⟨S16x2048x512, .f32⟩
  | 23 => ⟨S16x2048x512, .f32⟩
  | 24 => ⟨S_, .f32⟩
  | 25 => ⟨S16x2048x512, .f32⟩
  | 26 => ⟨S16x2048x512, .f32⟩
  | 27 => ⟨S512, .f32⟩
  | 28 => ⟨S1x1x512, .f32⟩
  | 29 => ⟨S16x2048x512, .f32⟩
  | 30 => ⟨S16x2048x512, .f32⟩
  | 31 => ⟨S_, .f32⟩
  | 32 => ⟨S16x2048x512, .f32⟩
  | 33 => ⟨S16x2048x512, .f32⟩
  | 34 => ⟨S16x2048x512, .f32⟩
  | 35 => ⟨S16x2048x512, .f32⟩
  | 36 => ⟨S1x16x2048x512, .f32⟩
  | 37 => ⟨S1x16x2048x512, .f32⟩
  | 38 => ⟨S2x16x2048x512, .f32⟩
  | 39 => ⟨S16x2048x512, .f32⟩
  | 40 => ⟨S16x2048x8x64, .f32⟩
  | 41 => ⟨S8x64, .f32⟩
  | 42 => ⟨S1x1x8x64, .f32⟩
  | 43 => ⟨S16x2048x8x64, .f32⟩
  | 44 => ⟨S16x2048x8x64, .f32⟩
  | 45 => ⟨S_, .f32⟩
  | 46 => ⟨S16x2048x8, .f32⟩
  | 47 => ⟨S16x2048x8x1, .f32⟩
  | 48 => ⟨S16x2048x8x64, .f32⟩
  | 49 => ⟨S16x2048x8x64, .f32⟩
  | 50 => ⟨S16x2048x8x64, .f32⟩
  | 51 => ⟨S16x2048x64, .f32⟩
  | 52 => ⟨S16x2048x64, .f32⟩
  | 53 => ⟨S1x1x512, .f32⟩
  | 54 => ⟨S512, .f32⟩
  | 55 => ⟨S16x2048x64, .f32⟩
  | 56 => ⟨S1x1x64x512, .f32⟩
  | 57 => ⟨S64x512, .f32⟩
  | 58 => ⟨S16x2048x512, .f32⟩
  | 59 => ⟨S1x1x512, .f32⟩
  | 60 => ⟨S16x2048x512, .f32⟩
  | 61 => ⟨S16x2048x512, .f32⟩
  | 62 => ⟨S16x2048x512, .f32⟩
  | 63 => ⟨S_, .f32⟩
  | 64 => ⟨S16x2048x512, .f32⟩
  | 65 => ⟨S16x2048x512, .f32⟩
  | 66 => ⟨S16x2048x512, .f32⟩
  | 67 => ⟨S16x2048x512, .f32⟩
  | 68 => ⟨S16x2048x512, .i1⟩
  | 69 => ⟨S16x2048x512, .f32⟩
  | 70 => ⟨S16x2048x512, .f32⟩
  | 71 => ⟨S16x2048x512, .f32⟩
  | 72 => ⟨S16x2048x512, .f32⟩
  | 73 => ⟨S16x2048x512, .f32⟩
  | 74 => ⟨S16x2048x512, .f32⟩
  | 75 => ⟨S16x2048x512, .f32⟩
  | 76 => ⟨S16x2048x512, .f32⟩
  | 77 => ⟨S16x2048x512, .f32⟩
  | 78 => ⟨S_, .f32⟩
  | 79 => ⟨S16x2048x512, .f32⟩
  | 80 => ⟨S16x2048x512, .f32⟩
  | 81 => ⟨S16x2048x512, .f32⟩
  | 82 => ⟨S16x2048x512, .f32⟩
  | 83 => ⟨S1x1x512, .f32⟩
  | 84 => ⟨S512, .f32⟩
  | 85 => ⟨S1x1x64x512, .f32⟩
  | 86 => ⟨S64x512, .f32⟩
  | 87 => ⟨S16x2048x512, .f32⟩
  | 88 => ⟨S1x1x512, .f32⟩
  | 89 => ⟨S16x2048x512, .f32⟩
  | 90 => ⟨S16x2048x512, .f32⟩
  | 91 => ⟨S16x2048x512, .f32⟩
  | 92 => ⟨S16x2048x512, .f32⟩
  | 93 => ⟨S_, .f32⟩
  | 94 => ⟨S16x2048x512, .f32⟩
  | 95 => ⟨S16x2048x512, .f32⟩
  | 96 => ⟨S_, .f32⟩
  | 97 => ⟨S16x2048x512, .f32⟩
  | 98 => ⟨S16x2048x512, .f32⟩
  | 99 => ⟨S_, .f32⟩
  | 100 => ⟨S16x2048x512, .f32⟩
  | 101 => ⟨S16x2048x512, .f32⟩
  | 102 => ⟨S512, .f32⟩
  | 103 => ⟨S1x1x512, .f32⟩
  | 104 => ⟨S16x2048x512, .f32⟩
  | 105 => ⟨S16x2048x512, .f32⟩
  | 106 => ⟨S_, .f32⟩
  | 107 => ⟨S16x2048x512, .f32⟩
  | 108 => ⟨S16x2048x512, .f32⟩
  | 109 => ⟨S16x2048x512, .f32⟩
  | 110 => ⟨S16x2048x512, .f32⟩
  | 111 => ⟨S1x16x2048x512, .f32⟩
  | 112 => ⟨S1x16x2048x512, .f32⟩
  | 113 => ⟨S2x16x2048x512, .f32⟩
  | 114 => ⟨S16x2048x512, .f32⟩
  | 115 => ⟨S16x2048x8x64, .f32⟩
  | 116 => ⟨S8x64, .f32⟩
  | 117 => ⟨S1x1x8x64, .f32⟩
  | 118 => ⟨S16x2048x8x64, .f32⟩
  | 119 => ⟨S16x2048x8x64, .f32⟩
  | 120 => ⟨S_, .f32⟩
  | 121 => ⟨S16x2048x8, .f32⟩
  | 122 => ⟨S16x2048x8x1, .f32⟩
  | 123 => ⟨S16x2048x8x64, .f32⟩
  | 124 => ⟨S16x2048x8x64, .f32⟩
  | 125 => ⟨S16x2048x8x64, .f32⟩
  | 126 => ⟨S16x2048x128, .f32⟩
  | 127 => ⟨S16x2048x128, .f32⟩
  | _ => ⟨S16x2048x1536, .f32⟩

abbrev hbmTy0_2 (i : Nat) : BufTy := match i % 128 with
  | 0 => ⟨S16x2048x128, .f32⟩
  | 1 => ⟨S_, .f32⟩
  | 2 => ⟨S16x2048x128, .f32⟩
  | 3 => ⟨S16x2048x128, .f32⟩
  | 4 => ⟨S_, .f32⟩
  | 5 => ⟨S16x2048x128, .f32⟩
  | 6 => ⟨S16x2048x128, .f32⟩
  | 7 => ⟨S128x512, .f32⟩
  | 8 => ⟨S16x2048x512, .f32⟩
  | 9 => ⟨S1x2x16x2048x512, .f32⟩
  | 10 => ⟨S1x2x16x2048x512, .f32⟩
  | 11 => ⟨S1x2x16x2048x512, .f32⟩
  | 12 => ⟨S1x2x16x2048x512, .f32⟩
  | 13 => ⟨S4x2x16x2048x512, .f32⟩
  | 14 => ⟨S4x2x16x2048x512, .bf16⟩
  | 15 => ⟨S1x16x2048x512, .f32⟩
  | 16 => ⟨S1x16x2048x512, .f32⟩
  | 17 => ⟨S2x16x2048x512, .f32⟩
  | 18 => ⟨S2x16x2048x512, .bf16⟩
  | 19 => ⟨S16x2048x8x64, .f32⟩
  | 20 => ⟨S16x2048x512, .f32⟩
  | _ => ⟨S16x2048x1536, .f32⟩

abbrev hbmTy (i : Nat) : BufTy := match i / 128 with
  | 0 => hbmTy0_0 i
  | 1 => hbmTy0_1 i
  | 2 => hbmTy0_2 i
  | _ => ⟨S16x2048x1536, .f32⟩

abbrev bufTy : (tb : Table) → Fin (tcTables nBuf tb) → BufTy
  | .hbm, ⟨i, _⟩ => hbmTy i
  | _, _ => ⟨S16x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_0 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_call1_cst : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_v8 : Ref sig .tc := ⟨.hbm, 125, rfl⟩
abbrev main_call1_v9 : Ref sig .tc := ⟨.hbm, 126, rfl⟩
abbrev main_call1_v10 : Ref sig .tc := ⟨.hbm, 127, rfl⟩
abbrev main_call1_v11 : Ref sig .tc := ⟨.hbm, 128, rfl⟩
abbrev main_v101 : Ref sig .tc := ⟨.hbm, 129, rfl⟩
abbrev main_v102 : Ref sig .tc := ⟨.hbm, 130, rfl⟩
abbrev main_cst_1 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_2 : Ref sig .tc := ⟨.hbm, 146, rfl⟩
abbrev main_v117 : Ref sig .tc := ⟨.hbm, 147, rfl⟩
abbrev main_v118 : Ref sig .tc := ⟨.hbm, 148, rfl⟩
abbrev main_cst_3 : Ref sig .tc := ⟨.hbm, 149, rfl⟩
abbrev main_v119 : Ref sig .tc := ⟨.hbm, 150, rfl⟩
abbrev main_v120 : Ref sig .tc := ⟨.hbm, 151, rfl⟩
abbrev main_cst_4 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_5 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_6 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_call2_cst : Ref sig .tc := ⟨.hbm, 191, rfl⟩
abbrev main_call2_v0 : Ref sig .tc := ⟨.hbm, 192, rfl⟩
abbrev main_call2_v1 : Ref sig .tc := ⟨.hbm, 193, rfl⟩
abbrev main_call2_v2 : Ref sig .tc := ⟨.hbm, 194, rfl⟩
abbrev main_call2_v3 : Ref sig .tc := ⟨.hbm, 195, rfl⟩
abbrev main_call2_v4 : Ref sig .tc := ⟨.hbm, 196, rfl⟩
abbrev main_call2_v5 : Ref sig .tc := ⟨.hbm, 197, rfl⟩
abbrev main_call2_v6 : Ref sig .tc := ⟨.hbm, 198, rfl⟩
abbrev main_call2_v7 : Ref sig .tc := ⟨.hbm, 199, rfl⟩
abbrev main_call2_v8 : Ref sig .tc := ⟨.hbm, 200, rfl⟩
abbrev main_call2_v9 : Ref sig .tc := ⟨.hbm, 201, rfl⟩
abbrev main_call2_v10 : Ref sig .tc := ⟨.hbm, 202, rfl⟩
abbrev main_call2_v11 : Ref sig .tc := ⟨.hbm, 203, rfl⟩
abbrev main_v157 : Ref sig .tc := ⟨.hbm, 204, rfl⟩
abbrev main_v158 : Ref sig .tc := ⟨.hbm, 205, rfl⟩
abbrev main_cst_7 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_cst_8 : Ref sig .tc := ⟨.hbm, 221, rfl⟩
abbrev main_v173 : Ref sig .tc := ⟨.hbm, 222, rfl⟩
abbrev main_v174 : Ref sig .tc := ⟨.hbm, 223, rfl⟩
abbrev main_cst_9 : Ref sig .tc := ⟨.hbm, 224, rfl⟩
abbrev main_v175 : Ref sig .tc := ⟨.hbm, 225, rfl⟩
abbrev main_v176 : Ref sig .tc := ⟨.hbm, 226, rfl⟩
abbrev main_cst_10 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_cst_11 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_cst_12 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_cst_13 : Ref sig .tc := ⟨.hbm, 257, rfl⟩
abbrev main_v204 : Ref sig .tc := ⟨.hbm, 258, rfl⟩
abbrev main_v205 : Ref sig .tc := ⟨.hbm, 259, rfl⟩
abbrev main_cst_14 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩

abbrev nD : Nat := 1
abbrev τ : Topo := Topo.v7x

variable {F : FTy → Type} [FloatOps F]
-- ==== Proof.CombineRow.lean ====
/-
  What one row of the layer's last step is, as plain sums over the extended reals, and the words it is read from.
-/
module

public import Idealize.ShloMosaic.Lib.Pointwise
public import Idealize.ShloMosaic.PureOps.Ideal

@[expose] public section

noncomputable section

namespace Cert.Combine

open Idealize.ShloMosaic

/-- The bf16 number in half `k` of a 32-bit word (0 the low half), as an f32 number. -/
def half (k : Nat) (w : BitVec 32) : Ideal .f32 :=
  FloatOps.extf (F := Ideal) (φ := .bf16) .f32 (by decide) (FloatOps.ofBits .bf16 (w.extractLsb' (k * 16) 16))

/-- Number `d` of a packed row: of its 1024 numbers, word `c` of half-row `i` holds numbers `512 i + c` (low) and
    `512 i + 256 + c` (high). -/
def num (W : Fin 2 → Fin 256 → BitVec 32) (d : Fin 1024) : Ideal .f32 :=
  half (d.val / 256 % 2) (W ⟨d.val / 512, by omega⟩ ⟨d.val % 256, by omega⟩)

/-- `num` where the word and the half are named. -/
theorem num_at (W : Fin 2 → Fin 256 → BitVec 32) (d : Fin 1024) (p : Fin 2) (k : Nat) (c : Fin 256) (hk : k < 2)
    (h : d.val = 512 * p.val + 256 * k + c.val) :
    num W d = Ideal.ofBits .bf16 ((W p c).extractLsb' (k * 16) 16) := by
  have h1 : d.val / 256 % 2 = k := by omega
  have h2 : (⟨d.val / 512, by omega⟩ : Fin 2) = p := Fin.ext (by show d.val / 512 = p.val; omega)
  have h3 : (⟨d.val % 256, by omega⟩ : Fin 256) = c := Fin.ext (by show d.val % 256 = c.val; omega)
  unfold num
  rw [h1, h2, h3]
  rfl

/-- The gated sum of the eight experts' rows, at number `d`. -/
def routed (Y : Fin 8 → Fin 2 → Fin 256 → BitVec 32) (g : Fin 8 → Ideal .f32) (d : Fin 1024) : Ideal .f32 :=
  (∑ j : Fin 8, (g j * num (Y j) d : EReal) : EReal)

/-- A row times a column of a matrix. -/
def into (H : Fin 2 → Fin 256 → BitVec 32) (W : Fin 1024 → Fin 256 → Ideal .f32) (k : Fin 256) : Ideal .f32 :=
  (∑ d : Fin 1024, (num H d * W d k : EReal) : EReal)

/-- The shared expert's middle number `k`: `silu` of the gate times the value. -/
def mid (H : Fin 2 → Fin 256 → BitVec 32) (Wg Wu : Fin 1024 → Fin 256 → Ideal .f32) (k : Fin 256) : Ideal .f32 :=
  ((into H Wg k * Ideal.logistic (into H Wg k)) * into H Wu k : EReal)

/-- The shared expert's number `d`. -/
def shared (H : Fin 2 → Fin 256 → BitVec 32) (Wg Wu : Fin 1024 → Fin 256 → Ideal .f32)
    (Wd : Fin 256 → Fin 1024 → Ideal .f32) (d : Fin 1024) : Ideal .f32 :=
  (∑ k : Fin 256, (mid H Wg Wu k * Wd k d : EReal) : EReal)

/-- The residual stream after the experts, at number `d`. -/
def resid (Y : Fin 8 → Fin 2 → Fin 256 → BitVec 32) (g : Fin 8 → Ideal .f32) (H : Fin 2 → Fin 256 → BitVec 32)
    (x g2 : Fin 1024 → Ideal .f32) (Wg Wu : Fin 1024 → Fin 256 → Ideal .f32) (Wd : Fin 256 → Fin 1024 → Ideal .f32)
    (d : Fin 1024) : Ideal .f32 :=
  (x d + g2 d * (routed Y g d + shared H Wg Wu Wd d) : EReal)

/-- A row divided by its root mean square, at number `d`. -/
def rms (x : Fin 1024 → Ideal .f32) (d : Fin 1024) : Ideal .f32 :=
  (x d * Ideal.rsqrt (Ideal.div (∑ k : Fin 1024, (x k * x k : EReal) : EReal) (Ideal.ofBits .f32 0x44800000#32)
    + Ideal.ofBits .f32 0x358637BD#32 : EReal) : EReal)

/-- Row `p` of batch `b`, counted through all batches. -/
abbrev rowNo (b : Fin 16) (p : Fin 2048) : Fin 32768 := ⟨b.val * 2048 + p.val, by omega⟩

/-- The layer's result from the arrays the last call is given: at batch `b`, token `p`, number `d`, the residual stream
    with the gated experts and the shared expert added, divided by its root mean square, times the final weight. -/
def layerOut (Y : (⟨4, ![8, 2, 32768, 256]⟩ : Shape).Idx → BitVec 32) (g : (⟨2, ![8, 32768]⟩ : Shape).Idx → Ideal .f32)
    (H : (⟨3, ![2, 32768, 256]⟩ : Shape).Idx → BitVec 32) (x : (⟨3, ![16, 2048, 1024]⟩ : Shape).Idx → Ideal .f32)
    (g2 : (⟨3, ![16, 1, 1024]⟩ : Shape).Idx → Ideal .f32) (fg : (⟨1, ![1024]⟩ : Shape).Idx → Ideal .f32)
    (wg wu : (⟨3, ![1, 1024, 256]⟩ : Shape).Idx → Ideal .f32) (wd : (⟨3, ![1, 256, 1024]⟩ : Shape).Idx → Ideal .f32) :
    (⟨3, ![16, 2048, 1024]⟩ : Shape).Idx → Ideal .f32 := fun i =>
  (rms (resid (fun j q c => Y (ix4 j q (rowNo (i 0) (i 1)) c)) (fun j => g (ix2 j (rowNo (i 0) (i 1))))
      (fun q c => H (ix3 q (rowNo (i 0) (i 1)) c)) (fun d => x (ix3 (i 0) (i 1) d)) (fun d => g2 (ix3 (i 0) 0 d))
      (fun d k => wg (ix3 0 d k)) (fun d k => wu (ix3 0 d k)) (fun k d => wd (ix3 0 k d))) (i 2)
    * fg (ix1 (i 2)) : EReal)

end Cert.Combine
-- ==== Proof.CombineBlock.lean ====
/-
  What one grid point of the combining kernel computes, row by row.
-/
module

public import proofs.«01_k».proof.Proof.Gen.KernelIdeal.Frame
public import proofs.«01_k».proof.Proof.CombineRow
public import Idealize.ShloMosaic.Lib.Pointwise
public import Idealize.ShloMosaic.Lib.Pipeline.Value

@[expose] public section

noncomputable section

namespace Cert.KernelIdeal.Block

open Cert.KernelIdeal Cert.KernelIdeal.Gen Cert.Combine
open Idealize.ShloMosaic Idealize.ShloMosaic.TcCoe Idealize.SL.Sem

variable (x0 : Vec Ideal S8x2x512x256 .i32) (x1 : Vec Ideal S512x8 .f32) (x2 : Vec Ideal S2x512x256 .i32)
  (x3 : Vec Ideal S1x512x1024 .f32) (x4 : Vec Ideal S1x1x1024 .f32) (x5 : Vec Ideal S1x1024 .f32)
  (x6 x7 : Vec Ideal S1024x256 .f32) (x8 : Vec Ideal S256x1024 .f32)

/-- Row `s` of expert slot `j`, as words. -/
abbrev yRow (s : Fin 512) (j : Fin 8) (i : Fin 2) (c : Fin 256) : BitVec 32 := x0 (ix4 j i s c)
/-- Row `s` of the experts' input, as words. -/
abbrev hRow (s : Fin 512) (i : Fin 2) (c : Fin 256) : BitVec 32 := x2 (ix3 i s c)

set_option maxRecDepth 16384 in
set_option maxHeartbeats 1600000 in
/-- The gated sum the body builds slot by slot is the sum over the eight slots. -/
theorem pay40_apply (s : Fin 512) (d : Fin 1024) :
    k0_pay40 x0 x1 x2 x3 x4 x5 x6 x7 x8 (ix2 s d)
      = routed (yRow x0 s) (fun j => x1 (ix2 s j)) d := by
  unfold k0_pay40 k0_pay39 k0_pay38
  unfold_payloads
  pointwise
  unfold routed
  by_cases h1 : d.val < 256
  · rw [dif_pos h1]
    simp only [Fin.sum_univ_eight, fun W => num_at W d 0 0 ⟨d.val, h1⟩ (by omega) (by simp)]
  rw [dif_neg h1]
  by_cases h2 : d.val - 256 < 256
  · rw [dif_pos h2]
    simp only [Fin.sum_univ_eight, fun W => num_at W d 0 1 ⟨d.val - 256, h2⟩ (by omega) (by simp; omega)]
  rw [dif_neg h2]
  by_cases h3 : d.val - 256 - 256 < 256
  · rw [dif_pos h3]
    simp only [Fin.sum_univ_eight, fun W => num_at W d 1 0 ⟨d.val - 256 - 256, h3⟩ (by omega) (by simp; omega)]
  rw [dif_neg h3]
  simp only [Fin.sum_univ_eight, fun W => num_at W d 1 1 ⟨d.val - 256 - 256 - 256, by omega⟩ (by omega) (by simp; omega)]

set_option maxRecDepth 16384 in
/-- The four quarters of the experts' input laid side by side are its rows' numbers. -/
theorem hid_eq : concatenate S512x1024 1 [⟨S512x256, unpackElementwise (F := Ideal) 0 (k0_pay41 x0 x1 x2 x3 x4 x5 x6 x7 x8)⟩,
      ⟨S512x256, unpackElementwise 1 (k0_pay41 x0 x1 x2 x3 x4 x5 x6 x7 x8)⟩,
      ⟨S512x256, unpackElementwise 0 (shapeCast S512x256 (View.ld x2 r0_18) shapeCasts_S1x512x256_S512x256)⟩,
      ⟨S512x256, unpackElementwise 1 (shapeCast S512x256 (View.ld x2 r0_18) shapeCasts_S1x512x256_S512x256)⟩]
      concatenates_S512x256_S512x256_S512x256_S512x256_S512x1024_d1
    = fun j => num (hRow x2 (j 0)) (j 1) := by
  funext j
  obtain ⟨s, d, rfl⟩ : ∃ (s : Fin 512) (d : Fin 1024), j = ix2 s d := ⟨j 0, j 1, eq_ix2 j⟩
  unfold k0_pay41
  pointwise [k0_pay35]
  by_cases h1 : d.val < 256
  · rw [dif_pos h1]
    rw [num_at _ d 0 0 ⟨d.val, h1⟩ (by omega) (by simp)]
  rw [dif_neg h1]
  by_cases h2 : d.val - 256 < 256
  · rw [dif_pos h2]
    rw [num_at _ d 0 1 ⟨d.val - 256, h2⟩ (by omega) (by simp; omega)]
  rw [dif_neg h2]
  by_cases h3 : d.val - 256 - 256 < 256
  · rw [dif_pos h3]
    rw [num_at _ d 1 0 ⟨d.val - 256 - 256, h3⟩ (by omega) (by simp; omega)]
  rw [dif_neg h3]
  rw [num_at _ d 1 1 ⟨d.val - 256 - 256 - 256, by omega⟩ (by omega) (by simp; omega)]

/-- The residual row the body builds, from the blocks. -/
abbrev row (s : Fin 512) : Fin 1024 → Ideal .f32 :=
  resid (yRow x0 s) (fun j => x1 (ix2 s j)) (hRow x2 s) (fun d => x3 (ix3 0 s d)) (fun d => x4 (ix3 0 0 d))
    (fun d k => x6 (ix2 d k)) (fun d k => x7 (ix2 d k)) (fun k d => x8 (ix2 k d))

set_option maxRecDepth 16384 in
set_option maxHeartbeats 1600000 in
/-- The residual stream after the experts, as the body computes it. -/
theorem pay36_apply (s : Fin 512) (d : Fin 1024) :
    k0_pay36 (k0_pay40 x0 x1 x2 x3 x4 x5 x6 x7 x8) (k0_pay41 x0 x1 x2 x3 x4 x5 x6 x7 x8) (View.ld x2 r0_18)
      (View.ld x6 r0_19) (View.ld x7 r0_19) (View.ld x8 r0_20) (View.ld x3 r0_21) (View.ld x4 r0_22) (ix2 s d)
      = row x0 x1 x2 x3 x4 x6 x7 x8 s d := by
  unfold k0_pay36
  rw [hid_eq]
  pointwise
  rw [pay40_apply]
  rfl

set_option maxRecDepth 16384 in
set_option maxHeartbeats 1600000 in
/-- What the body leaves in the result's block. -/
theorem out_apply (s : Fin 512) (d : Fin 1024) :
    out0_9 x0 x1 x2 x3 x4 x5 x6 x7 x8 (ix3 0 s d)
      = (rms (row x0 x1 x2 x3 x4 x6 x7 x8 s) d * x5 (ix2 0 d) : EReal) := by
  have hz : (![0, 0, 0] : Fin 3 → Nat) = fun _ => 0 := funext fun a => by fin_cases a <;> rfl
  unfold out0_9
  rw [View.canon_unit_zero hz]
  pointwise [k0_pay1, k0_pay37]
  simp only [pay36_apply]
  rfl

end Cert.KernelIdeal.Block
-- ==== Proof.CombineValue.lean ====
/-
  The combining kernel's result array after its run.
-/
module

public import proofs.«01_k».proof.Proof.CombineBlock
public import Idealize.ShloMosaic.Lib.Pipeline.ValueKit
public import Idealize.ShloMosaic.Lib.Claim

@[expose] public section

set_option maxRecDepth 16384

noncomputable section

namespace Cert.KernelIdeal.Whole

open Cert.KernelIdeal Cert.KernelIdeal.Gen Cert.Combine
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The layer's result from device `c`'s arguments. -/
abbrev G (c : Dev nD) : Buf (Elt Ideal) ((c : Thread nD τ).loc main_v5) :=
  layerOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The block each window is at, at point `t` of the 16 × 4 grid. -/
theorem idx : ∀ t : Fin cfg0.N,
    win0_0.index t = ![0, 0, t.val, 0] ∧ win0_1.index t = ![t.val, 0] ∧ win0_2.index t = ![0, t.val, 0]
      ∧ win0_3.index t = ![t.val / 4, t.val % 4, 0] ∧ win0_4.index t = ![t.val / 4, 0, 0] ∧ win0_5.index t = ![0, 0]
      ∧ win0_6.index t = ![0, 0] ∧ win0_7.index t = ![0, 0] ∧ win0_8.index t = ![0, 0]
      ∧ win0_9.index t = ![t.val / 4, t.val % 4, 0] :=
  (by decide +kernel : ∀ t : Fin grid0.N, _)

/-- The batch point `t` works on, -/
abbrev bat (t : Fin cfg0.N) : Fin 16 := ⟨t.val / 4, by have h : t.val < 64 := t.isLt; omega⟩
/-- and the token its row `s` is. -/
abbrev tok (t : Fin cfg0.N) (s : Fin 512) : Fin 2048 := ⟨t.val % 4 * 512 + s.val, by omega⟩

/-! The blocks a point is given, read at the arrays. -/

theorem in0 (c : Dev nD) (t : Fin cfg0.N) (s : Fin 512) (j : Fin 8) (q : Fin 2) (k : Fin 256) :
    (iblk m c 0 t : Vec Ideal S8x2x512x256 .i32) (ix4 j q s k) = m ((c : Thread nD τ).loc main_arg0) (ix4 j q (rowNo (bat t) (tok t s)) k) := by
  have hN : t.val < 64 := t.isLt
  blk_ext [iblk, V, idx t]
theorem in1 (c : Dev nD) (t : Fin cfg0.N) (s : Fin 512) (j : Fin 8) :
    (iblk m c 1 t : Vec Ideal S512x8 .f32) (ix2 s j) = m ((c : Thread nD τ).loc main_arg1) (ix2 j (rowNo (bat t) (tok t s))) := by
  have hN : t.val < 64 := t.isLt
  blk_ext! [iblk, V, idx t]
theorem in2 (c : Dev nD) (t : Fin cfg0.N) (s : Fin 512) (q : Fin 2) (k : Fin 256) :
    (iblk m c 2 t : Vec Ideal S2x512x256 .i32) (ix3 q s k) = m ((c : Thread nD τ).loc main_arg2) (ix3 q (rowNo (bat t) (tok t s)) k) := by
  have hN : t.val < 64 := t.isLt
  blk_ext [iblk, V, idx t]
theorem in3 (c : Dev nD) (t : Fin cfg0.N) (s : Fin 512) (k : Fin 1024) :
    (iblk m c 3 t : Vec Ideal S1x512x1024 .f32) (ix3 0 s k) = m ((c : Thread nD τ).loc main_arg3) (ix3 (bat t) (tok t s) k) := by
  have hN : t.val < 64 := t.isLt
  blk_ext [iblk, V, idx t]
theorem in4 (c : Dev nD) (t : Fin cfg0.N) (k : Fin 1024) :
    (iblk m c 4 t : Vec Ideal S1x1x1024 .f32) (ix3 0 0 k) = m ((c : Thread nD τ).loc main_arg4) (ix3 (bat t) 0 k) := by
  have hN : t.val < 64 := t.isLt
  blk_ext [iblk, V, idx t]
theorem in5 (c : Dev nD) (t : Fin cfg0.N) (k : Fin 1024) :
    (iblk m c 5 t : Vec Ideal S1x1024 .f32) (ix2 0 k) = m ((c : Thread nD τ).loc main_arg5) (ix1 k) := by
  have hN : t.val < 64 := t.isLt
  blk_ext! [iblk, V, idx t]
theorem in6 (c : Dev nD) (t : Fin cfg0.N) (a : Fin 1024) (k : Fin 256) :
    (iblk m c 6 t : Vec Ideal S1024x256 .f32) (ix2 a k) = m ((c : Thread nD τ).loc main_arg6) (ix3 0 a k) := by
  have hN : t.val < 64 := t.isLt
  blk_ext! [iblk, V, idx t]
theorem in7 (c : Dev nD) (t : Fin cfg0.N) (a : Fin 1024) (k : Fin 256) :
    (iblk m c 7 t : Vec Ideal S1024x256 .f32) (ix2 a k) = m ((c : Thread nD τ).loc main_arg7) (ix3 0 a k) := by
  have hN : t.val < 64 := t.isLt
  blk_ext! [iblk, V, idx t]
theorem in8 (c : Dev nD) (t : Fin cfg0.N) (k : Fin 256) (a : Fin 1024) :
    (iblk m c 8 t : Vec Ideal S256x1024 .f32) (ix2 k a) = m ((c : Thread nD τ).loc main_arg8) (ix3 0 k a) := by
  have hN : t.val < 64 := t.isLt
  blk_ext! [iblk, V, idx t]

/-- Every block of the result is the layer's result there. -/
theorem final (c : Dev nD) : (dats m 0 c).arrAt 9 cfg0.N = G m c := by
  refine (dats m 0 c).arrAt_eq_of_covers 9 _ (by decide +kernel) fun t hf y => ?_
  blk_simp
  rw [after0_9]
  have hy : ∃ (s : Fin 512) (d : Fin 1024), y = ix3 0 s d := ⟨y 1, y 2, by rw [eq_ix3 y]; congr 1; exact Subsingleton.elim _ _⟩
  obtain ⟨s, d, rfl⟩ := hy
  have hN : t.val < 64 := t.isLt
  rw [Block.out_apply]
  have e : (win0_9.blk t).view.emb (ix3 0 s d) = ix3 (bat t) (tok t s) d := by
    blk_ext [idx t]
  rw [e]
  unfold Block.row Block.yRow Block.hRow G layerOut
  simp only [in0, in1, in2, in3, in4, in5, in6, in7, in8]
  rfl

/-- The kernel's run: the result array holds the layer's result and the arguments are unchanged. -/
theorem run : θ_run defs (onTc (τ := τ) (main (F := Ideal))) ⟨m, fun _ => 0, ρ⟩ fun r => ∀ c : Dev nD,
      r.2.mem ((c : Thread nD τ).loc main_v5) = G m c
      ∧ (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => ⟨((h c).1 9).trans (final m c),
      ((h c).1 0).trans (((dats m 0 c).arrAt_in 0 rfl _).trans (V_main_arg0 m c)),
      ((h c).2 main_arg1 (Pipeline.mem_restRefs_of main_arg1 (by decide) (by decide))).trans (V_main_arg1 m c),
      ((h c).1 2).trans (((dats m 0 c).arrAt_in 2 rfl _).trans (V_main_arg2 m c)),
      ((h c).1 3).trans (((dats m 0 c).arrAt_in 3 rfl _).trans (V_main_arg3 m c)),
      ((h c).1 4).trans (((dats m 0 c).arrAt_in 4 rfl _).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.Whole
-- ==== Proof.CombineRef.lean ====
/-
  What the reference computes, read at an index.
-/
module

public import proofs.«01_k».proof.Proof.Gen.ReferenceIdeal.Run
public import proofs.«01_k».proof.Proof.CombineRow
public import Idealize.ShloMosaic.Lib.Pointwise
public import Idealize.ShloMosaic.Lib.BitcastConvert
public import Idealize.ShloMosaic.Lib.IdealHost

@[expose] public section

set_option maxRecDepth 16384

noncomputable section

namespace Cert.ReferenceIdeal.At

open Cert.ReferenceIdeal Cert.ReferenceIdeal.Gen Cert.Combine
open Idealize.ShloMosaic Idealize.ShloMosaic.TcCoe Idealize.SL.Sem

/-- The experts' words as rows of numbers. -/
theorem yNum (Y : Vec Ideal S8x2x32768x256 .i32) (j : Fin 8) (r : Fin 32768) (d : Fin 1024) :
    shapeCast S8x32768x1024 (transpose S8x32768x2x2x256 [0, 2, 1, 4, 3] (extf .f32 (bitcastToFloat (F := Ideal) .bf16
      (Host.bitcastConvertNarrow S8x2x32768x256x2 16 Y splits_S8x2x32768x256_w32_S8x2x32768x256x2_w16)) bitsLt_bf16_f32)
      transposes_S8x2x32768x256x2_S8x32768x2x2x256_0_2_1_4_3) shapeCasts_S8x32768x2x2x256_S8x32768x1024 (ix3 j r d)
      = num (fun q c => Y (ix4 j q r c)) d := by
  pointwise
  rw [show splits_S8x2x32768x256_w32_S8x2x32768x256x2_w16.drop
            (ix5 j (⟨d.val / 512, by omega⟩ : Fin 2) r (⟨d.val % 256, by omega⟩ : Fin 256) (⟨d.val / 256 % 2, by omega⟩ : Fin 2))
          = ix4 j (⟨d.val / 512, by omega⟩ : Fin 2) r (⟨d.val % 256, by omega⟩ : Fin 256) from
    funext fun a => by fin_cases a <;> rfl]
  rfl

/-- The experts' input as rows of numbers. -/
theorem hNum (H : Vec Ideal S2x32768x256 .i32) :
    shapeCast S32768x1024 (transpose S32768x2x2x256 [1, 0, 3, 2] (extf .f32 (bitcastToFloat (F := Ideal) .bf16
      (Host.bitcastConvertNarrow S2x32768x256x2 16 H splits_S2x32768x256_w32_S2x32768x256x2_w16)) bitsLt_bf16_f32)
      transposes_S2x32768x256x2_S32768x2x2x256_1_0_3_2) shapeCasts_S32768x2x2x256_S32768x1024
      = fun i => num (fun q c => H (ix3 q (i 0) c)) (i 1) := by
  funext i
  obtain ⟨r, d, rfl⟩ : ∃ (r : Fin 32768) (d : Fin 1024), i = ix2 r d := ⟨i 0, i 1, eq_ix2 i⟩
  pointwise
  rw [show splits_S2x32768x256_w32_S2x32768x256x2_w16.drop
            (ix4 (⟨d.val / 512, by omega⟩ : Fin 2) r (⟨d.val % 256, by omega⟩ : Fin 256) (⟨d.val / 256 % 2, by omega⟩ : Fin 2))
          = ix3 (⟨d.val / 512, by omega⟩ : Fin 2) r (⟨d.val % 256, by omega⟩ : Fin 256) from
    funext fun a => by fin_cases a <;> rfl]
  rfl

/-- The experts' input, as the reference reads it from the words. -/
abbrev hid (H : Vec Ideal S2x32768x256 .i32) : FVec Ideal S32768x1024 .f32 :=
  shapeCast _ (transpose S32768x2x2x256 [1, 0, 3, 2] (extf .f32 (bitcastToFloat (F := Ideal) .bf16 (Host.bitcastConvertNarrow S2x32768x256x2 16 H splits_S2x32768x256_w32_S2x32768x256x2_w16)) bitsLt_bf16_f32) transposes_S2x32768x256x2_S32768x2x2x256_1_0_3_2) shapeCasts_S32768x2x2x256_S32768x1024

/-- The experts' rows, the same. -/
abbrev exps (Y : Vec Ideal S8x2x32768x256 .i32) : FVec Ideal S8x32768x1024 .f32 :=
  shapeCast _ (transpose S8x32768x2x2x256 [0, 2, 1, 4, 3] (extf .f32 (bitcastToFloat (F := Ideal) .bf16 (Host.bitcastConvertNarrow S8x2x32768x256x2 16 Y splits_S8x2x32768x256_w32_S8x2x32768x256x2_w16)) bitsLt_bf16_f32) transposes_S8x2x32768x256x2_S8x32768x2x2x256_0_2_1_4_3) shapeCasts_S8x32768x2x2x256_S8x32768x1024

/-- Rows times a matrix, -/
def gat (h : FVec Ideal S32768x1024 .f32) (w : FVec Ideal S1x1024x256 .f32) : FVec Ideal S32768x256 .f32 :=
  Host.dotGeneral (φ₁ := .f32) (φ₂ := .f32) dot_S32768x1024_S1024x256_S32768x256_1_0_0_1_n_n none h (shapeCast _ w shapeCasts_S1x1024x256_S1024x256)

/-- the shared expert's middle from two of these, -/
def midR (g u : FVec Ideal S32768x256 .f32) : FVec Ideal S32768x256 .f32 :=
  mulf (mulf g (Host.divf (broadcastInDim S32768x256 ![] bcast_S_S32768x256 (constant S_ .f32 0x3F800000#32)) (addf (broadcastInDim S32768x256 ![] bcast_S_S32768x256 (constant S_ .f32 0x3F800000#32)) (Host.exp (Host.negf g))))) u

/-- its way back, -/
def downR (h : FVec Ideal S32768x256 .f32) (w : FVec Ideal S1x256x1024 .f32) : FVec Ideal S32768x1024 .f32 :=
  Host.dotGeneral (φ₁ := .f32) (φ₂ := .f32) dot_S32768x256_S256x1024_S32768x1024_1_0_0_1_n_n none h (shapeCast _ w shapeCasts_S1x256x1024_S256x1024)

/-- the gated sum over the slots, -/
def sumR (g : FVec Ideal S8x32768 .f32) (y : FVec Ideal S8x32768x1024 .f32) : FVec Ideal S32768x1024 .f32 :=
  Host.reduceAdd (mulf (broadcastInDim S8x32768x1024 ![0, 1, 2] bcast_S8x32768x1_S8x32768x1024_0_1_2 (broadcastInDim S8x32768x1 ![0, 1] bcast_S8x32768_S8x32768x1_0_1 g)) y) (constant S_ .f32 0x00000000#32) reducesTo_S8x32768x1024_S32768x1024_d0 h_S_

/-- the residual stream with both, -/
def resR (x : FVec Ideal S16x2048x1024 .f32) (g2 : FVec Ideal S16x1x1024 .f32) (e : FVec Ideal S32768x1024 .f32) : FVec Ideal S16x2048x1024 .f32 :=
  addf x (mulf (broadcastInDim S16x2048x1024 ![0, 1, 2] bcast_S16x1x1024_S16x2048x1024_0_1_2 g2) (shapeCast _ e shapeCasts_S32768x1024_S16x2048x1024))

/-- and a stream over its root mean square, times a weight. -/
def outR (x : FVec Ideal S16x2048x1024 .f32) (fg : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 fg))

theorem gat_apply (h : FVec Ideal S32768x1024 .f32) (w : FVec Ideal S1x1024x256 .f32) (r : Fin 32768) (k : Fin 256) :
    gat h w (ix2 r k) = (∑ d : Fin 1024, (h (ix2 r d) * w (ix3 0 d k) : EReal) : EReal) := by
  unfold gat
  pointwise

theorem midR_apply (g u : FVec Ideal S32768x256 .f32) (r : Fin 32768) (k : Fin 256) :
    midR g u (ix2 r k) = ((g (ix2 r k) * Ideal.logistic (g (ix2 r k))) * u (ix2 r k) : EReal) := by
  unfold midR
  pointwise
  rfl

theorem downR_apply (h : FVec Ideal S32768x256 .f32) (w : FVec Ideal S1x256x1024 .f32) (r : Fin 32768) (d : Fin 1024) :
    downR h w (ix2 r d) = (∑ k : Fin 256, (h (ix2 r k) * w (ix3 0 k d) : EReal) : EReal) := by
  unfold downR
  pointwise

theorem sumR_apply (g : FVec Ideal S8x32768 .f32) (y : FVec Ideal S8x32768x1024 .f32) (r : Fin 32768) (d : Fin 1024) :
    sumR g y (ix2 r d) = (∑ j : Fin 8, (g (ix2 j r) * y (ix3 j r d) : EReal) : EReal) := by
  unfold sumR
  pointwise

theorem resR_apply (x : FVec Ideal S16x2048x1024 .f32) (g2 : FVec Ideal S16x1x1024 .f32) (e : FVec Ideal S32768x1024 .f32)
    (b : Fin 16) (p : Fin 2048) (d : Fin 1024) :
    resR x g2 e (ix3 b p d) = (x (ix3 b p d) + g2 (ix3 b 0 d) * e (ix2 (rowNo b p) d) : EReal) := by
  unfold resR
  pointwise

theorem outR_apply (x : FVec Ideal S16x2048x1024 .f32) (fg : FVec Ideal S1024 .f32) (b : Fin 16) (p : Fin 2048) (d : Fin 1024) :
    outR x fg (ix3 b p d) = (rms (fun d => x (ix3 b p d)) d * fg (ix1 d) : EReal) := by
  unfold outR
  pointwise
  rfl

variable (m : (ℓ : Loc nD τ sig) → Buf (Elt Ideal) ℓ)

/-- The reference's result in these steps. -/
theorem res_stage (c : Dev nD) : Value.res_out0 m c
    = outR (resR (m ((c.tc : Thread nD τ).loc main_arg3)) (m ((c.tc : Thread nD τ).loc main_arg4))
        (addf (downR (midR (gat (hid (m ((c.tc : Thread nD τ).loc main_arg2))) (m ((c.tc : Thread nD τ).loc main_arg6)))
            (gat (hid (m ((c.tc : Thread nD τ).loc main_arg2))) (m ((c.tc : Thread nD τ).loc main_arg7)))) (m ((c.tc : Thread nD τ).loc main_arg8)))
          (sumR (m ((c.tc : Thread nD τ).loc main_arg1)) (exps (m ((c.tc : Thread nD τ).loc main_arg0))))))
        (m ((c.tc : Thread nD τ).loc main_arg5)) := by
  unfold Value.res_out0 Value.res_main_v37 outR resR downR sumR midR gat
  rfl

/-- The steps on arrays are the layer's result. -/
theorem steps (Y : Vec Ideal S8x2x32768x256 .i32) (g : FVec Ideal S8x32768 .f32) (H : Vec Ideal S2x32768x256 .i32)
    (x : FVec Ideal S16x2048x1024 .f32) (g2 : FVec Ideal S16x1x1024 .f32) (fg : FVec Ideal S1024 .f32)
    (wg wu : FVec Ideal S1x1024x256 .f32) (wd : FVec Ideal S1x256x1024 .f32) :
    outR (resR x g2 (addf (downR (midR (gat (hid H) wg) (gat (hid H) wu)) wd) (sumR g (exps Y)))) fg
      = layerOut Y g H x g2 fg wg wu wd := by
  funext i
  obtain ⟨b, p, d, rfl⟩ : ∃ (b : Fin 16) (p : Fin 2048) (d : Fin 1024), i = ix3 b p d := ⟨i 0, i 1, i 2, eq_ix3 i⟩
  have hY : ∀ (j : Fin 8) (r : Fin 32768) (d : Fin 1024), exps Y (ix3 j r d) = num (fun q c => Y (ix4 j q r c)) d := yNum Y
  have hH : ∀ (r : Fin 32768) (d : Fin 1024), hid H (ix2 r d) = num (fun q c => H (ix3 q r c)) d := fun r d => congrFun (hNum H) (ix2 r d)
  have hres : ∀ d : Fin 1024, resR x g2 (addf (downR (midR (gat (hid H) wg) (gat (hid H) wu)) wd) (sumR g (exps Y))) (ix3 b p d)
      = resid (fun j q c => Y (ix4 j q (rowNo b p) c)) (fun j => g (ix2 j (rowNo b p)))
        (fun q c => H (ix3 q (rowNo b p) c)) (fun d => x (ix3 b p d)) (fun d => g2 (ix3 b 0 d))
        (fun d k => wg (ix3 0 d k)) (fun d k => wu (ix3 0 d k)) (fun k d => wd (ix3 0 k d)) d := by
    intro d
    rw [resR_apply, show addf (downR (midR (gat (hid H) wg) (gat (hid H) wu)) wd) (sumR g (exps Y)) (ix2 (rowNo b p) d)
      = (sumR g (exps Y) (ix2 (rowNo b p) d) + downR (midR (gat (hid H) wg) (gat (hid H) wu)) wd (ix2 (rowNo b p) d) : EReal) from add_comm _ _]
    simp only [sumR_apply, downR_apply, midR_apply, gat_apply, hY, hH]
    rfl
  rw [outR_apply]
  simp only [hres]
  rfl

/-- The reference's result is the layer's result. -/
theorem res_eq (c : Dev nD) : Value.res_out0 m c
    = layerOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) :=
  (res_stage m c).trans (steps _ _ _ _ _ _ _ _ _)

end Cert.ReferenceIdeal.At
-- ==== Proof.InprojRow.lean ====
/-
  What one row of the layer's first step is, as plain sums over the extended reals: the modulation vector from the
  conditioning vector, and a token's row normalised, modulated and multiplied into the input projection.
-/
module

public import proofs.«01_k».proof.Proof.CombineRow

@[expose] public section

noncomputable section

namespace Cert.Inproj

open Idealize.ShloMosaic Cert.Combine

/-- Number `n` of the modulation vector of a conditioning vector `c`: `silu c` times the matrix, plus the bias. -/
def modRow (c : Fin 1024 → Ideal .f32) (W : Fin 1024 → Fin 6144 → Ideal .f32) (β : Fin 6144 → Ideal .f32)
    (n : Fin 6144) : Ideal .f32 :=
  ((∑ k : Fin 1024, ((c k * Ideal.logistic (c k)) * W k n : EReal) : EReal) + β n : EReal)

/-- A token's row over its root mean square, times the weight, modulated by scale and shift. -/
def modulated (x g sc sh : Fin 1024 → Ideal .f32) (k : Fin 1024) : Ideal .f32 :=
  ((rms x k * g k) * (1 + sc k) + sh k : EReal)

/-- That row times column `n` of the input projection. -/
def projRow (x g sc sh : Fin 1024 → Ideal .f32) (W : Fin 1024 → Fin 4480 → Ideal .f32) (n : Fin 4480) : Ideal .f32 :=
  (∑ k : Fin 1024, (modulated x g sc sh k * W k n : EReal) : EReal)

/-- Place `k` of the shift, the first sixth of the modulation vector, -/
abbrev shAt (k : Fin 1024) : Fin 6144 := ⟨k.val, by omega⟩
/-- and place `k` of the scale, the second sixth. -/
abbrev scAt (k : Fin 1024) : Fin 6144 := ⟨1024 + k.val, by omega⟩

variable (wm : (⟨3, ![1, 1024, 6144]⟩ : Shape).Idx → Ideal .f32) (bm : (⟨2, ![1, 6144]⟩ : Shape).Idx → Ideal .f32)
  (g : (⟨2, ![1, 1024]⟩ : Shape).Idx → Ideal .f32) (w : (⟨3, ![1, 1024, 4480]⟩ : Shape).Idx → Ideal .f32)

/-- The projection's number `n` of a token's row `x`, modulated from the conditioning vector `c`. -/
def proj (c x : Fin 1024 → Ideal .f32) (n : Fin 4480) : Ideal .f32 :=
  projRow x (fun k => g (ix2 0 k))
    (fun k => modRow c (fun a n => wm (ix3 0 a n)) (fun n => bm (ix2 0 n)) (scAt k))
    (fun k => modRow c (fun a n => wm (ix3 0 a n)) (fun n => bm (ix2 0 n)) (shAt k))
    (fun k n => w (ix3 0 k n)) n

/-- The image tokens' projection, columns `off` to `off + N`: batch `b` is modulated by its own conditioning vector. -/
def lat {N : ℕ} (off : ℕ) (hN : off + N ≤ 4480) (C : (⟨2, ![16, 1024]⟩ : Shape).Idx → Ideal .f32)
    (x : (⟨3, ![16, 2048, 1024]⟩ : Shape).Idx → Ideal .f32) :
    (⟨3, ![16, 2048, N]⟩ : Shape).Idx → Ideal .f32 := fun i =>
  proj wm bm g w (fun k => C (ix2 (i 0) k)) (fun k => x (ix3 (i 0) (i 1) k))
    ⟨off + (i 2).val, Nat.lt_of_lt_of_le (Nat.add_lt_add_left (i 2).isLt off) hN⟩

/-- The context tokens' projection, columns `off` to `off + N`: one conditioning vector for all batches. -/
def ctx {N : ℕ} (off : ℕ) (hN : off + N ≤ 4480) (C : (⟨1, ![1024]⟩ : Shape).Idx → Ideal .f32)
    (x : (⟨3, ![16, 256, 1024]⟩ : Shape).Idx → Ideal .f32) :
    (⟨3, ![16, 256, N]⟩ : Shape).Idx → Ideal .f32 := fun i =>
  proj wm bm g w (fun k => C (ix1 k)) (fun k => x (ix3 (i 0) (i 1) k))
    ⟨off + (i 2).val, Nat.lt_of_lt_of_le (Nat.add_lt_add_left (i 2).isLt off) hN⟩

end Cert.Inproj
-- ==== Proof.InprojRef.lean ====
/-
  What the reference of the first step computes, read at an index.
-/
module

public import proofs.«01_k».proof.Proof.Gen.Reference2Ideal.Run
public import proofs.«01_k».proof.Proof.Gen.Reference2Ideal.Read
public import proofs.«01_k».proof.Proof.InprojRow
public import Idealize.ShloMosaic.Lib.Pointwise
public import Idealize.ShloMosaic.Lib.IdealHost
public import Idealize.ShloMosaic.Lib.Pipeline.ValueKit

@[expose] public section

set_option maxRecDepth 16384

noncomputable section

namespace Cert.Reference2Ideal.At

open Cert.Reference2Ideal Cert.Reference2Ideal.Gen Cert.Reference2Ideal.Read Cert.Inproj Cert.Combine
open Idealize.ShloMosaic Idealize.ShloMosaic.TcCoe Idealize.SL.Sem

variable (x0 : FVec Ideal S16x2048x1024 .f32) (x1 : FVec Ideal S16x1024 .f32) (x2 : FVec Ideal S16x256x1024 .f32)
  (x3 : FVec Ideal S1024 .f32) (x4 : FVec Ideal S1x1024x6144 .f32) (x5 : FVec Ideal S1x6144 .f32)
  (x6 : FVec Ideal S1x1024 .f32) (x7 : FVec Ideal S1x1024x4480 .f32)

/-- The modulation vector of batch `b`. -/
theorem mod_lat (b : Fin 16) (n : Fin 6144) :
    val_main_v6 (F := Ideal) x1 x4 x5 (ix2 b n)
      = modRow (fun k => x1 (ix2 b k)) (fun a n => x4 (ix3 0 a n)) (fun n => x5 (ix2 0 n)) n := by
  pointwise [val_main_v0, val_main_v1, val_main_v2, val_main_v3, val_main_v4, val_main_v5, val_main_v6, val_main_call0_v0, val_main_call0_v1, val_main_call0_v2, val_main_call0_v3, val_main_call0_v4, val_main_call0_v5, val_main_call0_cst, val_main_call0_cst_0]
  rfl

/-- The modulation vector of the context. -/
theorem mod_ctx (n : Fin 6144) :
    val_main_v12 (F := Ideal) x3 x4 x5 (ix1 n)
      = modRow (fun k => x3 (ix1 k)) (fun a n => x4 (ix3 0 a n)) (fun n => x5 (ix2 0 n)) n := by
  pointwise [val_main_v8, val_main_v9, val_main_v10, val_main_v11, val_main_v12, val_main_call1_v0, val_main_call1_v1, val_main_call1_v2, val_main_call1_v3, val_main_call1_v4, val_main_call1_v5, val_main_call1_cst, val_main_call1_cst_0]
  rfl

/-- The modulated row of an image token. -/
theorem row_lat (b : Fin 16) (p : Fin 2048) (k : Fin 1024) :
    val_main_v35 (F := Ideal) x0 x1 x4 x5 x6 (ix3 b p k)
      = modulated (fun k => x0 (ix3 b p k)) (fun k => x6 (ix2 0 k))
          (fun k => val_main_v6 (F := Ideal) x1 x4 x5 (ix2 b (scAt k))) (fun k => val_main_v6 (F := Ideal) x1 x4 x5 (ix2 b (shAt k))) k := by
  pointwise [val_main_v7, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2]
  rfl

/-- The modulated row of a context token. -/
theorem row_ctx (b : Fin 16) (p : Fin 256) (k : Fin 1024) :
    val_main_v57 (F := Ideal) x2 x3 x4 x5 x6 (ix3 b p k)
      = modulated (fun k => x2 (ix3 b p k)) (fun k => x6 (ix2 0 k))
          (fun k => val_main_v12 (F := Ideal) x3 x4 x5 (ix1 (scAt k))) (fun k => val_main_v12 (F := Ideal) x3 x4 x5 (ix1 (shAt k))) k := by
  pointwise [val_main_v13, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst_3, val_main_cst_4, val_main_cst_5, val_main_cst_6]
  rfl

/-- The projection of an image token, -/
theorem proj_lat (b : Fin 16) (p : Fin 2048) (n : Fin 4480) :
    val_main_v59 (F := Ideal) x0 x1 x4 x5 x6 x7 (ix3 b p n)
      = proj x4 x5 x6 x7 (fun k => x1 (ix2 b k)) (fun k => x0 (ix3 b p k)) n := by
  pointwise [val_main_v58, val_main_v59]
  simp only [row_lat, mod_lat]
  rfl

/-- and of a context token. -/
theorem proj_ctx (b : Fin 16) (p : Fin 256) (n : Fin 4480) :
    val_main_v61 (F := Ideal) x2 x3 x4 x5 x6 x7 (ix3 b p n)
      = proj x4 x5 x6 x7 (fun k => x3 (ix1 k)) (fun k => x2 (ix3 b p k)) n := by
  pointwise [val_main_v60, val_main_v61]
  simp only [row_ctx, mod_ctx]
  rfl

theorem res0 : val_main_v62 (F := Ideal) x0 x1 x4 x5 x6 x7 = lat x4 x5 x6 x7 0 (by decide) x1 x0 := by
  funext i
  obtain ⟨b, p, n, rfl⟩ : ∃ (b : Fin 16) (p : Fin 2048) (n : Fin 1536), i = ix3 b p n := ⟨i 0, i 1, i 2, eq_ix3 i⟩
  unfold val_main_v62 lat
  generalize hv : val_main_v59 (F := Ideal) x0 x1 x4 x5 x6 x7 = v
  pointwise
  rw [← hv, proj_lat]
  blk_ext

theorem res1 : val_main_v63 (F := Ideal) x0 x1 x4 x5 x6 x7 = lat x4 x5 x6 x7 1536 (by decide) x1 x0 := by
  funext i
  obtain ⟨b, p, n, rfl⟩ : ∃ (b : Fin 16) (p : Fin 2048) (n : Fin 384), i = ix3 b p n := ⟨i 0, i 1, i 2, eq_ix3 i⟩
  unfold val_main_v63 lat
  generalize hv : val_main_v59 (F := Ideal) x0 x1 x4 x5 x6 x7 = v
  pointwise
  rw [← hv, proj_lat]
  blk_ext

theorem res2 : val_main_v64 (F := Ideal) x0 x1 x4 x5 x6 x7 = lat x4 x5 x6 x7 1920 (by decide) x1 x0 := by
  funext i
  obtain ⟨b, p, n, rfl⟩ : ∃ (b : Fin 16) (p : Fin 2048) (n : Fin 2560), i = ix3 b p n := ⟨i 0, i 1, i 2, eq_ix3 i⟩
  unfold val_main_v64 lat
  generalize hv : val_main_v59 (F := Ideal) x0 x1 x4 x5 x6 x7 = v
  pointwise
  rw [← hv, proj_lat]
  blk_ext

theorem res3 : val_main_v65 (F := Ideal) x2 x3 x4 x5 x6 x7 = ctx x4 x5 x6 x7 0 (by decide) x3 x2 := by
  funext i
  obtain ⟨b, p, n, rfl⟩ : ∃ (b : Fin 16) (p : Fin 256) (n : Fin 1536), i = ix3 b p n := ⟨i 0, i 1, i 2, eq_ix3 i⟩
  unfold val_main_v65 ctx
  generalize hv : val_main_v61 (F := Ideal) x2 x3 x4 x5 x6 x7 = v
  pointwise
  rw [← hv, proj_ctx]
  blk_ext

theorem res4 : val_main_v66 (F := Ideal) x2 x3 x4 x5 x6 x7 = ctx x4 x5 x6 x7 1536 (by decide) x3 x2 := by
  funext i
  obtain ⟨b, p, n, rfl⟩ : ∃ (b : Fin 16) (p : Fin 256) (n : Fin 384), i = ix3 b p n := ⟨i 0, i 1, i 2, eq_ix3 i⟩
  unfold val_main_v66 ctx
  generalize hv : val_main_v61 (F := Ideal) x2 x3 x4 x5 x6 x7 = v
  pointwise
  rw [← hv, proj_ctx]
  blk_ext

theorem res5 : val_main_v67 (F := Ideal) x2 x3 x4 x5 x6 x7 = ctx x4 x5 x6 x7 1920 (by decide) x3 x2 := by
  funext i
  obtain ⟨b, p, n, rfl⟩ : ∃ (b : Fin 16) (p : Fin 256) (n : Fin 2560), i = ix3 b p n := ⟨i 0, i 1, i 2, eq_ix3 i⟩
  unfold val_main_v67 ctx
  generalize hv : val_main_v61 (F := Ideal) x2 x3 x4 x5 x6 x7 = v
  pointwise
  rw [← hv, proj_ctx]
  blk_ext

end Cert.Reference2Ideal.At
-- ==== Proof.InprojBlock.lean ====
/-
  What one grid point of the modulation kernel and of the input projection's kernel computes.
-/
module

public import proofs.«01_k».proof.Proof.Gen.Kernel2Ideal.Frame
public import proofs.«01_k».proof.Proof.InprojRow
public import Idealize.ShloMosaic.Lib.Pointwise
public import Idealize.ShloMosaic.Lib.Pipeline.Value

@[expose] public section

set_option maxRecDepth 16384

noncomputable section

namespace Cert.Kernel2Ideal.Block

open Cert.Kernel2Ideal Cert.Kernel2Ideal.Gen Cert.Inproj Cert.Combine
open Idealize.ShloMosaic Idealize.ShloMosaic.TcCoe Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl

/-- Six blocks of 1024 columns: block `q` of the modulation vectors. -/
theorem mod_apply (x0 : Vec Ideal S24x1024 .f32) (x1 : Vec Ideal S1024x1024 .f32) (x2 : Vec Ideal S1x1024 .f32)
    (r : Fin 24) (n : Fin 1024) :
    out0_3 x0 x1 x2 (ix2 r n)
      = ((∑ k : Fin 1024, ((x0 (ix2 r k) * Ideal.logistic (x0 (ix2 r k))) * x1 (ix2 k n) : EReal) : EReal) + x2 (ix2 0 n) : EReal) := by
  unfold out0_3
  rw [View.canon_unit_zero zero2]
  pointwise [k0_pay1]

variable (x0 : Vec Ideal S1x256x1024 .f32) (x1 : Vec Ideal S1x1024 .f32) (x2 x3 : Vec Ideal S1x1x1024 .f32)
  (x4 : Vec Ideal S1024x4480 .bf16)

/-- The projection of row `s` of a block. -/
abbrev row (s : Fin 256) (n : Fin 4480) : Ideal .f32 :=
  projRow (fun k => x0 (ix3 0 s k)) (fun k => x1 (ix2 0 k)) (fun k => x2 (ix3 0 0 k)) (fun k => x3 (ix3 0 0 k))
    (fun k n => x4 (ix2 k n)) n

theorem pay3_apply (s : Fin 256) (n : Fin 4480) :
    k1_pay3 (F := Ideal) (View.ld x0 r1_0) (View.ld x1 r1_1) (View.ld x2 r1_2) (View.ld x3 r1_2) (View.ld x4 r1_3) (ix2 s n) = row x0 x1 x2 x3 x4 s n := by
  pointwise [k1_pay3]
  rfl

theorem out5_apply (s : Fin 256) (n : Fin 1536) :
    out1_5 x0 x1 x2 x3 x4 (ix3 0 s n) = row x0 x1 x2 x3 x4 s ⟨0 + n.val, by omega⟩ := by
  unfold out1_5
  rw [View.canon_unit_zero zero3]
  pointwise [k1_pay4]
  rw [pay3_apply]

theorem out6_apply (s : Fin 256) (n : Fin 384) :
    out1_6 x0 x1 x2 x3 x4 (ix3 0 s n) = row x0 x1 x2 x3 x4 s ⟨1536 + n.val, by omega⟩ := by
  unfold out1_6
  rw [View.canon_unit_zero zero3]
  pointwise [k1_pay1, k1_pay5]
  rw [pay3_apply]

theorem out7_apply (s : Fin 256) (n : Fin 2560) :
    out1_7 x0 x1 x2 x3 x4 (ix3 0 s n) = row x0 x1 x2 x3 x4 s ⟨1920 + n.val, by omega⟩ := by
  unfold out1_7
  rw [View.canon_unit_zero zero3]
  pointwise [k1_pay2]
  rw [pay3_apply]

/-- The second projection's body is the first one's. -/
theorem out2_5_eq : out2_5 x0 x1 x2 x3 x4 = out1_5 x0 x1 x2 x3 x4 := rfl
theorem out2_6_eq : out2_6 x0 x1 x2 x3 x4 = out1_6 x0 x1 x2 x3 x4 := rfl
theorem out2_7_eq : out2_7 x0 x1 x2 x3 x4 = out1_7 x0 x1 x2 x3 x4 := rfl

end Cert.Kernel2Ideal.Block
-- ==== Proof.InprojArrays.lean ====
/-
  The arrays the modulation kernel and the two input projections leave, from the contents they are entered at.
-/
module

public import proofs.«01_k».proof.Proof.InprojBlock
public import Idealize.ShloMosaic.Lib.Pipeline.ValueKit
public import Idealize.ShloMosaic.Lib.Claim

@[expose] public section

set_option maxRecDepth 16384

noncomputable section

namespace Cert.Kernel2Ideal.Whole

open Cert.Kernel2Ideal Cert.Kernel2Ideal.Gen Cert.Inproj Cert.Combine
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! The modulation kernel: six points, each 1024 columns. -/

theorem idx0 : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

/-- The column point `t`'s column `n` is. -/
abbrev col (t : Fin cfg0.N) (n : Fin 1024) : Fin 6144 :=
  ⟨t.val * 1024 + n.val, by have h : t.val < 6 := t.isLt; omega⟩

theorem in0_0 (c : Dev nD) (t : Fin cfg0.N) (r : Fin 24) (k : Fin 1024) :
    (iblk0 V c 0 t : Vec Ideal S24x1024 .f32) (ix2 r k) = V c main_v2 (ix2 r k) := by
  have hN : t.val < 6 := t.isLt
  blk_ext [iblk0, idx0 t]
theorem in0_1 (c : Dev nD) (t : Fin cfg0.N) (a : Fin 1024) (n : Fin 1024) :
    (iblk0 V c 1 t : Vec Ideal S1024x1024 .f32) (ix2 a n) = V c main_v3 (ix2 a (col t n)) := by
  have hN : t.val < 6 := t.isLt
  blk_ext [iblk0, idx0 t]
theorem in0_2 (c : Dev nD) (t : Fin cfg0.N) (n : Fin 1024) :
    (iblk0 V c 2 t : Vec Ideal S1x1024 .f32) (ix2 0 n) = V c main_v5 (ix2 0 (col t n)) := by
  have hN : t.val < 6 := t.isLt
  blk_ext [iblk0, idx0 t]

/-- The modulation vectors of 24 conditioning vectors. -/
def modAll (C : Vec Ideal S24x1024 .f32) (W : Vec Ideal S1024x6144 .f32) (β : Vec Ideal S1x6144 .f32) : Vec Ideal S24x6144 .f32 :=
  fun i => modRow (fun k => C (ix2 (i 0) k)) (fun a n => W (ix2 a n)) (fun n => β (ix2 0 n)) (i 1)

theorem final0 (c : Dev nD) : (dat0 V c).arrAt 3 cfg0.N = modAll (V c main_v2) (V c main_v3) (V c main_v5) := by
  refine (dat0 V c).arrAt_eq_of_covers 3 _ (by decide +kernel) fun t hf y => ?_
  blk_simp
  rw [after0_3]
  obtain ⟨r, n, rfl⟩ : ∃ (r : Fin 24) (n : Fin 1024), y = ix2 r n := ⟨y 0, y 1, eq_ix2 y⟩
  have hN : t.val < 6 := t.isLt
  rw [Block.mod_apply]
  have e : (win0_3.blk t).view.emb (ix2 r n) = ix2 r (col t n) := by
    blk_ext [idx0 t]
  rw [e]
  unfold modAll modRow
  simp only [in0_0, in0_1, in0_2]
  rfl

/-! The projection of the image tokens: 16 batches of eight blocks of 256 rows. -/

theorem idx1 : ∀ t : Fin cfg1.N,
    win1_0.index t = ![t.val / 8, t.val % 8, 0] ∧ win1_1.index t = ![0, 0] ∧ win1_2.index t = ![t.val / 8, 0, 0]
      ∧ win1_3.index t = ![t.val / 8, 0, 0] ∧ win1_4.index t = ![0, 0] ∧ win1_5.index t = ![t.val / 8, t.val % 8, 0]
      ∧ win1_6.index t = ![t.val / 8, t.val % 8, 0] ∧ win1_7.index t = ![t.val / 8, t.val % 8, 0] :=
  (by decide +kernel : ∀ t : Fin grid1.N, _)

/-- The batch point `t` works on, -/
abbrev bat1 (t : Fin cfg1.N) : Fin 16 := ⟨t.val / 8, by have h : t.val < 128 := t.isLt; omega⟩
/-- and the token its row `s` is. -/
abbrev tok1 (t : Fin cfg1.N) (s : Fin 256) : Fin 2048 := ⟨t.val % 8 * 256 + s.val, by omega⟩

theorem in1_0 (c : Dev nD) (t : Fin cfg1.N) (s : Fin 256) (k : Fin 1024) :
    (iblk1 V c 0 t : Vec Ideal S1x256x1024 .f32) (ix3 0 s k) = V c main_arg0 (ix3 (bat1 t) (tok1 t s) k) := by
  have hN : t.val < 128 := t.isLt
  blk_ext [iblk1, idx1 t]
theorem in1_1 (c : Dev nD) (t : Fin cfg1.N) (k : Fin 1024) :
    (iblk1 V c 1 t : Vec Ideal S1x1024 .f32) (ix2 0 k) = V c main_v29 (ix2 0 k) := by
  have hN : t.val < 128 := t.isLt
  blk_ext [iblk1, idx1 t]
theorem in1_2 (c : Dev nD) (t : Fin cfg1.N) (k : Fin 1024) :
    (iblk1 V c 2 t : Vec Ideal S1x1x1024 .f32) (ix3 0 0 k) = V c main_v15 (ix3 (bat1 t) 0 k) := by
  have hN : t.val < 128 := t.isLt
  blk_ext [iblk1, idx1 t]
theorem in1_3 (c : Dev nD) (t : Fin cfg1.N) (k : Fin 1024) :
    (iblk1 V c 3 t : Vec Ideal S1x1x1024 .f32) (ix3 0 0 k) = V c main_v14 (ix3 (bat1 t) 0 k) := by
  have hN : t.val < 128 := t.isLt
  blk_ext [iblk1, idx1 t]
theorem in1_4 (c : Dev nD) (t : Fin cfg1.N) (k : Fin 1024) (n : Fin 4480) :
    (iblk1 V c 4 t : Vec Ideal S1024x4480 .bf16) (ix2 k n) = V c main_v27 (ix2 k n) := by
  have hN : t.val < 128 := t.isLt
  blk_ext [iblk1, idx1 t]

/-- The projection of all tokens, columns `off` to `off + N`, from the arrays the kernel is given. -/
def projAll {L : ℕ} (N : ℕ) (off : ℕ) (hN : off + N ≤ 4480) (x : (⟨3, ![16, L, 1024]⟩ : Shape).Idx → Ideal .f32)
    (g : Vec Ideal S1x1024 .f32) (sc sh : Vec Ideal S16x1x1024 .f32) (w : Vec Ideal S1024x4480 .bf16) :
    (⟨3, ![16, L, N]⟩ : Shape).Idx → Ideal .f32 := fun i =>
  projRow (fun k => x (ix3 (i 0) (i 1) k)) (fun k => g (ix2 0 k)) (fun k => sc (ix3 (i 0) 0 k)) (fun k => sh (ix3 (i 0) 0 k))
    (fun k n => w (ix2 k n)) ⟨off + (i 2).val, Nat.lt_of_lt_of_le (Nat.add_lt_add_left (i 2).isLt off) hN⟩

theorem final1_5 (c : Dev nD) : (dat1 V c).arrAt 5 cfg1.N
    = projAll 1536 0 (by decide) (V c main_arg0) (V c main_v29) (V c main_v15) (V c main_v14) (V c main_v27) := by
  refine (dat1 V c).arrAt_eq_of_covers 5 _ (by decide +kernel) fun t hf y => ?_
  blk_simp
  rw [after1_5]
  obtain ⟨s, n, rfl⟩ : ∃ (s : Fin 256) (n : Fin 1536), y = ix3 0 s n := ⟨y 1, y 2, by rw [eq_ix3 y]; congr 1; exact Subsingleton.elim _ _⟩
  have hN : t.val < 128 := t.isLt
  rw [Block.out5_apply]
  have e : (win1_5.blk t).view.emb (ix3 0 s n) = ix3 (bat1 t) (tok1 t s) n := by
    blk_ext [idx1 t]
  rw [e]
  unfold Block.row projAll
  simp only [in1_0, in1_1, in1_2, in1_3, in1_4]
  rfl

theorem final1_6 (c : Dev nD) : (dat1 V c).arrAt 6 cfg1.N
    = projAll 384 1536 (by decide) (V c main_arg0) (V c main_v29) (V c main_v15) (V c main_v14) (V c main_v27) := by
  refine (dat1 V c).arrAt_eq_of_covers 6 _ (by decide +kernel) fun t hf y => ?_
  blk_simp
  rw [after1_6]
  obtain ⟨s, n, rfl⟩ : ∃ (s : Fin 256) (n : Fin 384), y = ix3 0 s n := ⟨y 1, y 2, by rw [eq_ix3 y]; congr 1; exact Subsingleton.elim _ _⟩
  have hN : t.val < 128 := t.isLt
  rw [Block.out6_apply]
  have e : (win1_6.blk t).view.emb (ix3 0 s n) = ix3 (bat1 t) (tok1 t s) n := by
    blk_ext [idx1 t]
  rw [e]
  unfold Block.row projAll
  simp only [in1_0, in1_1, in1_2, in1_3, in1_4]
  rfl

theorem final1_7 (c : Dev nD) : (dat1 V c).arrAt 7 cfg1.N
    = projAll 2560 1920 (by decide) (V c main_arg0) (V c main_v29) (V c main_v15) (V c main_v14) (V c main_v27) := by
  refine (dat1 V c).arrAt_eq_of_covers 7 _ (by decide +kernel) fun t hf y => ?_
  blk_simp
  rw [after1_7]
  obtain ⟨s, n, rfl⟩ : ∃ (s : Fin 256) (n : Fin 2560), y = ix3 0 s n := ⟨y 1, y 2, by rw [eq_ix3 y]; congr 1; exact Subsingleton.elim _ _⟩
  have hN : t.val < 128 := t.isLt
  rw [Block.out7_apply]
  have e : (win1_7.blk t).view.emb (ix3 0 s n) = ix3 (bat1 t) (tok1 t s) n := by
    blk_ext [idx1 t]
  rw [e]
  unfold Block.row projAll
  simp only [in1_0, in1_1, in1_2, in1_3, in1_4]
  rfl

/-! The projection of the context: 16 batches of one block of 256 rows. -/

theorem idx2 : ∀ t : Fin cfg2.N,
    win2_0.index t = ![t.val, 0, 0] ∧ win2_1.index t = ![0, 0] ∧ win2_2.index t = ![t.val, 0, 0]
      ∧ win2_3.index t = ![t.val, 0, 0] ∧ win2_4.index t = ![0, 0] ∧ win2_5.index t = ![t.val, 0, 0]
      ∧ win2_6.index t = ![t.val, 0, 0] ∧ win2_7.index t = ![t.val, 0, 0] :=
  (by decide +kernel : ∀ t : Fin grid2.N, _)

/-- The batch point `t` works on. -/
abbrev bat2 (t : Fin cfg2.N) : Fin 16 := ⟨t.val, t.isLt⟩

theorem in2_0 (c : Dev nD) (t : Fin cfg2.N) (s : Fin 256) (k : Fin 1024) :
    (iblk2 V c 0 t : Vec Ideal S1x256x1024 .f32) (ix3 0 s k) = V c main_arg2 (ix3 (bat2 t) s k) := by
  have hN : t.val < 16 := t.isLt
  blk_ext [iblk2, idx2 t]
theorem in2_1 (c : Dev nD) (t : Fin cfg2.N) (k : Fin 1024) :
    (iblk2 V c 1 t : Vec Ideal S1x1024 .f32) (ix2 0 k) = V c main_v32 (ix2 0 k) := by
  have hN : t.val < 16 := t.isLt
  blk_ext [iblk2, idx2 t]
theorem in2_2 (c : Dev nD) (t : Fin cfg2.N) (k : Fin 1024) :
    (iblk2 V c 2 t : Vec Ideal S1x1x1024 .f32) (ix3 0 0 k) = V c main_v25 (ix3 (bat2 t) 0 k) := by
  have hN : t.val < 16 := t.isLt
  blk_ext [iblk2, idx2 t]
theorem in2_3 (c : Dev nD) (t : Fin cfg2.N) (k : Fin 1024) :
    (iblk2 V c 3 t : Vec Ideal S1x1x1024 .f32) (ix3 0 0 k) = V c main_v24 (ix3 (bat2 t) 0 k) := by
  have hN : t.val < 16 := t.isLt
  blk_ext [iblk2, idx2 t]
theorem in2_4 (c : Dev nD) (t : Fin cfg2.N) (k : Fin 1024) (n : Fin 4480) :
    (iblk2 V c 4 t : Vec Ideal S1024x4480 .bf16) (ix2 k n) = V c main_v27 (ix2 k n) := by
  have hN : t.val < 16 := t.isLt
  blk_ext [iblk2, idx2 t]

theorem final2_5 (c : Dev nD) : (dat2 V c).arrAt 5 cfg2.N
    = projAll 1536 0 (by decide) (V c main_arg2) (V c main_v32) (V c main_v25) (V c main_v24) (V c main_v27) := by
  refine (dat2 V c).arrAt_eq_of_covers 5 _ (by decide +kernel) fun t hf y => ?_
  blk_simp
  rw [after2_5, Block.out2_5_eq]
  obtain ⟨s, n, rfl⟩ : ∃ (s : Fin 256) (n : Fin 1536), y = ix3 0 s n := ⟨y 1, y 2, by rw [eq_ix3 y]; congr 1; exact Subsingleton.elim _ _⟩
  have hN : t.val < 16 := t.isLt
  rw [Block.out5_apply]
  have e : (win2_5.blk t).view.emb (ix3 0 s n) = ix3 (bat2 t) s n := by
    blk_ext [idx2 t]
  rw [e]
  unfold Block.row projAll
  simp only [in2_0, in2_1, in2_2, in2_3, in2_4]
  rfl

theorem final2_6 (c : Dev nD) : (dat2 V c).arrAt 6 cfg2.N
    = projAll 384 1536 (by decide) (V c main_arg2) (V c main_v32) (V c main_v25) (V c main_v24) (V c main_v27) := by
  refine (dat2 V c).arrAt_eq_of_covers 6 _ (by decide +kernel) fun t hf y => ?_
  blk_simp
  rw [after2_6, Block.out2_6_eq]
  obtain ⟨s, n, rfl⟩ : ∃ (s : Fin 256) (n : Fin 384), y = ix3 0 s n := ⟨y 1, y 2, by rw [eq_ix3 y]; congr 1; exact Subsingleton.elim _ _⟩
  have hN : t.val < 16 := t.isLt
  rw [Block.out6_apply]
  have e : (win2_6.blk t).view.emb (ix3 0 s n) = ix3 (bat2 t) s n := by
    blk_ext [idx2 t]
  rw [e]
  unfold Block.row projAll
  simp only [in2_0, in2_1, in2_2, in2_3, in2_4]
  rfl

theorem final2_7 (c : Dev nD) : (dat2 V c).arrAt 7 cfg2.N
    = projAll 2560 1920 (by decide) (V c main_arg2) (V c main_v32) (V c main_v25) (V c main_v24) (V c main_v27) := by
  refine (dat2 V c).arrAt_eq_of_covers 7 _ (by decide +kernel) fun t hf y => ?_
  blk_simp
  rw [after2_7, Block.out2_7_eq]
  obtain ⟨s, n, rfl⟩ : ∃ (s : Fin 256) (n : Fin 2560), y = ix3 0 s n := ⟨y 1, y 2, by rw [eq_ix3 y]; congr 1; exact Subsingleton.elim _ _⟩
  have hN : t.val < 16 := t.isLt
  rw [Block.out7_apply]
  have e : (win2_7.blk t).view.emb (ix3 0 s n) = ix3 (bat2 t) s n := by
    blk_ext [idx2 t]
  rw [e]
  unfold Block.row projAll
  simp only [in2_0, in2_1, in2_2, in2_3, in2_4]
  rfl

end Cert.Kernel2Ideal.Whole
-- ==== Proof.InprojValue.lean ====
/-
  The first step's results after the run, from the layer's arguments: the modulation kernel's array, the host's slices of
  it, and the two projections.
-/
module

public import proofs.«01_k».proof.Proof.InprojArrays
public import Idealize.ShloMosaic.Lib.Pointwise
public import Idealize.ShloMosaic.Lib.IdealHost

@[expose] public section

set_option maxRecDepth 16384

noncomputable section

namespace Cert.Kernel2Ideal.Whole

open Cert.Kernel2Ideal Cert.Kernel2Ideal.Gen Cert.Inproj Cert.Combine
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! What the host prepares, as functions of arrays. -/

/-- The conditioning vectors stacked: the batches', then the context's, then seven of zeros. -/
def stackC (C : FVec Ideal S16x1024 .f32) (D : FVec Ideal S1024 .f32) : FVec Ideal S24x1024 .f32 :=
  concatenate S24x1024 0 [⟨S16x1024, C⟩, ⟨S1x1024, broadcastInDim S1x1024 ![1] bcast_S1024_S1x1024_1 D⟩,
    ⟨S7x1024, broadcastInDim S7x1024 ![] bcast_S_S7x1024 (constant S_ .f32 0x00000000#32)⟩] concatenates_S16x1024_S1x1024_S7x1024_S24x1024_d0

theorem stackC_bat (C : FVec Ideal S16x1024 .f32) (D : FVec Ideal S1024 .f32) (b : Fin 16) (k : Fin 1024) :
    stackC C D (ix2 ⟨b.val, by omega⟩ k) = C (ix2 b k) := by
  unfold stackC
  pointwise

theorem stackC_ctx (C : FVec Ideal S16x1024 .f32) (D : FVec Ideal S1024 .f32) (k : Fin 1024) :
    stackC C D (ix2 16 k) = D (ix1 k) := by
  unfold stackC
  pointwise

/-- Columns of the batches' rows of the modulation vectors: the shift, -/
def shR (M : FVec Ideal S24x6144 .f32) : FVec Ideal S16x1x1024 .f32 :=
  broadcastInDim S16x1x1024 ![0, 2] bcast_S16x1024_S16x1x1024_0_2 (extractStridedSlice S16x1024 ![0, 0]
    (extractStridedSlice S16x6144 ![0, 0] M slices_S24x6144_S16x6144_0_0) slices_S16x6144_S16x1024_0_0)
/-- the scale, -/
def scR (M : FVec Ideal S24x6144 .f32) : FVec Ideal S16x1x1024 .f32 :=
  broadcastInDim S16x1x1024 ![0, 2] bcast_S16x1024_S16x1x1024_0_2 (extractStridedSlice S16x1024 ![0, 1024]
    (extractStridedSlice S16x6144 ![0, 0] M slices_S24x6144_S16x6144_0_0) slices_S16x6144_S16x1024_0_1024)
/-- the context's row for every batch, -/
def ctxR (M : FVec Ideal S24x6144 .f32) : FVec Ideal S16x1x6144 .f32 :=
  broadcastInDim S16x1x6144 ![0, 1, 2] bcast_S1x1x6144_S16x1x6144_0_1_2 (broadcastInDim S1x1x6144 ![2] bcast_S6144_S1x1x6144_2
    (shapeCast S6144 (extractStridedSlice S1x6144 ![16, 0] M slices_S24x6144_S1x6144_16_0) shapeCasts_S1x6144_S6144))
/-- its shift -/
def cshR (M : FVec Ideal S24x6144 .f32) : FVec Ideal S16x1x1024 .f32 :=
  extractStridedSlice S16x1x1024 ![0, 0, 0] (ctxR M) slices_S16x1x6144_S16x1x1024_0_0_0
/-- and its scale. -/
def cscR (M : FVec Ideal S24x6144 .f32) : FVec Ideal S16x1x1024 .f32 :=
  extractStridedSlice S16x1x1024 ![0, 0, 1024] (ctxR M) slices_S16x1x6144_S16x1x1024_0_0_1024
/-- The norm's weight, -/
def gR (g : FVec Ideal S1x1024 .f32) : FVec Ideal S1x1024 .f32 :=
  shapeCast S1x1024 (shapeCast S1024 g shapeCasts_S1x1024_S1024) shapeCasts_S1024_S1x1024
/-- the projection's, -/
def wR (w : FVec Ideal S1x1024x4480 .f32) : FVec Ideal S1024x4480 .bf16 :=
  truncf .bf16 (shapeCast S1024x4480 w shapeCasts_S1x1024x4480_S1024x4480) bitsLt_bf16_f32
/-- the modulation's -/
def wmR (w : FVec Ideal S1x1024x6144 .f32) : FVec Ideal S1024x6144 .f32 :=
  shapeCast S1024x6144 w shapeCasts_S1x1024x6144_S1024x6144
/-- and its bias. -/
def bmR (w : FVec Ideal S1x6144 .f32) : FVec Ideal S1x6144 .f32 :=
  shapeCast S1x6144 (shapeCast S6144 w shapeCasts_S1x6144_S6144) shapeCasts_S6144_S1x6144

theorem shR_apply (M : FVec Ideal S24x6144 .f32) (b : Fin 16) (k : Fin 1024) :
    shR M (ix3 b 0 k) = M (ix2 ⟨b.val, by omega⟩ (shAt k)) := by
  unfold shR
  pointwise
theorem scR_apply (M : FVec Ideal S24x6144 .f32) (b : Fin 16) (k : Fin 1024) :
    scR M (ix3 b 0 k) = M (ix2 ⟨b.val, by omega⟩ (scAt k)) := by
  unfold scR
  pointwise
theorem cshR_apply (M : FVec Ideal S24x6144 .f32) (b : Fin 16) (k : Fin 1024) :
    cshR M (ix3 b 0 k) = M (ix2 16 (shAt k)) := by
  unfold cshR ctxR
  pointwise
theorem cscR_apply (M : FVec Ideal S24x6144 .f32) (b : Fin 16) (k : Fin 1024) :
    cscR M (ix3 b 0 k) = M (ix2 16 (scAt k)) := by
  unfold cscR ctxR
  pointwise
theorem gR_apply (g : FVec Ideal S1x1024 .f32) (k : Fin 1024) : gR g (ix2 0 k) = g (ix2 0 k) := by
  unfold gR
  pointwise
theorem wR_apply (w : FVec Ideal S1x1024x4480 .f32) (k : Fin 1024) (n : Fin 4480) : wR w (ix2 k n) = w (ix3 0 k n) := by
  unfold wR
  pointwise
theorem wmR_apply (w : FVec Ideal S1x1024x6144 .f32) (k : Fin 1024) (n : Fin 6144) : wmR w (ix2 k n) = w (ix3 0 k n) := by
  unfold wmR
  pointwise
theorem bmR_apply (w : FVec Ideal S1x6144 .f32) (n : Fin 6144) : bmR w (ix2 0 n) = w (ix2 0 n) := by
  unfold bmR
  pointwise

section
variable (x : FVec Ideal S16x2048x1024 .f32) (C : FVec Ideal S16x1024 .f32) (y : FVec Ideal S16x256x1024 .f32)
  (D : FVec Ideal S1024 .f32) (wm : FVec Ideal S1x1024x6144 .f32) (bm : FVec Ideal S1x6144 .f32)
  (g : FVec Ideal S1x1024 .f32) (w : FVec Ideal S1x1024x4480 .f32)

/-- All modulation vectors. -/
abbrev modM : FVec Ideal S24x6144 .f32 := modAll (stackC C D) (wmR wm) (bmR bm)

theorem modM_bat (b : Fin 16) (n : Fin 6144) : modM C D wm bm (ix2 ⟨b.val, by omega⟩ n)
    = modRow (fun k => C (ix2 b k)) (fun a n => wm (ix3 0 a n)) (fun n => bm (ix2 0 n)) n := by
  show modRow (fun k => stackC C D (ix2 ⟨b.val, by omega⟩ k)) (fun a n => wmR wm (ix2 a n)) (fun n => bmR bm (ix2 0 n)) n = _
  simp only [stackC_bat, wmR_apply, bmR_apply]

theorem modM_ctx (n : Fin 6144) : modM C D wm bm (ix2 16 n)
    = modRow (fun k => D (ix1 k)) (fun a n => wm (ix3 0 a n)) (fun n => bm (ix2 0 n)) n := by
  show modRow (fun k => stackC C D (ix2 16 k)) (fun a n => wmR wm (ix2 a n)) (fun n => bmR bm (ix2 0 n)) n = _
  simp only [stackC_ctx, wmR_apply, bmR_apply]

/-- The image tokens' projection from the prepared arrays is the one from the layer's arguments, -/
theorem projAll_lat (N off : ℕ) (hN : off + N ≤ 4480) :
    projAll N off hN x (gR g) (scR (modM C D wm bm)) (shR (modM C D wm bm)) (wR w) = lat wm bm g w off hN C x := by
  funext i
  have hs (b : Fin 16) (k : Fin 1024) : scR (modM C D wm bm) (ix3 b 0 k)
      = modRow (fun k => C (ix2 b k)) (fun a n => wm (ix3 0 a n)) (fun n => bm (ix2 0 n)) (scAt k) :=
    (scR_apply _ b k).trans (modM_bat C D wm bm b (scAt k))
  have ht (b : Fin 16) (k : Fin 1024) : shR (modM C D wm bm) (ix3 b 0 k)
      = modRow (fun k => C (ix2 b k)) (fun a n => wm (ix3 0 a n)) (fun n => bm (ix2 0 n)) (shAt k) :=
    (shR_apply _ b k).trans (modM_bat C D wm bm b (shAt k))
  unfold projAll lat proj
  simp only [gR_apply, wR_apply]
  rw [funext (hs (i 0)), funext (ht (i 0))]

/-- and so is the context's. -/
theorem projAll_ctx (N off : ℕ) (hN : off + N ≤ 4480) :
    projAll N off hN y (gR g) (cscR (modM C D wm bm)) (cshR (modM C D wm bm)) (wR w) = ctx wm bm g w off hN D y := by
  funext i
  have hs (b : Fin 16) (k : Fin 1024) : cscR (modM C D wm bm) (ix3 b 0 k)
      = modRow (fun k => D (ix1 k)) (fun a n => wm (ix3 0 a n)) (fun n => bm (ix2 0 n)) (scAt k) :=
    (cscR_apply _ b k).trans (modM_ctx C D wm bm (scAt k))
  have ht (b : Fin 16) (k : Fin 1024) : cshR (modM C D wm bm) (ix3 b 0 k)
      = modRow (fun k => D (ix1 k)) (fun a n => wm (ix3 0 a n)) (fun n => bm (ix2 0 n)) (shAt k) :=
    (cshR_apply _ b k).trans (modM_ctx C D wm bm (shAt k))
  unfold projAll ctx proj
  simp only [gR_apply, wR_apply]
  rw [funext (hs (i 0)), funext (ht (i 0))]
end

variable (m : (ℓ : Loc nD τ sig) → Buf (Elt Ideal) ℓ) (ρ : Dev nD → PrngReg)

/-! The buffers at the kernels' entries. -/

theorem e1_v2 (c : Dev nD) : V1 m ρ c main_v2 = stackC (m ((c : Thread nD τ).loc main_arg1)) (m ((c : Thread nD τ).loc main_arg3)) := by
  unfold_abbrev_sides
  after_results
  rfl
theorem e1_v3 (c : Dev nD) : V1 m ρ c main_v3 = wmR (m ((c : Thread nD τ).loc main_arg4)) := by
  unfold_abbrev_sides
  after_results
  rfl
theorem e1_v5 (c : Dev nD) : V1 m ρ c main_v5 = bmR (m ((c : Thread nD τ).loc main_arg5)) := by
  unfold_abbrev_sides
  after_results
  rfl

/-- The modulation vectors after the first kernel. -/
abbrev M (c : Dev nD) : FVec Ideal S24x6144 .f32 :=
  modM (m ((c : Thread nD τ).loc main_arg1)) (m ((c : Thread nD τ).loc main_arg3)) (m ((c : Thread nD τ).loc main_arg4)) (m ((c : Thread nD τ).loc main_arg5))

theorem e2_v6 (c : Dev nD) : W2 m ρ c (Proc.devRef .tc main_v6) = M m c := by
  refine (W2_arr m ρ c 3).trans ((final0 (V1 m ρ) c).trans ?_)
  rw [e1_v2, e1_v3, e1_v5]

theorem e3_v14 (c : Dev nD) : V3 m ρ c main_v14 = shR (M m c) := by
  rw [← e2_v6 m ρ c]
  unfold_abbrev_sides
  after_results
  rfl
theorem e3_v15 (c : Dev nD) : V3 m ρ c main_v15 = scR (M m c) := by
  rw [← e2_v6 m ρ c]
  unfold_abbrev_sides
  after_results
  rfl
theorem e3_v24 (c : Dev nD) : V3 m ρ c main_v24 = cshR (M m c) := by
  rw [← e2_v6 m ρ c]
  unfold_abbrev_sides
  after_results
  rfl
theorem e3_v25 (c : Dev nD) : V3 m ρ c main_v25 = cscR (M m c) := by
  rw [← e2_v6 m ρ c]
  unfold_abbrev_sides
  after_results
  rfl
theorem e3_v27 (c : Dev nD) : V3 m ρ c main_v27 = wR (m ((c : Thread nD τ).loc main_arg7)) := by
  rw [← W2_args m ρ c main_arg7 (by decide)]
  unfold_abbrev_sides
  after_results
  rfl
theorem e3_v29 (c : Dev nD) : V3 m ρ c main_v29 = gR (m ((c : Thread nD τ).loc main_arg6)) := by
  rw [← W2_args m ρ c main_arg6 (by decide)]
  unfold_abbrev_sides
  after_results
  rfl
theorem e3_arg0 (c : Dev nD) : V3 m ρ c main_arg0 = m ((c : Thread nD τ).loc main_arg0) := W3_args m ρ c main_arg0 (by decide)

theorem e5_of (c : Dev nD) (r : Ref sig .tc) (h : r ∉ hostOps2_W) (h' : ∀ w : Fin cfg1.W, Pipeline.arrRef spec1 w = r → (cfg1.win w).isOut = false) :
    V5 m ρ c r = V3 m ρ c r := (W5_of m ρ c r h).trans (W4_of m ρ c r h')
theorem e5_v32 (c : Dev nD) : V5 m ρ c main_v32 = gR (m ((c : Thread nD τ).loc main_arg6)) := by
  rw [← W4_args m ρ c main_arg6 (by decide)]
  unfold_abbrev_sides
  after_results
  rfl
theorem e5_v24 (c : Dev nD) : V5 m ρ c main_v24 = cshR (M m c) := (e5_of m ρ c main_v24 (by decide) (by decide)).trans (e3_v24 m ρ c)
theorem e5_v25 (c : Dev nD) : V5 m ρ c main_v25 = cscR (M m c) := (e5_of m ρ c main_v25 (by decide) (by decide)).trans (e3_v25 m ρ c)
theorem e5_v27 (c : Dev nD) : V5 m ρ c main_v27 = wR (m ((c : Thread nD τ).loc main_arg7)) := (e5_of m ρ c main_v27 (by decide) (by decide)).trans (e3_v27 m ρ c)
theorem e5_arg2 (c : Dev nD) : V5 m ρ c main_arg2 = m ((c : Thread nD τ).loc main_arg2) := W5_args m ρ c main_arg2 (by decide)

/-! The six results at the run's end. -/

/-- The image tokens' results, -/
abbrev Glat (N off : ℕ) (hN : off + N ≤ 4480) (c : Dev nD) : (⟨3, ![16, 2048, N]⟩ : Shape).Idx → Ideal .f32 :=
  lat (m ((c : Thread nD τ).loc main_arg4)) (m ((c : Thread nD τ).loc main_arg5)) (m ((c : Thread nD τ).loc main_arg6))
    (m ((c : Thread nD τ).loc main_arg7)) off hN (m ((c : Thread nD τ).loc main_arg1)) (m ((c : Thread nD τ).loc main_arg0))
/-- and the context's. -/
abbrev Gctx (N off : ℕ) (hN : off + N ≤ 4480) (c : Dev nD) : (⟨3, ![16, 256, N]⟩ : Shape).Idx → Ideal .f32 :=
  ctx (m ((c : Thread nD τ).loc main_arg4)) (m ((c : Thread nD τ).loc main_arg5)) (m ((c : Thread nD τ).loc main_arg6))
    (m ((c : Thread nD τ).loc main_arg7)) off hN (m ((c : Thread nD τ).loc main_arg3)) (m ((c : Thread nD τ).loc main_arg2))

theorem keep (c : Dev nD) (r : Ref sig .tc) (h : r ∉ hostOps2_W) (h' : ∀ w : Fin cfg2.W, Pipeline.arrRef spec2 w = r → (cfg2.win w).isOut = false) :
    W6 m ρ c (Proc.devRef .tc r) = W4 m ρ c (Proc.devRef .tc r) := (W6_of m ρ c r h').trans (W5_of m ρ c r h)

theorem r0 (c : Dev nD) : W6 m ρ c (Proc.devRef .tc main_v30_0) = Glat m 1536 0 (by decide) c := by
  refine (keep m ρ c main_v30_0 (by decide) (by decide)).trans ((W4_arr m ρ c 5).trans ((final1_5 (V3 m ρ) c).trans ?_))
  rw [e3_arg0, e3_v29, e3_v15, e3_v14, e3_v27, projAll_lat]
theorem r1 (c : Dev nD) : W6 m ρ c (Proc.devRef .tc main_v30_1) = Glat m 384 1536 (by decide) c := by
  refine (keep m ρ c main_v30_1 (by decide) (by decide)).trans ((W4_arr m ρ c 6).trans ((final1_6 (V3 m ρ) c).trans ?_))
  rw [e3_arg0, e3_v29, e3_v15, e3_v14, e3_v27, projAll_lat]
theorem r2 (c : Dev nD) : W6 m ρ c (Proc.devRef .tc main_v30_2) = Glat m 2560 1920 (by decide) c := by
  refine (keep m ρ c main_v30_2 (by decide) (by decide)).trans ((W4_arr m ρ c 7).trans ((final1_7 (V3 m ρ) c).trans ?_))
  rw [e3_arg0, e3_v29, e3_v15, e3_v14, e3_v27, projAll_lat]
theorem r3 (c : Dev nD) : W6 m ρ c (Proc.devRef .tc main_v33_0) = Gctx m 1536 0 (by decide) c := by
  refine (W6_arr m ρ c 5).trans ((final2_5 (V5 m ρ) c).trans ?_)
  rw [e5_arg2, e5_v32, e5_v25, e5_v24, e5_v27, projAll_ctx]
theorem r4 (c : Dev nD) : W6 m ρ c (Proc.devRef .tc main_v33_1) = Gctx m 384 1536 (by decide) c := by
  refine (W6_arr m ρ c 6).trans ((final2_6 (V5 m ρ) c).trans ?_)
  rw [e5_arg2, e5_v32, e5_v25, e5_v24, e5_v27, projAll_ctx]
theorem r5 (c : Dev nD) : W6 m ρ c (Proc.devRef .tc main_v33_2) = Gctx m 2560 1920 (by decide) c := by
  refine (W6_arr m ρ c 7).trans ((final2_7 (V5 m ρ) c).trans ?_)
  rw [e5_arg2, e5_v32, e5_v25, e5_v24, e5_v27, projAll_ctx]

set_option backward.isDefEq.respectTransparency.types false in
/-- Every execution ends with each device's buffers as the last kernel leaves them. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- The kernel's run: the six results, and the arguments unchanged. -/
theorem run : θ_run defs (onTc (τ := τ) (main (F := Ideal))) ⟨m, fun _ => 0, ρ⟩ fun r => ∀ c : Dev nD,
      r.2.mem ((c : Thread nD τ).loc main_v30_0) = Glat m 1536 0 (by decide) c
      ∧ r.2.mem ((c : Thread nD τ).loc main_v30_1) = Glat m 384 1536 (by decide) c
      ∧ r.2.mem ((c : Thread nD τ).loc main_v30_2) = Glat m 2560 1920 (by decide) c
      ∧ r.2.mem ((c : Thread nD τ).loc main_v33_0) = Gctx m 1536 0 (by decide) c
      ∧ r.2.mem ((c : Thread nD τ).loc main_v33_1) = Gctx m 384 1536 (by decide) c
      ∧ r.2.mem ((c : Thread nD τ).loc main_v33_2) = Gctx m 2560 1920 (by decide) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨(h c _ (mem_uc main_v30_0 (by decide))).trans (r0 m ρ c), (h c _ (mem_uc main_v30_1 (by decide))).trans (r1 m ρ c),
     (h c _ (mem_uc main_v30_2 (by decide))).trans (r2 m ρ c), (h c _ (mem_uc main_v33_0 (by decide))).trans (r3 m ρ c),
     (h c _ (mem_uc main_v33_1 (by decide))).trans (r4 m ρ c), (h c _ (mem_uc main_v33_2 (by decide))).trans (r5 m ρ c),
     (h c _ (mem_uc main_arg0 (by decide))).trans (W6_main_arg0 m ρ c), (h c _ (mem_uc main_arg1 (by decide))).trans (W6_main_arg1 m ρ c),
     (h c _ (mem_uc main_arg2 (by decide))).trans (W6_main_arg2 m ρ c), (h c _ (mem_uc main_arg3 (by decide))).trans (W6_main_arg3 m ρ c),
     (h c _ (mem_uc main_arg4 (by decide))).trans (W6_main_arg4 m ρ c), (h c _ (mem_uc main_arg5 (by decide))).trans (W6_main_arg5 m ρ c),
     (h c _ (mem_uc main_arg6 (by decide))).trans (W6_main_arg6 m ρ c), (h c _ (mem_uc main_arg7 (by decide))).trans (W6_main_arg7 m ρ c)⟩)
    (run_all m ρ)

end Cert.Kernel2Ideal.Whole
-- ==== Proof.ExpertsRow.lean ====
/-
  What the routed experts' step leaves, as plain sums over the extended reals.
-/
module

public import proofs.«01_k».proof.Proof.CombineRow

@[expose] public section

noncomputable section

namespace Cert.Experts

open Idealize.ShloMosaic

/-- The rows' blocks: 320 of 1024 rows each. -/
abbrev blockOf (r : Fin 327680) : Fin 320 := ⟨r.val / 1024, by omega⟩

/-- The expert the plan names for block `t`. -/
def expertNo (P : (⟨1, ![321]⟩ : Shape).Idx → BitVec 32) (t : Fin 320) : Fin 64 :=
  ⟨min (P (ix1 ⟨t.val, by omega⟩)).toNat 63, by omega⟩

/-- Every expert the plan names is one of the 64. -/
abbrev Named (P : (⟨1, ![321]⟩ : Shape).Idx → BitVec 32) : Prop :=
  ∀ t : Fin 320, 0 ≤ (P (ix1 ⟨t.val, by omega⟩)).toInt ∧ (P (ix1 ⟨t.val, by omega⟩)).toNat < 64

/-- The step's result from its arrays: of row `r`, in quarter `j` at number `c`, number `256 j + c` of the row its block's
    expert makes of it. -/
def rowsOut (P : (⟨1, ![321]⟩ : Shape).Idx → BitVec 32) (X : (⟨3, ![2, 327680, 256]⟩ : Shape).Idx → BitVec 32)
    (wg wu : (⟨4, ![1, 64, 1024, 256]⟩ : Shape).Idx → Ideal .f32) (wd : (⟨4, ![1, 64, 256, 1024]⟩ : Shape).Idx → Ideal .f32)
    (j : Fin 4) (r : Fin 327680) (c : Fin 256) : Ideal .f32 :=
  Combine.shared (fun q k => X (ix3 q r k)) (fun d k => wg (ix4 0 (expertNo P (blockOf r)) d k))
    (fun d k => wu (ix4 0 (expertNo P (blockOf r)) d k)) (fun k d => wd (ix4 0 (expertNo P (blockOf r)) k d))
    ⟨j.val * 256 + c.val, by omega⟩

end Cert.Experts
-- ==== Proof.ExpertsRef.lean ====
/-
  What the reference of the routed experts computes, read at an index.
-/
module

public import proofs.«01_k».proof.Proof.Gen.Reference3Ideal.Run
public import proofs.«01_k».proof.Proof.ExpertsRow
public import Idealize.ShloMosaic.Lib.Pointwise
public import Idealize.ShloMosaic.Lib.BitcastConvert
public import Idealize.ShloMosaic.Lib.IdealHost
public import Idealize.ShloMosaic.Lib.WordCmp

@[expose] public section

set_option maxRecDepth 16384

noncomputable section

namespace Cert.Reference3Ideal.At

open Cert.Reference3Ideal Cert.Reference3Ideal.Gen Cert.Experts Cert.Combine
open Idealize.ShloMosaic Idealize.ShloMosaic.TcCoe Idealize.SL.Sem

/-- The experts' input, as the reference reads it from the words: 320 blocks of rows. -/
abbrev hid (X : Vec Ideal S2x327680x256 .i32) : FVec Ideal S320x1024x1024 .f32 :=
  shapeCast _ (transpose S327680x2x2x256 [1, 0, 3, 2] (extf .f32 (bitcastToFloat (F := Ideal) .bf16 (Host.bitcastConvertNarrow S2x327680x256x2 16 X splits_S2x327680x256_w32_S2x327680x256x2_w16)) bitsLt_bf16_f32) transposes_S2x327680x256x2_S327680x2x2x256_1_0_3_2) shapeCasts_S327680x2x2x256_S320x1024x1024

theorem hid_apply (X : Vec Ideal S2x327680x256 .i32) (t : Fin 320) (s d : Fin 1024) :
    hid X (ix3 t s d) = num (fun q c => X (ix3 q (⟨t.val * 1024 + s.val, by omega⟩ : Fin 327680) c)) d := by
  unfold hid
  pointwise
  rw [show splits_S2x327680x256_w32_S2x327680x256x2_w16.drop
            (ix4 (⟨d.val / 512, by omega⟩ : Fin 2) (⟨t.val * 1024 + s.val, by omega⟩ : Fin 327680) (⟨d.val % 256, by omega⟩ : Fin 256) (⟨d.val / 256 % 2, by omega⟩ : Fin 2))
          = ix3 (⟨d.val / 512, by omega⟩ : Fin 2) (⟨t.val * 1024 + s.val, by omega⟩ : Fin 327680) (⟨d.val % 256, by omega⟩ : Fin 256) from
    funext fun a => by fin_cases a <;> rfl]
  rfl

/-- The plan's experts, as the gathers take them: a negative number counted from the end. -/
abbrev named (P : Vec Ideal S321 .i32) : IVec S320x1 32 :=
  broadcastInDim S320x1 ![0] bcast_S320_S320x1_0 (select (cmpi .slt (extractStridedSlice S320 ![0] P slices_S321_S320_0) (broadcastInDim S320 ![] bcast_S_S320 (constantI S_ 32 0#32))) (addi (extractStridedSlice S320 ![0] P slices_S321_S320_0) (broadcastInDim S320 ![] bcast_S_S320 (constantI S_ 32 64#32))) (extractStridedSlice S320 ![0] P slices_S321_S320_0))

theorem named_apply (P : Vec Ideal S321 .i32) (hP : Named P) (t : Fin 320) (z : Fin 1) :
    named P (ix2 t z) = P (ix1 ⟨t.val, by omega⟩) := by
  unfold named
  pointwise
  have h := (hP t).1
  rw [WordCmp.cmpi_slt_eq, decide_eq_false (by show ¬ (P (ix1 ⟨t.val, _⟩)).toInt < 0; omega)]
  rfl

theorem gather1 (w : FVec Ideal S64x1024x256 .f32) (ix : IVec S320x1 32) (t : Fin 320) (d : Fin 1024) (k : Fin 256) :
    Host.gather gather_S64x1024x256_S320x1_S320x1024x256_12_0_n_n_0_1_11024256 w ix (ix3 t d k)
      = w (ix3 ⟨min (ix (ix2 t 0)).toInt.toNat 63, by omega⟩ d k) := by
  unfold Host.gather
  congr 1
  funext a
  refine Fin.ext ?_
  show gather_S64x1024x256_S320x1_S320x1024x256_12_0_n_n_0_1_11024256.start (ix3 t d k) ix a + gather_S64x1024x256_S320x1_S320x1024x256_12_0_n_n_0_1_11024256.batchCoord (ix3 t d k) a
      + gather_S64x1024x256_S320x1_S320x1024x256_12_0_n_n_0_1_11024256.offCoord (ix3 t d k) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil, Nat.add_zero]
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S64x1024x256_S320x1_S320x1024x256_12_0_n_n_0_1_11024256.startIndexMap from List.mem_singleton.mpr rfl)]
    have hsi : gather_S64x1024x256_S320x1_S320x1024x256_12_0_n_n_0_1_11024256.siIdx (ix3 t d k) ⟨List.idxOf (0 : Fin 3) gather_S64x1024x256_S320x1_S320x1024x256_12_0_n_n_0_1_11024256.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · unfold GatherDims.start
    rw [dif_neg (show ¬ (1 : Fin 3) ∈ gather_S64x1024x256_S320x1_S320x1024x256_12_0_n_n_0_1_11024256.startIndexMap from by decide)]
    unfold GatherDims.offCoord
    rw [dif_pos (show (1 : Fin 3) ∈ gather_S64x1024x256_S320x1_S320x1024x256_12_0_n_n_0_1_11024256.sKept from by decide), Nat.zero_add]
    rfl
  · unfold GatherDims.start
    rw [dif_neg (show ¬ (2 : Fin 3) ∈ gather_S64x1024x256_S320x1_S320x1024x256_12_0_n_n_0_1_11024256.startIndexMap from by decide)]
    unfold GatherDims.offCoord
    rw [dif_pos (show (2 : Fin 3) ∈ gather_S64x1024x256_S320x1_S320x1024x256_12_0_n_n_0_1_11024256.sKept from by decide), Nat.zero_add]
    rfl

theorem gather2 (w : FVec Ideal S64x256x1024 .f32) (ix : IVec S320x1 32) (t : Fin 320) (k : Fin 256) (d : Fin 1024) :
    Host.gather gather_S64x256x1024_S320x1_S320x256x1024_12_0_n_n_0_1_12561024 w ix (ix3 t k d)
      = w (ix3 ⟨min (ix (ix2 t 0)).toInt.toNat 63, by omega⟩ k d) := by
  unfold Host.gather
  congr 1
  funext a
  refine Fin.ext ?_
  show gather_S64x256x1024_S320x1_S320x256x1024_12_0_n_n_0_1_12561024.start (ix3 t k d) ix a + gather_S64x256x1024_S320x1_S320x256x1024_12_0_n_n_0_1_12561024.batchCoord (ix3 t k d) a
      + gather_S64x256x1024_S320x1_S320x256x1024_12_0_n_n_0_1_12561024.offCoord (ix3 t k d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil, Nat.add_zero]
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S64x256x1024_S320x1_S320x256x1024_12_0_n_n_0_1_12561024.startIndexMap from List.mem_singleton.mpr rfl)]
    have hsi : gather_S64x256x1024_S320x1_S320x256x1024_12_0_n_n_0_1_12561024.siIdx (ix3 t k d) ⟨List.idxOf (0 : Fin 3) gather_S64x256x1024_S320x1_S320x256x1024_12_0_n_n_0_1_12561024.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · unfold GatherDims.start
    rw [dif_neg (show ¬ (1 : Fin 3) ∈ gather_S64x256x1024_S320x1_S320x256x1024_12_0_n_n_0_1_12561024.startIndexMap from by decide)]
    unfold GatherDims.offCoord
    rw [dif_pos (show (1 : Fin 3) ∈ gather_S64x256x1024_S320x1_S320x256x1024_12_0_n_n_0_1_12561024.sKept from by decide), Nat.zero_add]
    rfl
  · unfold GatherDims.start
    rw [dif_neg (show ¬ (2 : Fin 3) ∈ gather_S64x256x1024_S320x1_S320x256x1024_12_0_n_n_0_1_12561024.startIndexMap from by decide)]
    unfold GatherDims.offCoord
    rw [dif_pos (show (2 : Fin 3) ∈ gather_S64x256x1024_S320x1_S320x256x1024_12_0_n_n_0_1_12561024.sKept from by decide), Nat.zero_add]
    rfl

/-- Blocks of rows times a matrix each, -/
def gat (h : FVec Ideal S320x1024x1024 .f32) (w : FVec Ideal S320x1024x256 .f32) : FVec Ideal S320x1024x256 .f32 :=
  Host.dotGeneral (φ₁ := .f32) (φ₂ := .f32) dot_S320x1024x1024_S320x1024x256_S320x1024x256_2_1_1_2_0_0 none h w

/-- the experts' middle from two of these, -/
def midR (g u : FVec Ideal S320x1024x256 .f32) : FVec Ideal S320x1024x256 .f32 :=
  mulf (mulf g (Host.divf (broadcastInDim S320x1024x256 ![] bcast_S_S320x1024x256 (constant S_ .f32 0x3F800000#32)) (addf (broadcastInDim S320x1024x256 ![] bcast_S_S320x1024x256 (constant S_ .f32 0x3F800000#32)) (Host.exp (Host.negf g))))) u

/-- their way back, -/
def downR (h : FVec Ideal S320x1024x256 .f32) (w : FVec Ideal S320x256x1024 .f32) : FVec Ideal S320x1024x1024 .f32 :=
  Host.dotGeneral (φ₁ := .f32) (φ₂ := .f32) dot_S320x1024x256_S320x256x1024_S320x1024x1024_2_1_1_2_0_0 none h w

/-- and the rows in four quarters. -/
def outR (y : FVec Ideal S320x1024x1024 .f32) : FVec Ideal S4x327680x256 .bf16 :=
  truncf .bf16 (transpose S4x327680x256 [1, 0, 2] (shapeCast S327680x4x256 y shapeCasts_S320x1024x1024_S327680x4x256) transposes_S327680x4x256_S4x327680x256_1_0_2) bitsLt_bf16_f32

theorem gat_apply (h : FVec Ideal S320x1024x1024 .f32) (w : FVec Ideal S320x1024x256 .f32) (t : Fin 320) (s : Fin 1024) (k : Fin 256) :
    gat h w (ix3 t s k) = (∑ d : Fin 1024, (h (ix3 t s d) * w (ix3 t d k) : EReal) : EReal) := by
  unfold gat
  pointwise

theorem midR_apply (g u : FVec Ideal S320x1024x256 .f32) (t : Fin 320) (s : Fin 1024) (k : Fin 256) :
    midR g u (ix3 t s k) = ((g (ix3 t s k) * Ideal.logistic (g (ix3 t s k))) * u (ix3 t s k) : EReal) := by
  unfold midR
  pointwise
  rfl

theorem downR_apply (h : FVec Ideal S320x1024x256 .f32) (w : FVec Ideal S320x256x1024 .f32) (t : Fin 320) (s : Fin 1024) (d : Fin 1024) :
    downR h w (ix3 t s d) = (∑ k : Fin 256, (h (ix3 t s k) * w (ix3 t k d) : EReal) : EReal) := by
  unfold downR
  pointwise

theorem outR_apply (y : FVec Ideal S320x1024x1024 .f32) (j : Fin 4) (r : Fin 327680) (c : Fin 256) :
    outR y (ix3 j r c) = y (ix3 (blockOf r) (⟨r.val % 1024, by omega⟩ : Fin 1024) (⟨j.val * 256 + c.val, by omega⟩ : Fin 1024)) := by
  unfold outR
  pointwise

variable (m : (ℓ : Loc nD τ sig) → Buf (Elt Ideal) ℓ)

/-- The experts' matrices, each block's own. -/
abbrev own1 (P : Vec Ideal S321 .i32) (w : FVec Ideal S1x64x1024x256 .f32) : FVec Ideal S320x1024x256 .f32 :=
  Host.gather gather_S64x1024x256_S320x1_S320x1024x256_12_0_n_n_0_1_11024256 (shapeCast _ w shapeCasts_S1x64x1024x256_S64x1024x256) (named P)
abbrev own2 (P : Vec Ideal S321 .i32) (w : FVec Ideal S1x64x256x1024 .f32) : FVec Ideal S320x256x1024 .f32 :=
  Host.gather gather_S64x256x1024_S320x1_S320x256x1024_12_0_n_n_0_1_12561024 (shapeCast _ w shapeCasts_S1x64x256x1024_S64x256x1024) (named P)

theorem no_of_named {P : Vec Ideal S321 .i32} (hP : Named P) (t : Fin 320) :
    (⟨min (P (ix1 ⟨t.val, by omega⟩)).toInt.toNat 63, by omega⟩ : Fin 64) = expertNo P t := by
  have h := hP t
  refine Fin.ext ?_
  show min (P (ix1 ⟨t.val, _⟩)).toInt.toNat 63 = min (P (ix1 ⟨t.val, _⟩)).toNat 63
  have : (P (ix1 ⟨t.val, by omega⟩)).toInt = (P (ix1 ⟨t.val, by omega⟩)).toNat := by
    rw [BitVec.toInt_eq_toNat_of_lt]; omega
  omega

theorem own1_apply (P : Vec Ideal S321 .i32) (hP : Named P) (w : FVec Ideal S1x64x1024x256 .f32) (t : Fin 320) (d : Fin 1024) (k : Fin 256) :
    own1 P w (ix3 t d k) = w (ix4 0 (expertNo P t) d k) := by
  unfold own1
  rw [gather1, show (⟨min (named P (ix2 t 0)).toInt.toNat 63, by omega⟩ : Fin 64) = expertNo P t from by
    simp only [named_apply P hP]; exact no_of_named hP t]
  pointwise

theorem own2_apply (P : Vec Ideal S321 .i32) (hP : Named P) (w : FVec Ideal S1x64x256x1024 .f32) (t : Fin 320) (k : Fin 256) (d : Fin 1024) :
    own2 P w (ix3 t k d) = w (ix4 0 (expertNo P t) k d) := by
  unfold own2
  rw [gather2, show (⟨min (named P (ix2 t 0)).toInt.toNat 63, by omega⟩ : Fin 64) = expertNo P t from by
    simp only [named_apply P hP]; exact no_of_named hP t]
  pointwise

/-- The reference's result in these steps. -/
theorem res_stage (c : Dev nD) : Value.res_out0 m c
    = outR (downR (midR (gat (hid (m ((c.tc : Thread nD τ).loc main_arg1))) (own1 (m ((c.tc : Thread nD τ).loc main_arg0)) (m ((c.tc : Thread nD τ).loc main_arg2))))
        (gat (hid (m ((c.tc : Thread nD τ).loc main_arg1))) (own1 (m ((c.tc : Thread nD τ).loc main_arg0)) (m ((c.tc : Thread nD τ).loc main_arg3)))))
        (own2 (m ((c.tc : Thread nD τ).loc main_arg0)) (m ((c.tc : Thread nD τ).loc main_arg4)))) := by
  unfold Value.res_out0 Value.res_main_v36 outR downR midR gat
  rfl

/-- The steps on arrays are the experts' rows. -/
theorem steps (P : Vec Ideal S321 .i32) (hP : Named P) (X : Vec Ideal S2x327680x256 .i32) (wg wu : FVec Ideal S1x64x1024x256 .f32)
    (wd : FVec Ideal S1x64x256x1024 .f32) (j : Fin 4) (r : Fin 327680) (c : Fin 256) :
    outR (downR (midR (gat (hid X) (own1 P wg)) (gat (hid X) (own1 P wu))) (own2 P wd)) (ix3 j r c) = rowsOut P X wg wu wd j r c := by
  have hr : (⟨(blockOf r).val * 1024 + (⟨r.val % 1024, by omega⟩ : Fin 1024).val, by omega⟩ : Fin 327680) = r :=
    Fin.ext (by show r.val / 1024 * 1024 + r.val % 1024 = r.val; omega)
  rw [outR_apply]
  simp only [downR_apply, midR_apply, gat_apply, hid_apply, own1_apply P hP, own2_apply P hP, hr]
  rfl

/-- The reference's result at an index. -/
theorem res_eq (c : Dev nD) (hP : Named (m ((c.tc : Thread nD τ).loc main_arg0))) (j : Fin 4) (r : Fin 327680) (k : Fin 256) :
    Value.res_out0 m c (ix3 j r k)
    = rowsOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) j r k :=
  (congrFun (res_stage m c) _).trans (steps _ hP _ _ _ _ _ _ _)

end Cert.Reference3Ideal.At
-- ==== Proof.ExpertsRun.lean ====
/-
  The routed experts' body at one grid point: where the plan counts the block in use it stores the expert's rows, elsewhere nothing.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.DatRel
public import Idealize.ShloMosaic.Lib.Pipeline.ArrRel
public import Idealize.ShloMosaic.Lib.Pipeline.Kit
public import Idealize.ShloMosaic.Lib.Ring
public import Idealize.ShloMosaic.Lib.VecWindow
public import Idealize.ShloMosaic.Lib.Pointwise
public import Idealize.ShloMosaic.Lib.Pipeline.Value
public import Idealize.ShloMosaic.Lib.Tactic
public import Idealize.ShloMosaic.Lib.WordCmp
public import Idealize.ShloMosaic.Lib.Claim

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The plan as the body is handed it. -/
abbrev planRef : Memref sig .tc .smem S321 .i32 := Memref.whole main_arg0
abbrev planRef_whole : planRef.IsWhole := Memref.isWhole_whole _

/-- The plan's buffer on core `c`, and half of the right to read it, at `f`. -/
abbrev PlanBuf (c : Dev nD) {S : Shape} {e : EltTy} (M : Memref sig .tc .smem S e) : Type := Buf (Elt F) (M.view.loc (c : Thread nD τ))
abbrev planHeld (c : Dev nD) {S : Shape} {e : EltTy} (M : Memref sig .tc .smem S e) (f : PlanBuf (F := F) c M) : sProp 𝕄 :=
  M.view.loc (c : Thread nD τ) ↦{fullShare.right} f

/-- The number the plan ends in: how many of its blocks are in use. -/
abbrev inUse (c : Dev nD) (xt : PlanBuf (F := F) c planRef) : BitVec 32 := (xt : S321.Idx → BitVec 32) (ix1 320)

/-- It is what the body reads at the plan's end. -/
theorem last_word (c : Dev nD) (xt : PlanBuf (F := F) c planRef) (h : (Rect.unit (s := S321) ![320] ![1] inb_S321_S1_320).toLoadRect.shape.numel = 1) :
    View.readAt (Elt F) planRef.view (Rect.unit (s := S321) ![320] ![1] inb_S321_S1_320).toLoadRect xt (Shape.Idx.first (h.symm ▸ Nat.one_pos))
      = inUse c xt := by
  show (xt : S321.Idx → BitVec 32) _ = (xt : S321.Idx → BitVec 32) _
  congr 1
  funext a
  apply Fin.ext
  obtain rfl : a = (0 : Fin 1) := Subsingleton.elim (α := Fin 1) _ _
  have h1 : ((Shape.Idx.first (h.symm ▸ Nat.one_pos) : (Rect.unit (s := S321) ![320] ![1] inb_S321_S1_320).shape.Idx) 0).val < 1 := Fin.isLt _
  show 320 + 1 * ((Shape.Idx.first (h.symm ▸ Nat.one_pos) : (Rect.unit (s := S321) ![320] ![1] inb_S321_S1_320).shape.Idx) 0).val = 320
  omega

theorem first_half {sp : Space} (v : View sig .tc sp S2x1024x256 .i32) (f : v.ty.Contents (Elt F)) :
    View.readAt (Elt F) v (Rect.unit (s := S2x1024x256) ![0, 0, 0] S1x1024x256.size inb_S2x1024x256_S1x1024x256_0_0_0).toLoadRect f
      = View.ld (v.read (Elt F) f) (Rect.unit (s := S2x1024x256) ![0, 0, 0] S1x1024x256.size inb_S2x1024x256_S1x1024x256_0_0_0) := rfl
theorem second_half {sp : Space} (v : View sig .tc sp S2x1024x256 .i32) (f : v.ty.Contents (Elt F)) :
    View.readAt (Elt F) v (Rect.unit (s := S2x1024x256) ![1, 0, 0] S1x1024x256.size inb_S2x1024x256_S1x1024x256_1_0_0).toLoadRect f
      = View.ld (v.read (Elt F) f) (Rect.unit (s := S2x1024x256) ![1, 0, 0] S1x1024x256.size inb_S2x1024x256_S1x1024x256_1_0_0) := rfl

/-- What the body stores, from the blocks it is given: the expert's rows, in four quarters. -/
abbrev stored (x0 : Vec F S2x1024x256 .i32) (x1 x2 : Vec F S1x1024x256 .f32) (x3 : Vec F S1x256x1024 .f32) : FVec F S4x1024x256 .bf16 :=
  k0_pay1 (View.ld x0 (Rect.unit (s := S2x1024x256) ![0, 0, 0] S1x1024x256.size inb_S2x1024x256_S1x1024x256_0_0_0))
    (View.ld x0 (Rect.unit (s := S2x1024x256) ![1, 0, 0] S1x1024x256.size inb_S2x1024x256_S1x1024x256_1_0_0)) x1 x2 x3

/-- The body on whole buffers: the inputs' and the plan's are left as they were; where the plan counts the block in use the
    result's holds the expert's rows. -/
theorem run_body (c : Dev nD) (i : grid0.Coords) (arg2 : Memref sig .tc .vmem S2x1024x256 .i32) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x256x1024 .f32) (harg5 : arg5.IsWhole) (arg6 : Memref sig .tc .vmem S4x1024x256 .bf16) (harg6 : arg6.IsWhole)
    (x0 : Vec F S2x1024x256 .i32) (x1 : Vec F S1x1024x256 .f32) (x2 : Vec F S1x1024x256 .f32) (x3 : Vec F S1x256x1024 .f32) (xt : PlanBuf (F := F) c planRef)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ planHeld c planRef xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ X, ⌜k0_cond1 i (inUse c xt) = 1#1 → X = stored x0 x1 x2 x3⌝ ∗ owns (c : Thread nD τ) arg6 fullShare X) ∗ planHeld c planRef xt) -∗ K ⟨⟩))
          ⊢ wp frame (wpE (defs₀ (F := F)) Variants.none c none) E (cc0_moe_routed_experts i planRef planRef_whole arg2 harg2 arg3 harg3 arg4 harg4 arg5 harg5 arg6 harg6) K := by
    simp only [cc0_moe_routed_experts_eq_skeleton]; unfold cc0_moe_routed_experts_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, %hf4, H4⟩, HT, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap
      · iexists _; isplitr; swap; · iexact H4
        ipureintro; rfl
      · ipureintro
        intro hc
        unfold run_body.sl.r run_body.sl.r_1
        rw [last_word]
        rw [dif_pos hc, View.read_writes_full, View.readAt_full, View.readAt_full, View.readAt_full, harg3.read_unread, harg4.read_unread,
          harg5.read_unread, first_half, second_half, harg2.read_unread]
        exact numel1_S1
    iexact HT

end Cert.Kernel3Ideal.Experts

end
-- ==== Proof.ExpertsFrame.lean ====
/-
  The routed experts' run: the arguments unchanged, and of the result what each block in use holds.
-/
module

public import proofs.«01_k».proof.Proof.ExpertsRun

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the call -/

/-- Core `c`'s buffers when the call is entered. -/
abbrev V (c : Dev nD) (b : Ref sig .tc) : Buf (Elt F) ((c : Thread nD τ).loc b) := StableHlo.after hostOps0 (fun b => m (c, b)) b

theorem prefix_fresh : (hostOps0 : List (HloOp τ sig (Elt F))).Forall fun op => op.fresh = ∅ := by
  simp only [List.Forall]; repeat' constructor

set_option maxHeartbeats 800000 in
theorem up_to_call (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub prefix_fresh main_chain

/-! The host operations before the call write none of the arguments. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The plan -/

/-- The plan's contents when the call is entered, and that every device has them. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Every block of weights that the plan names is one of the array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp 𝕄) = iprop(planHeld c planRef (tbl m 0)) := by
  unfold Pipeline.ΦT Pipeline.prefHeld
  rw [show (Finset.univ : Finset (Fin 1)) = {(0 : Fin 1)} from by decide, bigSep_singleton]
  rfl

/-! ## The windows -/

/-- The block of window `w` at point `t`. -/
def given (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! An input's buffer holds its block at every point. -/

theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = given m hO c 0 t) (t : Fin (cfgM m hO).N) (d) : dat.before 0 t d = given m hO c 0 t :=
  (dat.before_in_eq_fetched 0 rfl (fun _ => rfl) (fun _ _ _ => rfl) (fun t => by rw [hafter]; unfold Dat.blockOf given; rw [hA]; try rfl) t d).trans
    (by unfold Dat.fetched Dat.blockOf given; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = given m hO c 1 t) (t : Fin (cfgM m hO).N) (d) : dat.before 1 t d = given m hO c 1 t :=
  (dat.before_in_eq_fetched 1 rfl (fun _ => rfl) (fun _ _ _ => rfl) (fun t => by rw [hafter]; unfold Dat.blockOf given; rw [hA]; try rfl) t d).trans
    (by unfold Dat.fetched Dat.blockOf given; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = given m hO c 2 t) (t : Fin (cfgM m hO).N) (d) : dat.before 2 t d = given m hO c 2 t :=
  (dat.before_in_eq_fetched 2 rfl (fun _ => rfl) (fun _ _ _ => rfl) (fun t => by rw [hafter]; unfold Dat.blockOf given; rw [hA]; try rfl) t d).trans
    (by unfold Dat.fetched Dat.blockOf given; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = given m hO c 3 t) (t : Fin (cfgM m hO).N) (d) : dat.before 3 t d = given m hO c 3 t :=
  (dat.before_in_eq_fetched 3 rfl (fun _ => rfl) (fun _ _ _ => rfl) (fun t => by rw [hafter]; unfold Dat.blockOf given; rw [hA]; try rfl) t d).trans
    (by unfold Dat.fetched Dat.blockOf given; rw [hA]; try rfl)

/-- The result's block is written back at every point. -/
theorem written_back (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 1 (fun _ => rfl) (by decide)) (P := 1) (m := 0) (by decide) rfl t).mpr (Nat.mod_one _) : ∀ t : Fin grid0.N, Pipeline.Window.flushOf grid0 true cc0_transform_4 t = true)

/-- The body at point `t`, on what it is called with there. -/
abbrev bodyAt (a : (pcfg0 (F := F)).Adm) (t : Fin (cfg0 a).N) : Prog (TpuEff nD τ sig (Elt F) Λ₀ .tc) PUnit :=
  cc0_moe_routed_experts (grid0.coords t) planRef planRef_whole (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

abbrev buf0 (hO : Ok m) (t : Fin (cfgM m hO).N) : Memref sig .tc .vmem S2x1024x256 .i32 := spec0_0.stage ((cfgM m hO).slots t 0)
abbrev buf1 (hO : Ok m) (t : Fin (cfgM m hO).N) : Memref sig .tc .vmem S1x1024x256 .f32 := spec0_1.stage ((cfgM m hO).slots t 1)
abbrev buf2 (hO : Ok m) (t : Fin (cfgM m hO).N) : Memref sig .tc .vmem S1x1024x256 .f32 := spec0_2.stage ((cfgM m hO).slots t 2)
abbrev buf3 (hO : Ok m) (t : Fin (cfgM m hO).N) : Memref sig .tc .vmem S1x256x1024 .f32 := spec0_3.stage ((cfgM m hO).slots t 3)
abbrev buf4 (hO : Ok m) (t : Fin (cfgM m hO).N) : Memref sig .tc .vmem S4x1024x256 .bf16 := spec0_4.stage ((cfgM m hO).slots t 4)

/-! ## What each point leaves -/

/-- The one window of which less than its contents is said: the result's. -/
def marked : Fin 5 → Bool := fun w => w.val == 4

/-- Point `t` is in use: the plan counts its block. -/
abbrev Used (c : Dev nD) (t : Fin grid0.N) : Prop := k0_cond1 (grid0.coords t) (inUse (F := F) c (tbl m 0)) = 1#1

/-- The expert's rows of point `t`'s block. -/
abbrev rows (hO : Ok m) (c : Dev nD) (t : Fin (cfgM m hO).N) : FVec F S4x1024x256 .bf16 :=
  stored (given m hO c 0 t) (given m hO c 1 t) (given m hO c 2 t) (given m hO c 3 t)

/-- The proof data: every array as the call finds it, every input's buffer at its block, nothing named of the result's. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => given m hO c 0 t
    | ⟨1, _⟩ => given m hO c 1 t
    | ⟨2, _⟩ => given m hO c 2 t
    | ⟨3, _⟩ => given m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- What the result's buffer holds after point `t`: the expert's rows, if the point is in use. -/
def Holds (hO : Ok m) (c : Dev nD) : (w : Fin (cfgM m hO).W) → Fin (cfgM m hO).N → (((cfgM m hO).win w).block.Idx → Elt F ((cfgM m hO).win w).elt) → Prop
  | ⟨4, _⟩ => fun t X => Used m c t → X = rows m hO c t
  | ⟨0, _⟩ | ⟨1, _⟩ | ⟨2, _⟩ | ⟨3, _⟩ => fun _ _ => True

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = given m hO c 0 t := by dsimp only [dats]; try rfl
theorem after1 (hO : Ok m) (c : Dev nD) (t : Fin (cfgM m hO).N) : (dats m hO 0 c).after 1 t = given m hO c 1 t := by dsimp only [dats]; try rfl
theorem after2 (hO : Ok m) (c : Dev nD) (t : Fin (cfgM m hO).N) : (dats m hO 0 c).after 2 t = given m hO c 2 t := by dsimp only [dats]; try rfl
theorem after3 (hO : Ok m) (c : Dev nD) (t : Fin (cfgM m hO).N) : (dats m hO 0 c).after 3 t = given m hO c 3 t := by dsimp only [dats]; try rfl
theorem before0 (hO : Ok m) (c : Dev nD) (t : Fin (cfgM m hO).N) (d) : (dats m hO 0 c).before 0 t d = given m hO c 0 t :=
  before0_of m hO (dats m hO 0 c) (A_eq m hO c 0) (after0 m hO c) t d
theorem before1 (hO : Ok m) (c : Dev nD) (t : Fin (cfgM m hO).N) (d) : (dats m hO 0 c).before 1 t d = given m hO c 1 t :=
  before1_of m hO (dats m hO 0 c) (A_eq m hO c 1) (after1 m hO c) t d
theorem before2 (hO : Ok m) (c : Dev nD) (t : Fin (cfgM m hO).N) (d) : (dats m hO 0 c).before 2 t d = given m hO c 2 t :=
  before2_of m hO (dats m hO 0 c) (A_eq m hO c 2) (after2 m hO c) t d
theorem before3 (hO : Ok m) (c : Dev nD) (t : Fin (cfgM m hO).N) (d) : (dats m hO 0 c).before 3 t d = given m hO c 3 t :=
  before3_of m hO (dats m hO 0 c) (A_eq m hO c 3) (after3 m hO c) t d

/-! ## The body at a point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (buf0 m hO t) fullShare ((dats m hO 0 c).before 0 t d))
    ∗ (∃ d, owns (c : Thread nD τ) (buf1 m hO t) fullShare ((dats m hO 0 c).before 1 t d))
    ∗ (∃ d, owns (c : Thread nD τ) (buf2 m hO t) fullShare ((dats m hO 0 c).before 2 t d))
    ∗ (∃ d, owns (c : Thread nD τ) (buf3 m hO t) fullShare ((dats m hO 0 c).before 3 t d))
    ∗ (∃ Y, ⌜((dats m hO 0 c).toRRel marked (Holds m hO c)).Finds 4 t Y⌝ ∗ owns (c : Thread nD τ) (buf4 m hO t) fullShare Y))

/-- and what it gives back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (buf0 m hO t) fullShare ((dats m hO 0 c).after 0 t)
    ∗ owns (c : Thread nD τ) (buf1 m hO t) fullShare ((dats m hO 0 c).after 1 t)
    ∗ owns (c : Thread nD τ) (buf2 m hO t) fullShare ((dats m hO 0 c).after 2 t)
    ∗ owns (c : Thread nD τ) (buf3 m hO t) fullShare ((dats m hO 0 c).after 3 t)
    ∗ (∃ X, ⌜Used m c t → X = rows m hO c t⌝ ∗ owns (c : Thread nD τ) (buf4 m hO t) fullShare X))

theorem at_point (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3]
  rw [show (dats m hO 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩, ⟨%d4, -, H4⟩⟩
  iapply (run_body c (grid0.coords t) _ _ _ _ _ _ _ _ _ _ (given m hO c 0 t) (given m hO c 1 t) (given m hO c 2 t) (given m hO c 3 t) (tbl m 0) Set.univ _)
  isplitl [H0]; · iexact H0
  isplitl [H1]; · iexact H1
  isplitl [H2]; · iexact H2
  isplitl [H3]; · iexact H3
  isplitl [H4]; · iexists _; iexact H4
  isplitl [HT]; · iexact HT
  iintro ⟨H0, H1, H2, H3, ⟨%X, %hX, H4⟩, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  iexists X
  isplitr
  · ipureintro; exact hX
  iexact H4

theorem called (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem obligation (hO : Ok m) (c : Dev nD) :
    Pipeline.BodyObligationRel (dats (F := F) m hO 0 c) (defs₀ (F := F)) Variants.none () Set.univ marked (Holds m hO c) := fun t => by
  rw [bigSep_W0, bigSep_W0, called m hO]
  exact triple_restated (at_point m hO c t) rfl .rfl fun _ => .rfl

/-! ## The run -/

/-- The proof data as the launch takes them. -/
abbrev rel (hO : Ok m) (c : Dev nD) : Pipeline.RDat τ (Elt F) Unit ℕ (UR sig nD τ) ℕ (cfgM m hO) c := (dats m hO 0 c).toRRel marked (Holds m hO c)

set_option backward.isDefEq.respectTransparency.types false in
/-- Every run ends, with every counter at zero, every array the call reads as it was, and the result's written by the blocks its
    buffer held. -/
theorem launched (hO : Ok m) : θ_run defs (onTc (τ := τ) (main (F := F))) (s₀ m ρ) (fun r => (Pipeline.RDat.FramePost ((Pipeline.pin pcfgs fun _ => adm m hO) 0) (rel m hO) (V m)) r ∧ r.2.sem = fun _ => 0) :=
  Pipeline.RDat.θ_run_frameP (Q' := _) pcfgs (fun _ => adm m hO) (0 : Fin 1) launch0 defs₀ Variants.none (rel m hO) m ρ main
    (hbody := fun c => (obligation m hO c).toRRel) (hshare := fun c => (dats m hO 0 c).share_full fun _ => rfl)
    (howed := fun _ _ => rfl) (V := V m) (hmain := up_to_call m Variants.none) (hA := A_eq m hO) (hpf := V_pre m) (hΦ := fun _ _ => rfl)

/-- The arguments as the run leaves them. -/
abbrev Unchanged (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)

theorem unchanged_of (hO : Ok m) {r : PUnit × MemSt nD τ sig (Elt F)} (h : Pipeline.RDat.FramePost ((Pipeline.pin pcfgs fun _ => adm m hO) 0) (rel m hO) (V m) r)
    (c : Dev nD) : Unchanged m r c :=
  ⟨((h c).2 main_arg0 (by decide : main_arg0 ∈ Pipeline.restRefs sig spec0)).trans (V_main_arg0 m c),
      (Pipeline.RDat.FramePost.arr_in h c 0 rfl).trans ((A_eq m hO c 0).trans (V_main_arg1 m c)),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩

/-- The frame: every run ends with the arguments unchanged and every counter at zero. -/
theorem frame (hO : Ok m) : θ_run defs (onTc (τ := τ) (main (F := F))) ⟨m, fun _ => 0, ρ⟩ (fun r => (∀ c : Dev nD, Unchanged m r c) ∧ r.2.sem = fun _ => 0) :=
  (θ_run defs _ _).mono (fun _ h => ⟨unchanged_of m hO h.1, h.2⟩) (launched m ρ hO)

end Cert.Kernel3Ideal.Experts

end
-- ==== Proof.ExpertsOk.lean ====
/-
  What the precondition and the mask say of the plan.
-/
module

public import proofs.«01_k».proof.Proof.ExpertsFrame
public import proofs.«01_k».proof.Proof.ExpertsRow
public import proofs.«01_k».proof.Proof.Gen.Pre_names_experts
public import proofs.«01_k».proof.Proof.Gen.On_rows_in_use

@[expose] public section

set_option maxRecDepth 16384

noncomputable section

namespace Cert.Experts

open Idealize.ShloMosaic

variable {F : FTy → Type} [FloatOps F]

/-- The precondition says that the plan names experts only. -/
theorem named_of_pre [Pre_names_experts.Facts] (P : IVec ⟨1, ![321]⟩ 32) (x1 : IVec ⟨3, ![2, 327680, 256]⟩ 32)
    (x2 x3 : FVec F ⟨4, ![1, 64, 1024, 256]⟩ .f32) (x4 : FVec F ⟨4, ![1, 64, 256, 1024]⟩ .f32)
    (h : Pre_names_experts.fn (F := F) P x1 x2 x3 x4 = fun _ => 1#1) : Named P := by
  intro t
  have h1 : IntOp.andi (IntOp.cmpi .sge (P (ix1 ⟨t.val, by omega⟩)) 0#32) (IntOp.cmpi .slt (P (ix1 ⟨t.val, by omega⟩)) 64#32) = 1#1 := by
    rw [← congrFun h (ix1 t)]
    unfold Pre_names_experts.fn
    dsimp only
    symm
    pointwise
  rw [show (64#32 : BitVec 32) = BitVec.ofNat 32 64 from rfl, WordCmp.andi_sge_zero_slt_ofNat (by decide), WordCmp.ofBool_decide_eq_one_iff] at h1
  exact ⟨(WordCmp.toInt_nonneg_iff_lt_half _).mpr (by omega), h1⟩

/-- The mask selects rows of blocks that the plan counts. -/
theorem used_of_mask [On_rows_in_use.Facts] (P : IVec ⟨1, ![321]⟩ 32) (x1 : IVec ⟨3, ![2, 327680, 256]⟩ 32)
    (x2 x3 : FVec F ⟨4, ![1, 64, 1024, 256]⟩ .f32) (x4 : FVec F ⟨4, ![1, 64, 256, 1024]⟩ .f32) (j : Fin 4) (r : Fin 327680) (c : Fin 256)
    (h : On_rows_in_use.fn (F := F) P x1 x2 x3 x4 (ix3 j r c) = 1#1) :
    IntOp.cmpi .slt (BitVec.ofNat 32 (blockOf r).val) (P (ix1 320)) = 1#1 := by
  rw [← h]
  unfold On_rows_in_use.fn
  dsimp only
  symm
  pointwise

end Cert.Experts

namespace Cert.Kernel3Ideal.Experts

open Cert.Kernel3Ideal Cert.Kernel3Ideal.Gen Cert.Experts
open Idealize.ShloMosaic Idealize.ShloMosaic.TcCoe Idealize.SL.Sem

variable {F : FTy → Type} [FloatOps F] (m : (ℓ : Loc nD τ sig) → Buf (Elt F) ℓ)

theorem coord_lt (i : grid0.Coords) : (i 0).val < 320 := (i 0).isLt

/-- The word of the plan that an index map reads at grid point `i`. -/
theorem word_at (pf : pre0.Contents (Elt F)) (i : grid0.Coords) :
    (pf.at 0 (Rect.unit (s := S321) ![(BitVec.ofNat 32 (i 0).val).toNat] S1.size (k0_off1_inb i)) numel1_S1 : BitVec 32)
      = (pf 0 : S321.Idx → BitVec 32) (ix1 ⟨(i 0).val, Nat.lt_succ_of_lt (coord_lt i)⟩) := by
  have hi : (BitVec.ofNat 32 (i 0).val).toNat = (i 0).val := WordCmp.toNat_ofNat_of_lt (Nat.lt_trans (coord_lt i) (by decide))
  show (pf 0 : S321.Idx → BitVec 32) _ = (pf 0 : S321.Idx → BitVec 32) _
  congr 1
  funext a
  apply Fin.ext
  obtain rfl : a = (0 : Fin 1) := Subsingleton.elim (α := Fin 1) _ _
  have h1 : ∀ y : S1.Idx, (y 0).val = 0 := fun y => by
    have : (y 0).val < 1 := (y 0).isLt
    omega
  exact (congrArg (fun n => (BitVec.ofNat 32 (i 0).val).toNat + 1 * n) (h1 _)).trans ((Nat.add_zero _).trans hi)

/-- The block of weights that the index maps name at grid point `i`. -/
theorem transform_1_eq (pf : pre0.Contents (Elt F)) (h : Named (pf 0)) (i : grid0.Coords) :
    cc0_transform_1 k0_off1_inb numel1_S1 pf i = ![(expertNo (pf 0) ⟨(i 0).val, coord_lt i⟩).val, 0, 0] := by
  have e : ((pf 0 : S321.Idx → BitVec 32) (ix1 ⟨(i 0).val, Nat.lt_succ_of_lt (coord_lt i)⟩)).toNat = (expertNo (pf 0) ⟨(i 0).val, coord_lt i⟩).val := by
    exact (Nat.min_eq_left (Nat.le_of_lt_succ (h ⟨(i 0).val, coord_lt i⟩).2)).symm
  rw [← e, ← word_at pf i]
  rfl
theorem transform_2_eq (pf : pre0.Contents (Elt F)) (h : Named (pf 0)) (i : grid0.Coords) :
    cc0_transform_2 k0_off1_inb numel1_S1 pf i = ![(expertNo (pf 0) ⟨(i 0).val, coord_lt i⟩).val, 0, 0] := transform_1_eq pf h i
theorem transform_3_eq (pf : pre0.Contents (Elt F)) (h : Named (pf 0)) (i : grid0.Coords) :
    cc0_transform_3 k0_off1_inb numel1_S1 pf i = ![(expertNo (pf 0) ⟨(i 0).val, coord_lt i⟩).val, 0, 0] := transform_1_eq pf h i

theorem tbl_eq (j : S321.Idx) : (tbl m 0 : S321.Idx → BitVec 32) j = (m ((0 : Dev nD).tc.loc main_arg0) : S321.Idx → BitVec 32) j :=
  congrFun (V_main_arg0 m 0) j

/-- The plan the call reads is the argument. -/
theorem tbl_arg (c : Dev nD) : (tbl m 0 : S321.Idx → BitVec 32) = m ((c.tc : Thread nD τ).loc main_arg0) := by
  obtain rfl : c = 0 := Subsingleton.elim _ _
  funext j
  exact tbl_eq m j

theorem named_of_arg (c : Dev nD) (h : Named (m ((c.tc : Thread nD τ).loc main_arg0))) : Named (tbl m 0) := by
  obtain rfl : c = 0 := Subsingleton.elim _ _
  intro t
  rw [tbl_eq]
  exact h t

/-- A plan that names experts only gives every point a block of weights. -/
theorem ok_of_named (h : Named (tbl m 0)) : Ok m := by
  unfold Ok ok0
  refine ⟨fun i => ⟨fun a => ?_, Or.inl rfl⟩, fun i => ⟨fun a => ?_, Or.inl rfl⟩, fun i => ⟨fun a => ?_, Or.inl rfl⟩⟩
  all_goals
    first | rw [transform_1_eq (tbl m) h] | rw [transform_2_eq (tbl m) h] | rw [transform_3_eq (tbl m) h]
    have := (expertNo (tbl m 0) ⟨(i 0).val, coord_lt i⟩).isLt
    match a with
    | ⟨0, _⟩ => show ((expertNo (tbl m 0) ⟨(i 0).val, coord_lt i⟩).val + 1) * 1 ≤ 64; omega
    | ⟨1, _⟩ => exact Nat.le_of_eq (Nat.one_mul _)
    | ⟨2, _⟩ => exact Nat.le_of_eq (Nat.one_mul _)

/-- The frame, from what the precondition says of the plan. -/
theorem frame_of_named (ρ : Dev nD → PrngReg) (h : Named (m (((0 : Dev nD).tc : Thread nD τ).loc main_arg0))) :
    θ_run defs (onTc (τ := τ) (main (F := F))) ⟨m, fun _ => 0, ρ⟩ (fun r => (∀ c : Dev nD, Unchanged m r c) ∧ r.2.sem = fun _ => 0) :=
  frame m ρ (ok_of_named m (named_of_arg m 0 h))

end Cert.Kernel3Ideal.Experts

end
-- ==== Proof.ExpertsBlock.lean ====
/-
  What one grid point of the routed experts' kernel computes, row by row.
-/
module

public import proofs.«01_k».proof.Proof.ExpertsRun
public import proofs.«01_k».proof.Proof.ExpertsRow

@[expose] public section

noncomputable section

namespace Cert.Kernel3Ideal.Block

open Cert.Kernel3Ideal Cert.Kernel3Ideal.Gen Cert.Combine
open Idealize.ShloMosaic Idealize.ShloMosaic.TcCoe Idealize.SL.Sem

variable (x0 : Vec Ideal S2x1024x256 .i32)

/-- Row `s` of the experts' input, as words. -/
abbrev hRow (s : Fin 1024) (i : Fin 2) (c : Fin 256) : BitVec 32 := x0 (ix3 i s c)

/-- The two halves of the words, each as a block. -/
abbrev low : IVec S1024x256 32 := shapeCast S1024x256 (View.ld x0 (Rect.unit (s := S2x1024x256) ![0, 0, 0] S1x1024x256.size inb_S2x1024x256_S1x1024x256_0_0_0)) shapeCasts_S1x1024x256_S1024x256
abbrev high : IVec S1024x256 32 := shapeCast S1024x256 (View.ld x0 (Rect.unit (s := S2x1024x256) ![1, 0, 0] S1x1024x256.size inb_S2x1024x256_S1x1024x256_1_0_0)) shapeCasts_S1x1024x256_S1024x256

set_option maxRecDepth 16384 in
/-- The four quarters of the input laid side by side are its rows' numbers. -/
theorem hid_eq : concatenate S1024x1024 1 [⟨S1024x256, unpackElementwise (F := Ideal) 0 (low x0)⟩,
      ⟨S1024x256, unpackElementwise 1 (low x0)⟩, ⟨S1024x256, unpackElementwise 0 (high x0)⟩, ⟨S1024x256, unpackElementwise 1 (high x0)⟩]
      concatenates_S1024x256_S1024x256_S1024x256_S1024x256_S1024x1024_d1
    = fun j => num (hRow x0 (j 0)) (j 1) := by
  funext j
  obtain ⟨s, d, rfl⟩ : ∃ (s : Fin 1024) (d : Fin 1024), j = ix2 s d := ⟨j 0, j 1, eq_ix2 j⟩
  unfold low high
  pointwise
  by_cases h1 : d.val < 256
  · rw [dif_pos h1]
    rw [num_at _ d 0 0 ⟨d.val, h1⟩ (by omega) (by simp)]
  rw [dif_neg h1]
  by_cases h2 : d.val - 256 < 256
  · rw [dif_pos h2]
    rw [num_at _ d 0 1 ⟨d.val - 256, h2⟩ (by omega) (by simp; omega)]
  rw [dif_neg h2]
  by_cases h3 : d.val - 256 - 256 < 256
  · rw [dif_pos h3]
    rw [num_at _ d 1 0 ⟨d.val - 256 - 256, h3⟩ (by omega) (by simp; omega)]
  rw [dif_neg h3]
  rw [num_at _ d 1 1 ⟨d.val - 256 - 256 - 256, by omega⟩ (by omega) (by simp; omega)]

set_option maxRecDepth 16384 in
set_option maxHeartbeats 1600000 in
/-- What the body stores, at an index. -/
theorem stored_apply (x1 x2 : Vec Ideal S1x1024x256 .f32) (x3 : Vec Ideal S1x256x1024 .f32) (j : Fin 4) (s : Fin 1024) (c : Fin 256) :
    Experts.stored x0 x1 x2 x3 (ix3 j s c)
      = shared (hRow x0 s) (fun d k => x1 (ix3 0 d k)) (fun d k => x2 (ix3 0 d k)) (fun k d => x3 (ix3 0 k d)) ⟨j.val * 256 + c.val, by omega⟩ := by
  unfold Experts.stored k0_pay1
  dsimp only
  rw [hid_eq]
  fin_cases j
  · pointwise
    rfl
  · pointwise
    rfl
  · pointwise
    rfl
  · pointwise
    rfl

end Cert.Kernel3Ideal.Block
-- ==== Proof.ExpertsValue.lean ====
/-
  The routed experts' result array after a run, where the plan counts its blocks.
-/
module

public import proofs.«01_k».proof.Proof.ExpertsOk
public import proofs.«01_k».proof.Proof.ExpertsBlock
public import Idealize.ShloMosaic.Lib.Pipeline.ValueKit
public import Idealize.ShloMosaic.Lib.Pipeline.Covers

@[expose] public section

set_option maxRecDepth 16384

noncomputable section

namespace Cert.Kernel3Ideal.Experts

open Cert.Kernel3Ideal Cert.Kernel3Ideal.Gen Cert.Experts Cert.Combine
open Idealize.ShloMosaic Idealize.ShloMosaic.TcCoe Idealize.SL.Sem

variable (m : (ℓ : Loc nD τ sig) → Buf (Elt Ideal) ℓ) (ρ : Dev nD → PrngReg)

/-- The one coordinate of point `t`. -/
theorem coord : ∀ t : Fin grid0.N, (grid0.coords t 0).val = t.val := by decide +kernel

theorem word_coord (t : Fin grid0.N) : (BitVec.ofNat 32 (grid0.coords t 0).val).toNat = t.val := by
  rw [coord]
  have h : t.val < 320 := t.isLt
  exact WordCmp.toNat_ofNat_of_lt (by omega)

/-- Row `s` of point `t`'s block, counted through all blocks. -/
abbrev rowAt (t : Fin grid0.N) (s : Fin 1024) : Fin 327680 := ⟨t.val * 1024 + s.val, by have h : t.val < 320 := t.isLt; omega⟩

/-! The matrices, reshaped before the call. -/

theorem V_main_v0 (c : Dev nD) : V m c main_v0 = shapeCast S64x1024x256 (m ((c : Thread nD τ).loc main_arg2)) shapeCasts_S1x64x1024x256_S64x1024x256 := by
  unfold V
  after_results_simp <;> rfl
theorem V_main_v1 (c : Dev nD) : V m c main_v1 = shapeCast S64x1024x256 (m ((c : Thread nD τ).loc main_arg3)) shapeCasts_S1x64x1024x256_S64x1024x256 := by
  unfold V
  after_results_simp <;> rfl
theorem V_main_v2 (c : Dev nD) : V m c main_v2 = shapeCast S64x256x1024 (m ((c : Thread nD τ).loc main_arg4)) shapeCasts_S1x64x256x1024_S64x256x1024 := by
  unfold V
  after_results_simp <;> rfl

theorem cast1 (w : Vec Ideal S1x64x1024x256 .f32) (e : Fin 64) (d : Fin 1024) (k : Fin 256) :
    shapeCast S64x1024x256 w shapeCasts_S1x64x1024x256_S64x1024x256 (ix3 e d k) = w (ix4 0 e d k) := by
  pointwise
theorem cast2 (w : Vec Ideal S1x64x256x1024 .f32) (e : Fin 64) (k : Fin 256) (d : Fin 1024) :
    shapeCast S64x256x1024 w shapeCasts_S1x64x256x1024_S64x256x1024 (ix3 e k d) = w (ix4 0 e k d) := by
  pointwise

/-! The blocks a point is given, read at the arrays. -/

theorem given0 (hO : Ok m) (c : Dev nD) (t : Fin grid0.N) (q : Fin 2) (s : Fin 1024) (k : Fin 256) :
    (given m hO c 0 t : Vec Ideal S2x1024x256 .i32) (ix3 q s k) = m ((c : Thread nD τ).loc main_arg1) (ix3 q (rowAt t s) k) := by
  rw [← V_main_arg1 m c]
  show (V m c main_arg1 : S2x327680x256.Idx → BitVec 32) _ = (V m c main_arg1 : S2x327680x256.Idx → BitVec 32) _
  congr 1
  funext a
  apply Fin.ext
  match a with
  | ⟨0, _⟩ => show 0 * 2 + 1 * q.val = q.val; omega
  | ⟨1, _⟩ => show (BitVec.ofNat 32 (grid0.coords t 0).val).toNat * 1024 + 1 * s.val = t.val * 1024 + s.val; rw [word_coord]; omega
  | ⟨2, _⟩ => show 0 * 256 + 1 * k.val = k.val; omega

/-- The expert of point `t`. -/
abbrev noAt (t : Fin grid0.N) : Fin 64 := expertNo (tbl m 0) ⟨t.val, t.isLt⟩

theorem no_coord (t : Fin grid0.N) : expertNo (tbl m 0) ⟨(grid0.coords t 0).val, coord_lt (grid0.coords t)⟩ = noAt m t := by
  congr 1; exact Fin.ext (coord t)

theorem given1 (hO : Ok m) (hP : Named (tbl m 0)) (c : Dev nD) (t : Fin grid0.N) (d : Fin 1024) (k : Fin 256) :
    (given m hO c 1 t : Vec Ideal S1x1024x256 .f32) (ix3 0 d k) = m ((c : Thread nD τ).loc main_arg2) (ix4 0 (noAt m t) d k) := by
  have e : (given m hO c 1 t : Vec Ideal S1x1024x256 .f32) (ix3 0 d k) = (V m c main_v0 : S64x1024x256.Idx → Ideal .f32) (ix3 (noAt m t) d k) := by
    show (V m c main_v0 : S64x1024x256.Idx → Ideal .f32) _ = (V m c main_v0 : S64x1024x256.Idx → Ideal .f32) _
    congr 1
    funext a
    apply Fin.ext
    have ht := transform_1_eq (tbl m) hP (grid0.coords t)
    rw [no_coord] at ht
    match a with
    | ⟨0, _⟩ => show cc0_transform_1 k0_off1_inb numel1_S1 (tbl m) (grid0.coords t) 0 * 1 + 1 * 0 = (noAt m t).val; rw [ht]; show (noAt m t).val * 1 + 1 * 0 = _; omega
    | ⟨1, _⟩ => show 0 * 1024 + 1 * d.val = d.val; omega
    | ⟨2, _⟩ => show 0 * 256 + 1 * k.val = k.val; omega
  rw [e, V_main_v0]
  exact cast1 _ _ _ _

theorem given2 (hO : Ok m) (hP : Named (tbl m 0)) (c : Dev nD) (t : Fin grid0.N) (d : Fin 1024) (k : Fin 256) :
    (given m hO c 2 t : Vec Ideal S1x1024x256 .f32) (ix3 0 d k) = m ((c : Thread nD τ).loc main_arg3) (ix4 0 (noAt m t) d k) := by
  have e : (given m hO c 2 t : Vec Ideal S1x1024x256 .f32) (ix3 0 d k) = (V m c main_v1 : S64x1024x256.Idx → Ideal .f32) (ix3 (noAt m t) d k) := by
    show (V m c main_v1 : S64x1024x256.Idx → Ideal .f32) _ = (V m c main_v1 : S64x1024x256.Idx → Ideal .f32) _
    congr 1
    funext a
    apply Fin.ext
    have ht := transform_2_eq (tbl m) hP (grid0.coords t)
    rw [no_coord] at ht
    match a with
    | ⟨0, _⟩ => show cc0_transform_2 k0_off1_inb numel1_S1 (tbl m) (grid0.coords t) 0 * 1 + 1 * 0 = (noAt m t).val; rw [ht]; show (noAt m t).val * 1 + 1 * 0 = _; omega
    | ⟨1, _⟩ => show 0 * 1024 + 1 * d.val = d.val; omega
    | ⟨2, _⟩ => show 0 * 256 + 1 * k.val = k.val; omega
  rw [e, V_main_v1]
  exact cast1 _ _ _ _

theorem given3 (hO : Ok m) (hP : Named (tbl m 0)) (c : Dev nD) (t : Fin grid0.N) (k : Fin 256) (d : Fin 1024) :
    (given m hO c 3 t : Vec Ideal S1x256x1024 .f32) (ix3 0 k d) = m ((c : Thread nD τ).loc main_arg4) (ix4 0 (noAt m t) k d) := by
  have e : (given m hO c 3 t : Vec Ideal S1x256x1024 .f32) (ix3 0 k d) = (V m c main_v2 : S64x256x1024.Idx → Ideal .f32) (ix3 (noAt m t) k d) := by
    show (V m c main_v2 : S64x256x1024.Idx → Ideal .f32) _ = (V m c main_v2 : S64x256x1024.Idx → Ideal .f32) _
    congr 1
    funext a
    apply Fin.ext
    have ht := transform_3_eq (tbl m) hP (grid0.coords t)
    rw [no_coord] at ht
    match a with
    | ⟨0, _⟩ => show cc0_transform_3 k0_off1_inb numel1_S1 (tbl m) (grid0.coords t) 0 * 1 + 1 * 0 = (noAt m t).val; rw [ht]; show (noAt m t).val * 1 + 1 * 0 = _; omega
    | ⟨1, _⟩ => show 0 * 256 + 1 * k.val = k.val; omega
    | ⟨2, _⟩ => show 0 * 1024 + 1 * d.val = d.val; omega
  rw [e, V_main_v2]
  exact cast2 _ _ _ _

/-- The experts' rows from device `c`'s arguments. -/
abbrev G (c : Dev nD) (j : Fin 4) (r : Fin 327680) (k : Fin 256) : Ideal .f32 :=
  rowsOut (tbl m 0) (m ((c : Thread nD τ).loc main_arg1)) (m ((c : Thread nD τ).loc main_arg2))
    (m ((c : Thread nD τ).loc main_arg3)) (m ((c : Thread nD τ).loc main_arg4)) j r k

/-- What point `t` stores, if it is in use. -/
theorem rows_apply (hO : Ok m) (hP : Named (tbl m 0)) (c : Dev nD) (t : Fin grid0.N) (j : Fin 4) (s : Fin 1024) (k : Fin 256) :
    rows m hO c t (ix3 j s k) = G m c j (rowAt t s) k := by
  refine (Block.stored_apply (given m hO c 0 t) (given m hO c 1 t) (given m hO c 2 t) (given m hO c 3 t) j s k).trans ?_
  have hb : blockOf (rowAt t s) = ⟨t.val, t.isLt⟩ := Fin.ext (by show (t.val * 1024 + s.val) / 1024 = t.val; omega)
  unfold G rowsOut Block.hRow
  simp only [given0 m hO, given1 m hO hP, given2 m hO hP, given3 m hO hP]
  rw [hb]

/-- A block the plan counts is in use. -/
theorem used_of_lt (c : Dev nD) (t : Fin grid0.N)
    (h : IntOp.cmpi .slt (BitVec.ofNat 32 t.val) ((tbl m 0 : S321.Idx → BitVec 32) (ix1 320)) = 1#1) : Used m c t := by
  have e : ∀ b : BitVec 1, b = 1#1 → Scalar.cmpi .ne (Scalar.extui b : BitVec 32) 0#32 = 1#1 := fun b hb => by subst hb; decide
  unfold Used k0_cond1
  dsimp only
  rw [coord]
  exact e _ h

theorem nblk4 (hO : Ok m) : ((cfgM m hO).win 4).nblk ⟨0, (by decide : 0 < 3)⟩ = 1 ∧ ((cfgM m hO).win 4).nblk ⟨1, (by decide : 1 < 3)⟩ = 320
    ∧ ((cfgM m hO).win 4).nblk ⟨2, (by decide : 2 < 3)⟩ = 1 := by
  unfold Pipeline.Window.nblk
  exact ⟨(by decide : (4 + 4 - 1) / 4 = 1), (by decide : (327680 + 1024 - 1) / 1024 = 320), (by decide : (256 + 256 - 1) / 256 = 1)⟩

/-- The result's blocks cover its array. -/
theorem covers4 (hO : Ok m) : ((cfgM m hO).win 4).Covers := by
  refine Pipeline.Window.covers_of_index_surj _ rfl (fun a => ?_) fun β => ?_
  · match a with
    | ⟨0, _⟩ => exact (by decide : 0 < 4)
    | ⟨1, _⟩ => exact (by decide : 0 < 1024)
    | ⟨2, _⟩ => exact (by decide : 0 < 256)
  · have h0 : (β ⟨0, (by decide : 0 < 3)⟩).val < 1 := Nat.lt_of_lt_of_eq (β ⟨0, (by decide : 0 < 3)⟩).isLt (nblk4 m hO).1
    have h1 : (β ⟨1, (by decide : 1 < 3)⟩).val < 320 := Nat.lt_of_lt_of_eq (β ⟨1, (by decide : 1 < 3)⟩).isLt (nblk4 m hO).2.1
    have h2 : (β ⟨2, (by decide : 2 < 3)⟩).val < 1 := Nat.lt_of_lt_of_eq (β ⟨2, (by decide : 2 < 3)⟩).isLt (nblk4 m hO).2.2
    refine ⟨(⟨(β ⟨1, (by decide : 1 < 3)⟩).val, h1⟩ : Fin grid0.N), fun a => ?_⟩
    match a with
    | ⟨0, _⟩ => show 0 = (β ⟨0, _⟩).val; omega
    | ⟨1, _⟩ => exact word_coord _
    | ⟨2, _⟩ => show 0 = (β ⟨2, _⟩).val; omega

/-- The result's array after a run, at a row of a block the plan counts. -/
theorem final (hO : Ok m) (hP : Named (tbl m 0)) (c : Dev nD)
    (after : (w : Fin (cfgM m hO).W) → Fin (cfgM m hO).N → ((cfgM m hO).win w).block.Idx → Elt Ideal ((cfgM m hO).win w).elt)
    (hL : ∀ (w : Fin (cfgM m hO).W) (u : Fin (cfgM m hO).N), ((cfgM m hO).win w).flush u = true → (rel m hO c).Leaves w u (after w u))
    (j : Fin 4) (r : Fin 327680) (k : Fin 256)
    (h : IntOp.cmpi .slt (BitVec.ofNat 32 (blockOf r).val) ((tbl m 0 : S321.Idx → BitVec 32) (ix1 320)) = 1#1) :
    (((rel m hO c).withAfter after).arrAt 4 (cfgM m hO).N : S4x327680x256.Idx → Ideal .bf16) (ix3 j r k) = G m c j r k := by
  refine Pipeline.Dat.arrAt_forall_of_covers ((rel m hO c).withAfter after) 4
    (fun i v => ∀ (j : Fin 4) (r : Fin 327680) (k : Fin 256), (i : S4x327680x256.Idx) = ix3 j r k →
      IntOp.cmpi .slt (BitVec.ofNat 32 (blockOf r).val) ((tbl m 0 : S321.Idx → BitVec 32) (ix1 320)) = 1#1 → (v : Ideal .f32) = G m c j r k)
    ?_ (fun t hf y => ?_) (ix3 j r k) (Memref.isWhole_whole _) j r k rfl h
  · exact covers4 m hO
  · intro j r k hi hu
    have hX := Pipeline.Dat.toRRel_leaves (dats m hO 0 c) (fgt := marked) (Rl := Holds m hO c) (w := 4) rfl (hL 4 t hf)
    obtain ⟨j', s, k', rfl⟩ : ∃ (j' : Fin 4) (s : Fin 1024) (k' : Fin 256), (y : S4x1024x256.Idx) = ix3 j' s k' := ⟨_, _, _, eq_ix3 (n0 := 4) (n1 := 1024) (n2 := 256) y⟩
    have hi' : ∀ a : Fin 3, _ = ((ix3 j r k : S4x327680x256.Idx) a).val := fun a => congrArg Fin.val (congrFun hi a)
    have h0 : j' = j := Fin.ext ((by omega : j'.val = 0 * 4 + 1 * j'.val).trans (hi' 0))
    have h1 : rowAt t s = r := Fin.ext ((by rw [word_coord]; show t.val * 1024 + s.val = _; omega :
      (rowAt t s).val = (BitVec.ofNat 32 (grid0.coords t 0).val).toNat * 1024 + 1 * s.val).trans (hi' 1))
    have h2 : k' = k := Fin.ext ((by omega : k'.val = 0 * 256 + 1 * k'.val).trans (hi' 2))
    subst h0 h1 h2
    have hb : blockOf (rowAt t s) = ⟨t.val, t.isLt⟩ := Fin.ext (by show (t.val * 1024 + s.val) / 1024 = t.val; omega)
    rw [hb] at hu
    exact (congrFun (hX (used_of_lt m c t hu)) (ix3 j' s k')).trans (rows_apply m hO hP c t j' s k')

instance : ∀ e, Nonempty (Elt Ideal e) := fun e => ⟨default⟩

/-- Every run ends with the experts' rows in the blocks the plan counts. -/
theorem run (hO : Ok m) (hP : Named (tbl m 0)) :
    θ_run (defs (F := Ideal)) (onTc (τ := τ) (main (F := Ideal))) ⟨m, fun _ => 0, ρ⟩ fun r => ∀ c : Dev nD,
      (∀ (j : Fin 4) (q : Fin 327680) (k : Fin 256),
        IntOp.cmpi .slt (BitVec.ofNat 32 (blockOf q).val) ((tbl m 0 : S321.Idx → BitVec 32) (ix1 320)) = 1#1 →
        (r.2.mem ((c.tc : Thread nD τ).loc main_v3) : S4x327680x256.Idx → Ideal .bf16) (ix3 j q k) = G m c j q k)
      ∧ Unchanged m r c :=
  (θ_run defs _ _).mono (fun r h c => ⟨fun j q k hu => by
    obtain ⟨after, hL, hA⟩ := Pipeline.RDat.FramePost.exists_exact h.1 c
    exact (congrFun (hA 4) (ix3 j q k)).trans (final m hO hP c after hL j q k hu), unchanged_of m hO h.1 c⟩) (launched m ρ hO)

end Cert.Kernel3Ideal.Experts

end
-- ==== Proof.ExpertsBits.lean ====
/-
  The routed experts as the machine runs them: the same program, so the same run.
-/
module

public import proofs.«01_k».proof.Proof.ExpertsOk
public import proofs.«01_k».proof.Proof.Gen.Kernel3

@[expose] public section

set_option maxRecDepth 16384
set_option maxHeartbeats 1000000

noncomputable section

namespace Cert.Kernel3.Experts

open Idealize.ShloMosaic Idealize.ShloMosaic.TcCoe Idealize.SL.Sem

theorem body_eq (i a1 h1 a2 h2 a3 h3 a4 h4 a5 h5 a6 h6) :
    Cert.Kernel3.cc0_moe_routed_experts (F := Bits) i a1 h1 a2 h2 a3 h3 a4 h4 a5 h5 a6 h6
    = Cert.Kernel3Ideal.cc0_moe_routed_experts (F := Bits) i a1 h1 a2 h2 a3 h3 a4 h4 a5 h5 a6 h6 := by rfl

theorem bodies_eq : (Cert.Kernel3.defs₀ : Defs Cert.Kernel3.nD Cert.Kernel3.τ Cert.Kernel3.sig (Elt Bits) Cert.Kernel3.Λ₀) = Cert.Kernel3Ideal.defs₀ (F := Bits) := by
  unfold Cert.Kernel3.defs₀ Cert.Kernel3Ideal.defs₀
  refine congrArg Defs.onTc (funext fun l => ?_)
  match l with
  | 0 => exact funext fun x => body_eq _ _ _ _ _ _ _ _ _ _ _ _ _

theorem defs_eq : Cert.Kernel3.defs (F := Bits) = Cert.Kernel3Ideal.defs (F := Bits) := congrArg (Pipeline.defs Cert.Kernel3Ideal.pcfgs) bodies_eq

/-- The frame, from what the precondition says of the plan. -/
theorem frame (m : (ℓ : Loc Cert.Kernel3.nD Cert.Kernel3.τ Cert.Kernel3.sig) → Buf (Elt Bits) ℓ) (ρ : Dev Cert.Kernel3.nD → PrngReg)
    (h : Cert.Experts.Named (m (((0 : Dev Cert.Kernel3.nD).tc : Thread Cert.Kernel3.nD Cert.Kernel3.τ).loc Cert.Kernel3.main_arg0))) :
    θ_run (Cert.Kernel3.defs (F := Bits)) (onTc (τ := Cert.Kernel3.τ) (Cert.Kernel3.main (F := Bits))) ⟨m, fun _ => 0, ρ⟩
      (fun r => (∀ c : Dev Cert.Kernel3.nD, Cert.Kernel3Ideal.Experts.Unchanged (F := Bits) m r c) ∧ r.2.sem = fun _ => 0) := by
  have hk := Cert.Kernel3Ideal.Experts.frame_of_named (F := Bits) m ρ h
  rw [← defs_eq] at hk
  exact hk

end Cert.Kernel3.Experts

end
-- ==== Proof.PostRow.lean ====
/-
  What one row of the step after the scans is, as plain sums over the extended reals: the two halves' head norms, the
  output projection into the residual stream, the second norm and the router's scores; and that a head's sums may be
  taken as products with the matrix that marks the lanes of one head.
-/
module

public import proofs.«01_k».proof.Proof.InprojRow
public import Idealize.ShloMosaic.Lib.IdealHost

@[expose] public section

noncomputable section

namespace Cert.Post

open Idealize.ShloMosaic Cert.Combine Cert.Inproj

/-- The head lane `k` belongs to, -/
abbrev hd (k : Fin 512) : Fin 8 := ⟨k.val / 64, by omega⟩
/-- its place in the head, -/
abbrev pl (k : Fin 512) : Fin 64 := ⟨k.val % 64, by omega⟩
/-- and lane `j` of head `h`. -/
abbrev ln (h : Fin 8) (j : Fin 64) : Fin 512 := ⟨h.val * 64 + j.val, by omega⟩

/-- The sum over a head's 64 lanes, -/
def tot (y : Fin 512 → EReal) (h : Fin 8) : EReal := ∑ j : Fin 64, y (ln h j)
/-- and their mean. -/
def mean (y : Fin 512 → EReal) (h : Fin 8) : EReal := Ideal.div (tot y h) (Ideal.ofBits .f32 0x42800000#32)

/-- A lane less its head's mean, -/
def cen (y : Fin 512 → EReal) (k : Fin 512) : EReal := y k - mean y (hd k)
/-- over its head's deviation. -/
def lnorm (y : Fin 512 → EReal) (k : Fin 512) : EReal :=
  cen y k * Ideal.rsqrt (mean (fun l => cen y l * cen y l) (hd k) + Ideal.ofBits .f32 0x3A27C5AC#32)
/-- A lane over its head's root mean square. -/
def hnorm (y : Fin 512 → EReal) (k : Fin 512) : EReal :=
  y k * Ideal.rsqrt (mean (fun l => y l * y l) (hd k) + Ideal.ofBits .f32 0x358637BD#32)

/-- A row of the rwkv half: normalised, scaled, shifted, the bonus added, gated. -/
def rwRow (y lg lb bo gr : Fin 512 → EReal) (k : Fin 512) : EReal := (lnorm y k * lg k + lb k + bo k) * gr k
/-- A row of the hgrn half: normalised, scaled, gated by `silu`. -/
def hgRow (o hn g : Fin 512 → EReal) (k : Fin 512) : EReal :=
  (hnorm o k * hn k) * (g k * Ideal.logistic (g k))
/-- The two halves side by side. -/
def mix (a b : Fin 512 → EReal) (k : Fin 1024) : EReal :=
  if h : k.val < 512 then a ⟨k.val, h⟩ else b ⟨k.val - 512, by omega⟩
/-- The residual stream with the projected halves added. -/
def outRow (a b : Fin 512 → EReal) (w : Fin 1024 → Fin 1024 → EReal) (x g1 : Fin 1024 → EReal) (d : Fin 1024) : EReal :=
  x d + g1 d * ∑ k : Fin 1024, mix a b k * w k d

/-- A sum over the two halves. -/
theorem sum_mix (a b : Fin 512 → EReal) (w : Fin 1024 → EReal) :
    ∑ k : Fin 1024, mix a b k * w k
      = (∑ k : Fin 512, a k * w ⟨0 + k.val, by omega⟩) + ∑ k : Fin 512, b k * w ⟨512 + k.val, by omega⟩ := by
  rw [show (∑ k : Fin 1024, mix a b k * w k) = ∑ k : Fin (512 + 512), mix a b k * w k from rfl, Fin.sum_univ_add]
  refine congrArg₂ (· + ·) ?_ ?_
  · refine Finset.sum_congr rfl fun k _ => ?_
    have h1 : mix a b (Fin.castAdd 512 k) = a k := by
      have h : (Fin.castAdd 512 k : Fin 1024).val < 512 := k.isLt
      unfold mix
      rw [dif_pos h]
      rfl
    have h2 : (Fin.castAdd 512 k : Fin 1024) = ⟨0 + k.val, by omega⟩ := Fin.ext (by simp)
    rw [h1, ← h2]
  · refine Finset.sum_congr rfl fun k _ => ?_
    have h1 : mix a b (Fin.natAdd 512 k) = b k := by
      have h : ¬ (Fin.natAdd 512 k : Fin 1024).val < 512 := by simp
      unfold mix
      rw [dif_neg h]
      congr 1
      exact Fin.ext (by simp)
    rw [h1]
    rfl

/-- One where the two lanes are of the same head. -/
def same (l k : Fin 512) : EReal := if l.val / 64 = k.val / 64 then 1 else 0

theorem sum_same (f : Fin 512 → EReal) (k : Fin 512) : ∑ l : Fin 512, f l * same l k = tot f (hd k) := by
  rw [← (finProdFinEquiv (m := 8) (n := 64)).sum_comp (fun l : Fin 512 => f l * same l k), Fintype.sum_prod_type]
  rw [Finset.sum_eq_single (hd k)]
  · unfold tot
    refine Finset.sum_congr rfl fun j _ => ?_
    have e : (finProdFinEquiv (m := 8) (n := 64)) (hd k, j) = ln (hd k) j := Fin.ext (by
      show j.val + 64 * (k.val / 64) = k.val / 64 * 64 + j.val; omega)
    rw [e]
    have : same (ln (hd k) j) k = 1 := if_pos (by show (k.val / 64 * 64 + j.val) / 64 = k.val / 64; omega)
    rw [this, mul_one]
  · intro h _ hne
    refine Finset.sum_eq_zero fun j _ => ?_
    have : same ((finProdFinEquiv (m := 8) (n := 64)) (h, j)) k = 0 := if_neg (by
      show ¬ (j.val + 64 * h.val) / 64 = k.val / 64
      intro hc
      exact hne (Fin.ext (by show h.val = k.val / 64; omega)))
    rw [this, mul_zero]
  · intro h
    exact absurd (Finset.mem_univ _) h

theorem b64 : Ideal.ofBits .f32 0x42800000#32 = ((64 : ℝ) : EReal) := by
  simp [Ideal.ofBits, Ideal.ieee, -EReal.coe_mul]; norm_num
theorem b64' : Ideal.ofBits .f32 0x3C800000#32 = (((64 : ℝ)⁻¹ : ℝ) : EReal) := by
  simp [Ideal.ofBits, Ideal.ieee, -EReal.coe_mul]; norm_num

/-- Times a sixty-fourth is over sixty-four. -/
theorem mul_b64' (a : EReal) : a * Ideal.ofBits .f32 0x3C800000#32 = Ideal.div a (Ideal.ofBits .f32 0x42800000#32) := by
  rw [b64, b64']
  unfold Ideal.div
  rw [if_neg (by norm_num), EReal.coe_inv]

theorem mean_eq (y : Fin 512 → EReal) (h : Fin 8) : mean y h = tot y h * Ideal.ofBits .f32 0x3C800000#32 := (mul_b64' _).symm

theorem hd_ln (h : Fin 8) (j : Fin 64) : hd (ln h j) = h := Fin.ext (by show (h.val * 64 + j.val) / 64 = h.val; omega)

theorem sum_infinite {ι : Type*} (s : Finset ι) (f : ι → EReal) (i : ι) (hi : i ∈ s) (h : f i = ⊤ ∨ f i = ⊥) :
    ∑ j ∈ s, f j = ⊤ ∨ ∑ j ∈ s, f j = ⊥ := by
  classical
  by_contra hc
  have hb : ∀ j ∈ s, f j ≠ ⊥ := by
    intro j hj hjb
    exact hc (Or.inr (by rw [← Finset.add_sum_erase s f hj, hjb, EReal.bot_add]))
  have ht : f i = ⊤ := h.resolve_right (hb i hi)
  refine hc (Or.inl ?_)
  rw [← Finset.add_sum_erase s f hi, ht]
  refine EReal.top_add_of_ne_bot fun h0 => ?_
  have : ∀ t : Finset ι, (∀ j ∈ t, f j ≠ ⊥) → ∑ j ∈ t, f j ≠ ⊥ := by
    intro t
    induction t using Finset.induction_on with
    | empty => intro _; simp
    | insert a t ha ih =>
      intro hh
      rw [Finset.sum_insert ha]
      intro h1
      rcases EReal.add_eq_bot_iff.mp h1 with h2 | h2
      · exact hh a (Finset.mem_insert_self a t) h2
      · exact ih (fun j hj => hh j (Finset.mem_insert_of_mem hj)) h2
  exact this _ (fun j hj => hb j (Finset.mem_of_mem_erase hj)) h0

/-- With the mean taken of the lanes and of what is left of each less itself, a head's norm is the same: what is left is
    nothing where the lanes are numbers, and where one is infinite both norms are zero. -/
def cen' (y : Fin 512 → EReal) (k : Fin 512) : EReal :=
  y k - (tot y (hd k) + tot (fun l => y l - y l) (hd k)) * Ideal.ofBits .f32 0x3C800000#32
def lnorm' (y : Fin 512 → EReal) (k : Fin 512) : EReal :=
  cen' y k * Ideal.rsqrt (tot (fun l => cen' y l * cen' y l) (hd k) * Ideal.ofBits .f32 0x3C800000#32 + Ideal.ofBits .f32 0x3A27C5AC#32)

theorem sub_infinite (a b : EReal) (h : b = ⊤ ∨ b = ⊥) : a - b = ⊤ ∨ a - b = ⊥ := by
  rcases h with rfl | rfl
  · right; rw [sub_eq_add_neg, EReal.neg_top, EReal.add_bot]
  · induction a with
    | bot => right; rfl
    | top => left; rfl
    | coe r => left; rfl

theorem b64'_infinite (a : EReal) (h : a = ⊤ ∨ a = ⊥) :
    a * Ideal.ofBits .f32 0x3C800000#32 = ⊤ ∨ a * Ideal.ofBits .f32 0x3C800000#32 = ⊥ := by
  rw [b64']
  rcases h with rfl | rfl
  · left; exact EReal.top_mul_coe_of_pos (by norm_num)
  · right; exact EReal.bot_mul_coe_of_pos (by norm_num)

/-- Where all of a head's centred lanes are infinite its norm is zero. -/
theorem norm_zero (c : Fin 512 → EReal) (k : Fin 512) (h : ∀ j, c (ln (hd k) j) = ⊤ ∨ c (ln (hd k) j) = ⊥) :
    c k * Ideal.rsqrt (tot (fun l => c l * c l) (hd k) * Ideal.ofBits .f32 0x3C800000#32 + Ideal.ofBits .f32 0x3A27C5AC#32) = 0 := by
  have hs : ∀ j, c (ln (hd k) j) * c (ln (hd k) j) = ⊤ := by
    intro j
    rcases h j with e | e <;> rw [e] <;> rfl
  have ht : tot (fun l => c l * c l) (hd k) = ⊤ := by
    unfold tot
    simp only [hs]
    rfl
  rw [ht, b64', EReal.top_mul_coe_of_pos (by norm_num)]
  have : (⊤ : EReal) + Ideal.ofBits .f32 0x3A27C5AC#32 = ⊤ := EReal.top_add_of_ne_bot (by
    simp [Ideal.ofBits, Ideal.ieee, -EReal.coe_mul])
  rw [this]
  show c k * 0 = 0
  rw [mul_zero]

theorem lnorm'_eq (y : Fin 512 → EReal) (k : Fin 512) : lnorm' y k = lnorm y k := by
  by_cases hf : ∀ j : Fin 64, y (ln (hd k) j) ≠ ⊤ ∧ y (ln (hd k) j) ≠ ⊥
  · have h0 : tot (fun l => y l - y l) (hd k) = 0 := by
      unfold tot
      refine Finset.sum_eq_zero fun j _ => ?_
      exact EReal.sub_self (hf j).1 (hf j).2
    have hm : ∀ l, hd l = hd k → cen' y l = cen y l := by
      intro l hl
      unfold cen' cen
      rw [hl, h0, add_zero, mean_eq]
    unfold lnorm' lnorm
    rw [hm k rfl, mean_eq]
    have : tot (fun l => cen' y l * cen' y l) (hd k) = tot (fun l => cen y l * cen y l) (hd k) := by
      unfold tot
      refine Finset.sum_congr rfl fun j _ => ?_
      show cen' y (ln (hd k) j) * cen' y (ln (hd k) j) = cen y (ln (hd k) j) * cen y (ln (hd k) j)
      rw [hm _ (hd_ln _ j)]
    rw [this]
  · have : ∃ j : Fin 64, y (ln (hd k) j) = ⊤ ∨ y (ln (hd k) j) = ⊥ := by
      by_contra hc
      exact hf fun j => ⟨fun h => hc ⟨j, Or.inl h⟩, fun h => hc ⟨j, Or.inr h⟩⟩
    obtain ⟨j, hj⟩ := this
    have ht : tot y (hd k) = ⊤ ∨ tot y (hd k) = ⊥ := sum_infinite Finset.univ _ j (Finset.mem_univ j) hj
    have hb : tot (fun l => y l - y l) (hd k) = ⊥ := by
      unfold tot
      rw [← Finset.add_sum_erase Finset.univ _ (Finset.mem_univ j)]
      have : y (ln (hd k) j) - y (ln (hd k) j) = ⊥ := by rcases hj with e | e <;> rw [e] <;> rfl
      show (y (ln (hd k) j) - y (ln (hd k) j)) + _ = ⊥
      rw [this, EReal.bot_add]
    have h1 : lnorm' y k = 0 := norm_zero (cen' y) k fun j => by
      unfold cen'
      rw [hd_ln, hb, EReal.add_bot]
      exact sub_infinite _ _ (b64'_infinite _ (Or.inr rfl))
    have h2 : lnorm y k = 0 := by
      unfold lnorm
      rw [mean_eq]
      exact norm_zero (cen y) k fun j => by
        unfold cen
        rw [hd_ln, mean_eq]
        exact sub_infinite _ _ (b64'_infinite _ ht)
    rw [h1, h2]

/-- The arrays the step takes. -/
structure Args where
  y : (⟨4, ![2, 16, 2048, 512]⟩ : Shape).Idx → EReal
  bonus : (⟨3, ![16, 2048, 512]⟩ : Shape).Idx → EReal
  gr : (⟨3, ![16, 2048, 512]⟩ : Shape).Idx → EReal
  lg : (⟨2, ![1, 512]⟩ : Shape).Idx → EReal
  lb : (⟨2, ![1, 512]⟩ : Shape).Idx → EReal
  fw : (⟨3, ![16, 2048, 512]⟩ : Shape).Idx → EReal
  bw : (⟨3, ![16, 2048, 512]⟩ : Shape).Idx → EReal
  hg : (⟨3, ![16, 2048, 2560]⟩ : Shape).Idx → EReal
  hn : (⟨2, ![1, 64]⟩ : Shape).Idx → EReal
  x : (⟨3, ![16, 2048, 1024]⟩ : Shape).Idx → EReal
  w : (⟨3, ![1, 1024, 1024]⟩ : Shape).Idx → EReal
  g1 : (⟨3, ![16, 1, 1024]⟩ : Shape).Idx → EReal
  n2 : (⟨2, ![1, 1024]⟩ : Shape).Idx → EReal
  sc : (⟨3, ![16, 1, 1024]⟩ : Shape).Idx → EReal
  sh : (⟨3, ![16, 1, 1024]⟩ : Shape).Idx → EReal
  rt : (⟨3, ![1, 1024, 64]⟩ : Shape).Idx → EReal

namespace Args

variable (A : Args)

/-- The rwkv half of token `p` of batch `b`, -/
def rw (b : Fin 16) (p : Fin 2048) (k : Fin 512) : EReal :=
  rwRow (fun k => A.y (ix4 0 b p k) + A.y (ix4 1 b p k)) (fun k => A.lg (ix2 0 k)) (fun k => A.lb (ix2 0 k))
    (fun k => A.bonus (ix3 b p k)) (fun k => A.gr (ix3 b p k)) k
/-- the hgrn half, whose gate is the last fifth of that half's projection, -/
def hgr (b : Fin 16) (p : Fin 2048) (k : Fin 512) : EReal :=
  hgRow (fun k => A.fw (ix3 b p k) + A.bw (ix3 b p k)) (fun k => A.hn (ix2 0 (pl k)))
    (fun k => A.hg (ix3 b p ⟨2048 + k.val, by omega⟩)) k
/-- the residual stream after both, -/
def res (b : Fin 16) (p : Fin 2048) (d : Fin 1024) : EReal :=
  outRow (A.rw b p) (A.hgr b p) (fun k n => A.w (ix3 0 k n)) (fun d => A.x (ix3 b p d)) (fun d => A.g1 (ix3 b 0 d)) d
/-- and that normalised and modulated. -/
def h2 (b : Fin 16) (p : Fin 2048) (d : Fin 1024) : EReal :=
  modulated (A.res b p) (fun d => A.n2 (ix2 0 d)) (fun d => A.sc (ix3 b 0 d)) (fun d => A.sh (ix3 b 0 d)) d

/-- The batch and the token of a row counted through all batches. -/
abbrev rb (r : Fin 32768) : Fin 16 := ⟨r.val / 2048, by omega⟩
abbrev rp (r : Fin 32768) : Fin 2048 := ⟨r.val % 2048, by omega⟩

/-- The first result, the residual stream; -/
def stream : (⟨3, ![16, 2048, 1024]⟩ : Shape).Idx → EReal := fun i => A.res (i 0) (i 1) (i 2)
/-- the second, the experts' input in quarters; -/
def quarters : (⟨3, ![4, 32768, 256]⟩ : Shape).Idx → EReal := fun i =>
  A.h2 (rb (i 1)) (rp (i 1)) ⟨(i 0).val * 256 + (i 2).val, by have h0 : (i 0).val < 4 := (i 0).isLt; have h2 : (i 2).val < 256 := (i 2).isLt; omega⟩
/-- the third, the router's scores, where row `8 a + b` is expert `8 b + a`. -/
def scores : (⟨2, ![64, 32768]⟩ : Shape).Idx → EReal := fun i =>
  ∑ d : Fin 1024, A.h2 (rb (i 1)) (rp (i 1)) d
    * A.rt (ix3 0 d ⟨(i 0).val % 8 * 8 + (i 0).val / 8, by have h0 : (i 0).val < 64 := (i 0).isLt; omega⟩)

end Args

end Cert.Post
-- ==== Proof.PostRef.lean ====
/-
  What the reference of the output projection computes, read at an index.
-/
module

public import proofs.«01_k».proof.Proof.Gen.Reference4Ideal.Run
public import proofs.«01_k».proof.Proof.Gen.Reference4Ideal.Read
public import proofs.«01_k».proof.Proof.PostRow
public import Idealize.ShloMosaic.Lib.Pointwise
public import Idealize.ShloMosaic.Lib.IdealHost
public import Idealize.ShloMosaic.Lib.Pipeline.ValueKit

@[expose] public section

set_option maxRecDepth 16384

noncomputable section

namespace Cert.Reference4Ideal.At

open Cert.Reference4Ideal Cert.Reference4Ideal.Gen Cert.Reference4Ideal.Read Cert.Post Cert.Inproj Cert.Combine
open Idealize.ShloMosaic Idealize.ShloMosaic.TcCoe Idealize.SL.Sem

variable (x0 : FVec Ideal S2x16x2048x512 .bf16) (x1 x2 : FVec Ideal S16x2048x512 .f32) (x3 x4 : FVec Ideal S1x512 .f32)
  (x5 x6 : FVec Ideal S16x2048x512 .f32) (x7 : FVec Ideal S16x2048x2560 .f32) (x8 : FVec Ideal S1x64 .f32)
  (x9 : FVec Ideal S16x2048x1024 .f32) (x10 : FVec Ideal S1x1024x1024 .f32) (x11 : FVec Ideal S16x1x1024 .f32)
  (x12 : FVec Ideal S1x1024 .f32) (x13 x14 : FVec Ideal S16x1x1024 .f32) (x15 : FVec Ideal S1x1024x64 .f32)

/-- The two directions of the rwkv half added, -/
abbrev ysum (b : Fin 16) (p : Fin 2048) (k : Fin 512) : EReal := x0 (ix4 0 b p k) + x0 (ix4 1 b p k)
/-- and of the hgrn half. -/
abbrev osum (b : Fin 16) (p : Fin 2048) (k : Fin 512) : EReal := x5 (ix3 b p k) + x6 (ix3 b p k)

theorem ys_at (b : Fin 16) (p : Fin 2048) (h : Fin 8) (j : Fin 64) :
    val_main_v7 (F := Ideal) x0 (ix4 b p h j) = ysum x0 b p (ln h j) := by
  pointwise [val_main_v0, val_main_v1, val_main_v2, val_main_v3, val_main_v4, val_main_v5, val_main_v6, val_main_v7]

theorem mean_at (b : Fin 16) (p : Fin 2048) (h : Fin 8) :
    val_main_v11 (F := Ideal) x0 (ix4 b p h 0) = mean (ysum x0 b p) h := by
  pointwise [val_main_v8, val_main_v9, val_main_v10, val_main_v11, val_main_cst, val_main_cst_0]
  simp only [ys_at]
  rfl

theorem cen_at (b : Fin 16) (p : Fin 2048) (h : Fin 8) (j : Fin 64) :
    val_main_v13 (F := Ideal) x0 (ix4 b p h j) = cen (ysum x0 b p) (ln h j) := by
  pointwise [val_main_v12, val_main_v13]
  simp only [ys_at, mean_at]
  unfold cen
  rw [hd_ln]

theorem cen_at' (b : Fin 16) (p : Fin 2048) (h : Fin 8) (j : Fin 64) :
    val_main_v20 (F := Ideal) x0 (ix4 b p h j) = cen (ysum x0 b p) (ln h j) := by
  pointwise [val_main_v19, val_main_v20]
  simp only [ys_at, mean_at]
  unfold cen
  rw [hd_ln]

theorem lnorm_at (b : Fin 16) (p : Fin 2048) (h : Fin 8) (j : Fin 64) :
    val_main_v25 (F := Ideal) x0 (ix4 b p h j) = lnorm (ysum x0 b p) (ln h j) := by
  pointwise [val_main_v14, val_main_v15, val_main_v16, val_main_v17, val_main_v18, val_main_v21, val_main_v22, val_main_v23, val_main_v24, val_main_v25, val_main_cst_1, val_main_cst_2, val_main_cst_3]
  simp only [cen_at, cen_at']
  unfold lnorm
  rw [hd_ln]
  rfl

/-- The rwkv half. -/
theorem rw_at (b : Fin 16) (p : Fin 2048) (k : Fin 512) :
    val_main_v36 (F := Ideal) x0 x1 x2 x3 x4 (ix3 b p k)
      = rwRow (ysum x0 b p) (fun k => x3 (ix2 0 k)) (fun k => x4 (ix2 0 k)) (fun k => x1 (ix3 b p k)) (fun k => x2 (ix3 b p k)) k := by
  pointwise [val_main_v26, val_main_v27, val_main_v28, val_main_v29, val_main_v30, val_main_v31, val_main_v32, val_main_v33, val_main_v34, val_main_v35, val_main_v36]
  rw [lnorm_at]
  rw [show ln (hd k) (pl k) = k from Fin.ext (by show k.val / 64 * 64 + k.val % 64 = k.val; omega)]
  rfl

theorem os_at (b : Fin 16) (p : Fin 2048) (h : Fin 8) (j : Fin 64) :
    val_main_v38 (F := Ideal) x5 x6 (ix4 b p h j) = osum x5 x6 b p (ln h j) := by
  pointwise [val_main_v37, val_main_v38]

theorem hnorm_at (b : Fin 16) (p : Fin 2048) (h : Fin 8) (j : Fin 64) :
    val_main_v48 (F := Ideal) x5 x6 (ix4 b p h j) = hnorm (osum x5 x6 b p) (ln h j) := by
  pointwise [val_main_v39, val_main_v40, val_main_v41, val_main_v42, val_main_v43, val_main_v44, val_main_v45, val_main_v46, val_main_v47, val_main_v48, val_main_cst_4, val_main_cst_5, val_main_cst_6]
  simp only [os_at]
  unfold hnorm
  rw [hd_ln]
  rfl

/-- The hgrn half. -/
theorem hg_at (b : Fin 16) (p : Fin 2048) (k : Fin 512) :
    val_main_v56 (F := Ideal) x5 x6 x7 x8 (ix3 b p k)
      = hgRow (osum x5 x6 b p) (fun k => x8 (ix2 0 (pl k))) (fun k => x7 (ix3 b p ⟨2048 + k.val, by omega⟩)) k := by
  pointwise [val_main_v49, val_main_v50, val_main_v51, val_main_v52, val_main_v53, val_main_v54, val_main_v55, val_main_v56, val_main_call0_v0, val_main_call0_v1, val_main_call0_v2, val_main_call0_v3, val_main_call0_v4, val_main_call0_v5, val_main_call0_cst, val_main_call0_cst_0]
  rw [hnorm_at]
  rw [show ln (hd k) (pl k) = k from Fin.ext (by show k.val / 64 * 64 + k.val % 64 = k.val; omega)]
  rfl

/-- The two side by side. -/
theorem mix_at (b : Fin 16) (p : Fin 2048) (k : Fin 1024) :
    val_main_v57 (F := Ideal) x0 x1 x2 x3 x4 x5 x6 x7 x8 (ix3 b p k)
      = mix (fun k => val_main_v36 (F := Ideal) x0 x1 x2 x3 x4 (ix3 b p k)) (fun k => val_main_v56 (F := Ideal) x5 x6 x7 x8 (ix3 b p k)) k := by
  unfold val_main_v57 mix
  generalize val_main_v36 (F := Ideal) x0 x1 x2 x3 x4 = u
  generalize val_main_v56 (F := Ideal) x5 x6 x7 x8 = v
  pointwise

/-- The residual stream. -/
theorem res_at (b : Fin 16) (p : Fin 2048) (d : Fin 1024) :
    val_main_v62 (F := Ideal) x0 x1 x2 x3 x4 x5 x6 x7 x8 x9 x10 x11 (ix3 b p d) = (Args.res ⟨x0, x1, x2, x3, x4, x5, x6, x7, x8, x9, x10, x11, x12, x13, x14, x15⟩ b p d : EReal) := by
  pointwise [val_main_v58, val_main_v59, val_main_v60, val_main_v61, val_main_v62]
  simp only [mix_at, rw_at, hg_at]
  rfl

/-- The experts' input, a token's row. -/
theorem h2_at (b : Fin 16) (p : Fin 2048) (d : Fin 1024) :
    val_main_v82 (F := Ideal) x0 x1 x2 x3 x4 x5 x6 x7 x8 x9 x10 x11 x12 x13 x14 (ix3 b p d) = (Args.h2 ⟨x0, x1, x2, x3, x4, x5, x6, x7, x8, x9, x10, x11, x12, x13, x14, x15⟩ b p d : EReal) := by
  pointwise [val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_cst_7, val_main_cst_8, val_main_cst_9, val_main_cst_10]
  simp only [res_at x0 x1 x2 x3 x4 x5 x6 x7 x8 x9 x10 x11 x12 x13 x14 x15]
  rfl

theorem res0 : val_main_v62 (F := Ideal) x0 x1 x2 x3 x4 x5 x6 x7 x8 x9 x10 x11 = Args.stream ⟨x0, x1, x2, x3, x4, x5, x6, x7, x8, x9, x10, x11, x12, x13, x14, x15⟩ := by
  funext i
  obtain ⟨b, p, d, rfl⟩ : ∃ (b : Fin 16) (p : Fin 2048) (d : Fin 1024), i = ix3 b p d := ⟨i 0, i 1, i 2, eq_ix3 i⟩
  exact res_at x0 x1 x2 x3 x4 x5 x6 x7 x8 x9 x10 x11 x12 x13 x14 x15 b p d

theorem res1 : val_main_v91 (F := Ideal) x0 x1 x2 x3 x4 x5 x6 x7 x8 x9 x10 x11 x12 x13 x14 = Args.quarters ⟨x0, x1, x2, x3, x4, x5, x6, x7, x8, x9, x10, x11, x12, x13, x14, x15⟩ := by
  funext i
  obtain ⟨q, r, n, rfl⟩ : ∃ (q : Fin 4) (r : Fin 32768) (n : Fin 256), i = ix3 q r n := ⟨i 0, i 1, i 2, eq_ix3 i⟩
  pointwise [val_main_v83, val_main_v89, val_main_v90, val_main_v91]
  rw [h2_at x0 x1 x2 x3 x4 x5 x6 x7 x8 x9 x10 x11 x12 x13 x14 x15]
  rfl

theorem res2 : val_main_v88 (F := Ideal) x0 x1 x2 x3 x4 x5 x6 x7 x8 x9 x10 x11 x12 x13 x14 x15 = Args.scores ⟨x0, x1, x2, x3, x4, x5, x6, x7, x8, x9, x10, x11, x12, x13, x14, x15⟩ := by
  funext i
  obtain ⟨e, r, rfl⟩ : ∃ (e : Fin 64) (r : Fin 32768), i = ix2 e r := ⟨i 0, i 1, eq_ix2 i⟩
  pointwise [val_main_v83, val_main_v84, val_main_v85, val_main_v86, val_main_v87, val_main_v88]
  simp only [h2_at x0 x1 x2 x3 x4 x5 x6 x7 x8 x9 x10 x11 x12 x13 x14 x15]
  rfl

/-- The reference's arguments on device `c`, -/
abbrev args (m : (ℓ : Loc nD τ sig) → Buf (Elt Ideal) ℓ) (c : Dev nD) : Args :=
  { y := m ((c : Thread nD τ).loc main_arg0),
    bonus := m ((c : Thread nD τ).loc main_arg1),
    gr := m ((c : Thread nD τ).loc main_arg2),
    lg := m ((c : Thread nD τ).loc main_arg3),
    lb := m ((c : Thread nD τ).loc main_arg4),
    fw := m ((c : Thread nD τ).loc main_arg5),
    bw := m ((c : Thread nD τ).loc main_arg6),
    hg := m ((c : Thread nD τ).loc main_arg7),
    hn := m ((c : Thread nD τ).loc main_arg8),
    x := m ((c : Thread nD τ).loc main_arg9),
    w := m ((c : Thread nD τ).loc main_arg10),
    g1 := m ((c : Thread nD τ).loc main_arg11),
    n2 := m ((c : Thread nD τ).loc main_arg12),
    sc := m ((c : Thread nD τ).loc main_arg13),
    sh := m ((c : Thread nD τ).loc main_arg14),
    rt := m ((c : Thread nD τ).loc main_arg15) }
/-- its stream, -/
theorem run0 (m : (ℓ : Loc nD τ sig) → Buf (Elt Ideal) ℓ) (c : Dev nD) :
    Value.res_main_v62 m c = (args m c).stream :=
  (val_main_v62_eq m c).trans (res0 _ _ _ _ _ _ _ _ _ _ _ _ _ _ _ _)
/-- its quarters -/
theorem run1 (m : (ℓ : Loc nD τ sig) → Buf (Elt Ideal) ℓ) (c : Dev nD) :
    Value.res_main_v91 m c = (args m c).quarters :=
  (val_main_v91_eq m c).trans (res1 _ _ _ _ _ _ _ _ _ _ _ _ _ _ _ _)
/-- and its scores. -/
theorem run2 (m : (ℓ : Loc nD τ sig) → Buf (Elt Ideal) ℓ) (c : Dev nD) :
    Value.res_main_v88 m c = (args m c).scores :=
  (val_main_v88_eq m c).trans (res2 _ _ _ _ _ _ _ _ _ _ _ _ _ _ _ _)

end Cert.Reference4Ideal.At
-- ==== Proof.PostBlock.lean ====
/-
  What one grid point of the output projection's kernel computes.
-/
module

public import proofs.«01_k».proof.Proof.Gen.Kernel4Ideal.Frame
public import proofs.«01_k».proof.Proof.PostRow
public import Idealize.ShloMosaic.Lib.Pointwise
public import Idealize.ShloMosaic.Lib.Pipeline.Value

@[expose] public section

set_option maxRecDepth 16384

noncomputable section

namespace Cert.Kernel4Ideal.Block

open Cert.Kernel4Ideal Cert.Kernel4Ideal.Gen Cert.Post Cert.Inproj Cert.Combine
open Idealize.ShloMosaic Idealize.ShloMosaic.TcCoe Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl

variable (x0 : Vec Ideal S2x1x512x512 .bf16) (x1 x2 : Vec Ideal S1x512x512 .f32) (x3 x4 : Vec Ideal S1x512 .f32)
  (x5 x6 x7 : Vec Ideal S1x512x512 .f32) (x8 : Vec Ideal S1x512 .f32) (x9 : Vec Ideal S512x512 .bf16)
  (x10 : Vec Ideal S1x512x1024 .f32) (x11 : Vec Ideal S1024x1024 .bf16) (x12 : Vec Ideal S1x1x1024 .f32)
  (x13 : Vec Ideal S1x1024 .f32) (x14 x15 : Vec Ideal S1x1x1024 .f32) (x16 : Vec Ideal S64x1024 .f32)

/-- Row `s` of the two scans' sum, -/
abbrev ys (s : Fin 512) (k : Fin 512) : EReal := (x0 (ix4 0 0 s k) + x0 (ix4 1 0 s k) : EReal)
/-- and of the two recurrences' sum. -/
abbrev os (s : Fin 512) (k : Fin 512) : EReal := (x5 (ix3 0 s k) + x6 (ix3 0 s k) : EReal)

/-- A product with the lanes' matrix is a sum over the lane's head. -/
theorem sum_seg (hS : ∀ l k : Fin 512, (x9 (ix2 l k) : EReal) = same l k) (f : Fin 512 → EReal) (k : Fin 512) :
    ∑ l : Fin 512, f l * (x9 (ix2 l k) : EReal) = tot f (hd k) := by
  simp only [hS]
  exact sum_same f k

theorem pay4_apply (hS : ∀ l k : Fin 512, (x9 (ix2 l k) : EReal) = same l k) (s k : Fin 512) :
    k0_pay4 (F := Ideal) (View.ld x0 r0_0) (View.ld x0 r0_1) (View.ld x9 r0_2) (View.ld x9 r0_2) (View.ld x9 r0_2) (View.ld x3 r0_3) (ix2 s k)
      = (lnorm (ys x0 s) k * x3 (ix2 0 k) : EReal) := by
  rw [← lnorm'_eq]
  unfold lnorm' cen'
  simp only [← sum_seg x9 hS]
  pointwise [k0_pay4]

theorem pay13_apply (hS : ∀ l k : Fin 512, (x9 (ix2 l k) : EReal) = same l k) (s k : Fin 512) :
    k0_pay13 (F := Ideal) x0 x1 x2 x3 x4 x5 x6 x7 x8 x9 x10 x11 x12 x13 x14 x15 x16 (ix2 s k)
      = rwRow (ys x0 s) (fun k => x3 (ix2 0 k)) (fun k => x4 (ix2 0 k)) (fun k => x1 (ix3 0 s k)) (fun k => x2 (ix3 0 s k)) k := by
  unfold k0_pay13 rwRow
  rw [← pay4_apply x0 x3 x9 hS]
  pointwise [k0_pay6]

theorem pay12_apply (hS : ∀ l k : Fin 512, (x9 (ix2 l k) : EReal) = same l k) (s k : Fin 512) :
    k0_pay12 (F := Ideal) x0 x1 x2 x3 x4 x5 x6 x7 x8 x9 x10 x11 x12 x13 x14 x15 x16 (ix2 s k)
      = hgRow (os x5 x6 s) (fun k => x8 (ix2 0 k)) (fun k => x7 (ix3 0 s k)) k := by
  unfold k0_pay12 hgRow hnorm
  rw [mean_eq, ← sum_seg x9 hS]
  pointwise [k0_pay5]

/-- Row `s` of the residual stream. -/
abbrev res (s : Fin 512) (d : Fin 1024) : EReal :=
  outRow (rwRow (ys x0 s) (fun k => x3 (ix2 0 k)) (fun k => x4 (ix2 0 k)) (fun k => x1 (ix3 0 s k)) (fun k => x2 (ix3 0 s k)))
    (hgRow (os x5 x6 s) (fun k => x8 (ix2 0 k)) (fun k => x7 (ix3 0 s k)))
    (fun k n => x11 (ix2 k n)) (fun d => x10 (ix3 0 s d)) (fun d => x12 (ix3 0 0 d)) d

theorem pay7_apply (hS : ∀ l k : Fin 512, (x9 (ix2 l k) : EReal) = same l k) (s : Fin 512) (d : Fin 1024) :
    k0_pay7 (F := Ideal) (k0_pay12 x0 x1 x2 x3 x4 x5 x6 x7 x8 x9 x10 x11 x12 x13 x14 x15 x16)
        (k0_pay13 x0 x1 x2 x3 x4 x5 x6 x7 x8 x9 x10 x11 x12 x13 x14 x15 x16)
        (View.ld x11 r0_5) (View.ld x11 r0_6) (View.ld x10 r0_7) (View.ld x12 r0_8) (ix2 s d)
      = res x0 x1 x2 x3 x4 x5 x6 x7 x8 x10 x11 x12 s d := by
  unfold res outRow
  rw [sum_mix]
  simp only [← pay13_apply x0 x1 x2 x3 x4 x5 x6 x7 x8 x9 x10 x11 x12 x13 x14 x15 x16 hS,
    ← pay12_apply x0 x1 x2 x3 x4 x5 x6 x7 x8 x9 x10 x11 x12 x13 x14 x15 x16 hS]
  pointwise [k0_pay7]

theorem out17_apply (hS : ∀ l k : Fin 512, (x9 (ix2 l k) : EReal) = same l k) (s : Fin 512) (d : Fin 1024) :
    out0_17 x0 x1 x2 x3 x4 x5 x6 x7 x8 x9 x10 x11 x12 x13 x14 x15 x16 (ix3 0 s d)
      = res x0 x1 x2 x3 x4 x5 x6 x7 x8 x10 x11 x12 s d := by
  unfold out0_17
  rw [View.canon_unit_zero zero3, ← pay7_apply x0 x1 x2 x3 x4 x5 x6 x7 x8 x9 x10 x11 x12 x13 x14 x15 x16 hS]
  unfold k0_pay8
  generalize k0_pay7 (F := Ideal) _ _ _ _ _ _ = v
  pointwise

/-- Row `s` normalised and modulated. -/
abbrev h2 (s : Fin 512) (d : Fin 1024) : EReal :=
  modulated (res x0 x1 x2 x3 x4 x5 x6 x7 x8 x10 x11 x12 s) (fun d => x13 (ix2 0 d)) (fun d => x14 (ix3 0 0 d)) (fun d => x15 (ix3 0 0 d)) d

theorem pay1_apply (hS : ∀ l k : Fin 512, (x9 (ix2 l k) : EReal) = same l k) (s : Fin 512) (d : Fin 1024) :
    k0_pay1 (F := Ideal) (k0_pay14 x0 x1 x2 x3 x4 x5 x6 x7 x8 x9 x10 x11 x12 x13 x14 x15 x16)
        (k0_pay15 x0 x1 x2 x3 x4 x5 x6 x7 x8 x9 x10 x11 x12 x13 x14 x15 x16)
        (k0_pay16 x0 x1 x2 x3 x4 x5 x6 x7 x8 x9 x10 x11 x12 x13 x14 x15 x16) (View.ld x15 r0_8) (ix2 s d)
      = h2 x0 x1 x2 x3 x4 x5 x6 x7 x8 x10 x11 x12 x13 x14 x15 s d := by
  unfold h2 modulated rms
  simp only [← pay7_apply x0 x1 x2 x3 x4 x5 x6 x7 x8 x9 x10 x11 x12 x13 x14 x15 x16 hS]
  unfold k0_pay14 k0_pay15 k0_pay16 k0_pay9
  generalize k0_pay7 (F := Ideal) _ _ _ _ _ _ = v
  pointwise [k0_pay1, k0_pay10, k0_pay11]

theorem out18_apply (hS : ∀ l k : Fin 512, (x9 (ix2 l k) : EReal) = same l k) (q : Fin 4) (s : Fin 512) (n : Fin 256) :
    out0_18 x0 x1 x2 x3 x4 x5 x6 x7 x8 x9 x10 x11 x12 x13 x14 x15 x16 (ix3 q s n)
      = h2 x0 x1 x2 x3 x4 x5 x6 x7 x8 x10 x11 x12 x13 x14 x15 s ⟨q.val * 256 + n.val, by omega⟩ := by
  unfold out0_18
  rw [View.canon_unit_zero zero3, ← pay1_apply x0 x1 x2 x3 x4 x5 x6 x7 x8 x9 x10 x11 x12 x13 x14 x15 x16 hS]
  unfold k0_pay2
  generalize k0_pay1 (F := Ideal) _ _ _ _ = v
  obtain ⟨q, hq⟩ := q
  interval_cases q
  · pointwise
  · pointwise
  · pointwise
  · pointwise

theorem out19_apply (hS : ∀ l k : Fin 512, (x9 (ix2 l k) : EReal) = same l k) (e : Fin 64) (s : Fin 512) :
    out0_19 x0 x1 x2 x3 x4 x5 x6 x7 x8 x9 x10 x11 x12 x13 x14 x15 x16 (ix2 e s)
      = (∑ d : Fin 1024, (x16 (ix2 e d) * h2 x0 x1 x2 x3 x4 x5 x6 x7 x8 x10 x11 x12 x13 x14 x15 s d : EReal) : EReal) := by
  unfold out0_19
  rw [View.canon_unit_zero zero2]
  simp only [← pay1_apply x0 x1 x2 x3 x4 x5 x6 x7 x8 x9 x10 x11 x12 x13 x14 x15 x16 hS]
  unfold k0_pay3
  generalize k0_pay1 (F := Ideal) _ _ _ _ = v
  pointwise

end Cert.Kernel4Ideal.Block
-- ==== Proof.PostArrays.lean ====
/-
  The arrays the host prepares for the output projection's kernel, read at an index.
-/
module

public import proofs.«01_k».proof.Proof.PostBlock
public import Idealize.ShloMosaic.Lib.Pipeline.ValueKit
public import Idealize.ShloMosaic.Lib.Claim

@[expose] public section

set_option maxRecDepth 16384

noncomputable section

namespace Cert.Kernel4Ideal.Whole

open Cert.Kernel4Ideal Cert.Kernel4Ideal.Gen Cert.Post Cert.Inproj Cert.Combine
open Idealize.ShloMosaic Idealize.ShloMosaic.TcCoe Idealize.ShloMosaic.Tactic Idealize.SL.Sem
open Idealize.ShloMosaic.Pipeline (Dat)

/-- Every lane's number over 64, rounded down, as the host divides. -/
def heads : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem heads_apply : ∀ l : Fin 512, heads (ix1 l) = BitVec.ofNat 32 (l.val / 64) := by
  decide +kernel

/-- The lanes' matrix. -/
def segR : FVec Ideal S512x512 .bf16 :=
  uitofp .bf16 (cmpi .eq
    (broadcastInDim S512x512 ![0, 1] bcast_S512x1_S512x512_0_1 (broadcastInDim S512x1 ![0] bcast_S512_S512x1_0 heads))
    (broadcastInDim S512x512 ![0, 1] bcast_S1x512_S512x512_0_1 (broadcastInDim S1x512 ![1] bcast_S512_S1x512_1 heads)))

theorem segR_apply (l k : Fin 512) : (segR (ix2 l k) : EReal) = same l k := by
  unfold segR
  generalize hh : heads = h
  pointwise
  rw [← hh, heads_apply, heads_apply]
  unfold same
  have he : BitVec.ofNat 32 (l.val / 64) = BitVec.ofNat 32 (k.val / 64) ↔ l.val / 64 = k.val / 64 := by
    constructor
    · intro h
      have h' := congrArg BitVec.toNat h
      simp only [BitVec.toNat_ofNat] at h'
      omega
    · intro h
      rw [h]
  by_cases hlk : l.val / 64 = k.val / 64
  · rw [if_pos hlk, hlk]
    rw [show IntOp.cmpi .eq (BitVec.ofNat 32 (k.val / 64)) (BitVec.ofNat 32 (k.val / 64)) = 1#1 by simp [IntOp.cmpi]]
    show (((1#1 : BitVec 1).toNat : ℝ) : EReal) = 1
    norm_num
  · rw [if_neg hlk]
    have : ¬ BitVec.ofNat 32 (l.val / 64) = BitVec.ofNat 32 (k.val / 64) := fun h => hlk (he.mp h)
    rw [show IntOp.cmpi .eq (BitVec.ofNat 32 (l.val / 64)) (BitVec.ofNat 32 (k.val / 64)) = 0#1 by
      unfold IntOp.cmpi; simp only [beq_eq_false_iff_ne.mpr this]; rfl]
    show (((0#1 : BitVec 1).toNat : ℝ) : EReal) = 0
    norm_num

variable (m : (ℓ : Loc nD τ sig) → Buf (Elt Ideal) ℓ)

theorem V_v7 (c : Dev nD) : V m c main_v7 = segR := by
  unfold_abbrev_sides
  simp only [List.flatten_cons, List.flatten_nil, List.append_nil, hostOps0, hostOps0_1, hostOps0_2, List.cons_append, List.nil_append]
  after_results
  rfl

/-- The router's weights, transposed, the experts in the order of the scores, -/
def rtR (w : FVec Ideal S1x1024x64 .f32) : FVec Ideal S64x1024 .f32 :=
  shapeCast S64x1024 (transpose S8x8x1024 [1, 0, 2] (shapeCast S8x8x1024 (transpose S64x1024 [1, 0]
    (shapeCast S1024x64 w shapeCasts_S1x1024x64_S1024x64) transposes_S1024x64_S64x1024_1_0) shapeCasts_S64x1024_S8x8x1024)
    transposes_S8x8x1024_S8x8x1024_1_0_2) shapeCasts_S8x8x1024_S64x1024
/-- the hgrn norm's weights for every head, -/
def hnR (w : FVec Ideal S1x64 .f32) : FVec Ideal S1x512 .f32 :=
  shapeCast S1x512 (shapeCast S512 (broadcastInDim S8x64 ![0, 1] bcast_S1x64_S8x64_0_1 (shapeCast S1x64
    (shapeCast S64 w shapeCasts_S1x64_S64) shapeCasts_S64_S1x64)) shapeCasts_S8x64_S512) shapeCasts_S512_S1x512
/-- the output projection's, -/
def woR (w : FVec Ideal S1x1024x1024 .f32) : FVec Ideal S1024x1024 .bf16 :=
  truncf .bf16 (shapeCast S1024x1024 w shapeCasts_S1x1024x1024_S1024x1024) bitsLt_bf16_f32
/-- a row of 512 -/
def r512 (w : FVec Ideal S1x512 .f32) : FVec Ideal S1x512 .f32 :=
  shapeCast S1x512 (shapeCast S512 w shapeCasts_S1x512_S512) shapeCasts_S512_S1x512
/-- and one of 1024. -/
def r1024 (w : FVec Ideal S1x1024 .f32) : FVec Ideal S1x1024 .f32 :=
  shapeCast S1x1024 (shapeCast S1024 w shapeCasts_S1x1024_S1024) shapeCasts_S1024_S1x1024

theorem rtR_apply (w : FVec Ideal S1x1024x64 .f32) (e : Fin 64) (d : Fin 1024) :
    rtR w (ix2 e d) = w (ix3 0 d ⟨e.val % 8 * 8 + e.val / 8, by omega⟩) := by
  unfold rtR
  pointwise
theorem hnR_apply (w : FVec Ideal S1x64 .f32) (k : Fin 512) : hnR w (ix2 0 k) = w (ix2 0 (pl k)) := by
  unfold hnR
  pointwise
theorem woR_apply (w : FVec Ideal S1x1024x1024 .f32) (k n : Fin 1024) : woR w (ix2 k n) = w (ix3 0 k n) := by
  unfold woR
  pointwise
theorem r512_apply (w : FVec Ideal S1x512 .f32) (k : Fin 512) : r512 w (ix2 0 k) = w (ix2 0 k) := by
  unfold r512
  pointwise
theorem r1024_apply (w : FVec Ideal S1x1024 .f32) (k : Fin 1024) : r1024 w (ix2 0 k) = w (ix2 0 k) := by
  unfold r1024
  pointwise

theorem V_v12 (c : Dev nD) : V m c main_v12 = rtR (m ((c : Thread nD τ).loc main_arg15)) := by
  unfold_abbrev_sides
  simp only [List.flatten_cons, List.flatten_nil, List.append_nil, hostOps0, hostOps0_1, hostOps0_2, List.cons_append, List.nil_append]
  after_results
  rfl
theorem V_v17 (c : Dev nD) : V m c main_v17 = hnR (m ((c : Thread nD τ).loc main_arg8)) := by
  unfold_abbrev_sides
  simp only [List.flatten_cons, List.flatten_nil, List.append_nil, hostOps0, hostOps0_1, hostOps0_2, List.cons_append, List.nil_append]
  after_results
  rfl
theorem V_v21 (c : Dev nD) : V m c main_v21 = woR (m ((c : Thread nD τ).loc main_arg10)) := by
  unfold_abbrev_sides
  simp only [List.flatten_cons, List.flatten_nil, List.append_nil, hostOps0, hostOps0_1, hostOps0_2, List.cons_append, List.nil_append]
  after_results
  rfl
theorem V_v23 (c : Dev nD) : V m c main_v23 = r512 (m ((c : Thread nD τ).loc main_arg3)) := by
  unfold_abbrev_sides
  simp only [List.flatten_cons, List.flatten_nil, List.append_nil, hostOps0, hostOps0_1, hostOps0_2, List.cons_append, List.nil_append]
  after_results
  rfl
theorem V_v24 (c : Dev nD) : V m c main_v24 = r512 (m ((c : Thread nD τ).loc main_arg4)) := by
  unfold_abbrev_sides
  simp only [List.flatten_cons, List.flatten_nil, List.append_nil, hostOps0, hostOps0_1, hostOps0_2, List.cons_append, List.nil_append]
  after_results
  rfl
theorem V_v25 (c : Dev nD) : V m c main_v25 = r1024 (m ((c : Thread nD τ).loc main_arg12)) := by
  unfold_abbrev_sides
  simp only [List.flatten_cons, List.flatten_nil, List.append_nil, hostOps0, hostOps0_1, hostOps0_2, List.cons_append, List.nil_append]
  after_results
  rfl

end Cert.Kernel4Ideal.Whole
-- ==== Proof.PostValue.lean ====
/-
  The output projection's three results after its run, from the step's arguments.
-/
module

public import proofs.«01_k».proof.Proof.PostArrays

@[expose] public section

set_option maxRecDepth 16384

noncomputable section

namespace Cert.Kernel4Ideal.Whole

open Cert.Kernel4Ideal Cert.Kernel4Ideal.Gen Cert.Post Cert.Inproj Cert.Combine
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s arguments. -/
abbrev args (c : Dev nD) : Args :=
  { y := m ((c : Thread nD τ).loc main_arg0),
    bonus := m ((c : Thread nD τ).loc main_arg1),
    gr := m ((c : Thread nD τ).loc main_arg2),
    lg := m ((c : Thread nD τ).loc main_arg3),
    lb := m ((c : Thread nD τ).loc main_arg4),
    fw := m ((c : Thread nD τ).loc main_arg5),
    bw := m ((c : Thread nD τ).loc main_arg6),
    hg := m ((c : Thread nD τ).loc main_arg7),
    hn := m ((c : Thread nD τ).loc main_arg8),
    x := m ((c : Thread nD τ).loc main_arg9),
    w := m ((c : Thread nD τ).loc main_arg10),
    g1 := m ((c : Thread nD τ).loc main_arg11),
    n2 := m ((c : Thread nD τ).loc main_arg12),
    sc := m ((c : Thread nD τ).loc main_arg13),
    sh := m ((c : Thread nD τ).loc main_arg14),
    rt := m ((c : Thread nD τ).loc main_arg15) }

/-- The block each window is at, at point `t` of the 16 × 4 grid. -/
theorem idx : ∀ t : Fin cfg0.N,
    win0_0.index t = ![0, t.val / 4, t.val % 4, 0]
      ∧ win0_1.index t = ![t.val / 4, t.val % 4, 0]
      ∧ win0_2.index t = ![t.val / 4, t.val % 4, 0]
      ∧ win0_3.index t = ![0, 0]
      ∧ win0_4.index t = ![0, 0]
      ∧ win0_5.index t = ![t.val / 4, t.val % 4, 0]
      ∧ win0_6.index t = ![t.val / 4, t.val % 4, 0]
      ∧ win0_7.index t = ![t.val / 4, t.val % 4, 4]
      ∧ win0_8.index t = ![0, 0]
      ∧ win0_9.index t = ![0, 0]
      ∧ win0_10.index t = ![t.val / 4, t.val % 4, 0]
      ∧ win0_11.index t = ![0, 0]
      ∧ win0_12.index t = ![t.val / 4, 0, 0]
      ∧ win0_13.index t = ![0, 0]
      ∧ win0_14.index t = ![t.val / 4, 0, 0]
      ∧ win0_15.index t = ![t.val / 4, 0, 0]
      ∧ win0_16.index t = ![0, 0]
      ∧ win0_17.index t = ![t.val / 4, t.val % 4, 0]
      ∧ win0_18.index t = ![0, t.val, 0]
      ∧ win0_19.index t = ![0, t.val] :=
  (by decide +kernel : ∀ t : Fin grid0.N, _)

/-- The batch point `t` works on, -/
abbrev bat (t : Fin cfg0.N) : Fin 16 := ⟨t.val / 4, by have h : t.val < 64 := t.isLt; omega⟩
/-- the token its row `s` is, -/
abbrev tok (t : Fin cfg0.N) (s : Fin 512) : Fin 2048 := ⟨t.val % 4 * 512 + s.val, by omega⟩
/-- and that row counted through all batches. -/
abbrev all (t : Fin cfg0.N) (s : Fin 512) : Fin 32768 := ⟨t.val * 512 + s.val, by have h : t.val < 64 := t.isLt; omega⟩

theorem rb_all (t : Fin cfg0.N) (s : Fin 512) : Args.rb (all t s) = bat t :=
  Fin.ext (by show (t.val * 512 + s.val) / 2048 = t.val / 4; omega)
theorem rp_all (t : Fin cfg0.N) (s : Fin 512) : Args.rp (all t s) = tok t s :=
  Fin.ext (by show (t.val * 512 + s.val) % 2048 = t.val % 4 * 512 + s.val; omega)

/-! The blocks a point is given, read at the arrays. -/

theorem in0 (c : Dev nD) (t : Fin cfg0.N) (j : Fin 2) (s k : Fin 512) :
    (iblk m c 0 t : Vec Ideal S2x1x512x512 .bf16) (ix4 j 0 s k) = m ((c : Thread nD τ).loc main_arg0) (ix4 j (bat t) (tok t s) k) := by
  have hN : t.val < 64 := t.isLt
  rw [← V_main_arg0 m c]
  blk_ext [iblk, idx t]
theorem in1 (c : Dev nD) (t : Fin cfg0.N) (s k : Fin 512) :
    (iblk m c 1 t : Vec Ideal S1x512x512 .f32) (ix3 0 s k) = m ((c : Thread nD τ).loc main_arg1) (ix3 (bat t) (tok t s) k) := by
  have hN : t.val < 64 := t.isLt
  rw [← V_main_arg1 m c]
  blk_ext [iblk, idx t]
theorem in2 (c : Dev nD) (t : Fin cfg0.N) (s k : Fin 512) :
    (iblk m c 2 t : Vec Ideal S1x512x512 .f32) (ix3 0 s k) = m ((c : Thread nD τ).loc main_arg2) (ix3 (bat t) (tok t s) k) := by
  have hN : t.val < 64 := t.isLt
  rw [← V_main_arg2 m c]
  blk_ext [iblk, idx t]
theorem in5 (c : Dev nD) (t : Fin cfg0.N) (s k : Fin 512) :
    (iblk m c 5 t : Vec Ideal S1x512x512 .f32) (ix3 0 s k) = m ((c : Thread nD τ).loc main_arg5) (ix3 (bat t) (tok t s) k) := by
  have hN : t.val < 64 := t.isLt
  rw [← V_main_arg5 m c]
  blk_ext [iblk, idx t]
theorem in6 (c : Dev nD) (t : Fin cfg0.N) (s k : Fin 512) :
    (iblk m c 6 t : Vec Ideal S1x512x512 .f32) (ix3 0 s k) = m ((c : Thread nD τ).loc main_arg6) (ix3 (bat t) (tok t s) k) := by
  have hN : t.val < 64 := t.isLt
  rw [← V_main_arg6 m c]
  blk_ext [iblk, idx t]
theorem in7 (c : Dev nD) (t : Fin cfg0.N) (s k : Fin 512) :
    (iblk m c 7 t : Vec Ideal S1x512x512 .f32) (ix3 0 s k) = m ((c : Thread nD τ).loc main_arg7) (ix3 (bat t) (tok t s) ⟨2048 + k.val, by omega⟩) := by
  have hN : t.val < 64 := t.isLt
  rw [← V_main_arg7 m c]
  blk_ext [iblk, idx t]
theorem in10 (c : Dev nD) (t : Fin cfg0.N) (s : Fin 512) (d : Fin 1024) :
    (iblk m c 10 t : Vec Ideal S1x512x1024 .f32) (ix3 0 s d) = m ((c : Thread nD τ).loc main_arg9) (ix3 (bat t) (tok t s) d) := by
  have hN : t.val < 64 := t.isLt
  rw [← V_main_arg9 m c]
  blk_ext [iblk, idx t]
theorem in12 (c : Dev nD) (t : Fin cfg0.N) (d : Fin 1024) :
    (iblk m c 12 t : Vec Ideal S1x1x1024 .f32) (ix3 0 0 d) = m ((c : Thread nD τ).loc main_arg11) (ix3 (bat t) 0 d) := by
  have hN : t.val < 64 := t.isLt
  rw [← V_main_arg11 m c]
  blk_ext [iblk, idx t]
theorem in14 (c : Dev nD) (t : Fin cfg0.N) (d : Fin 1024) :
    (iblk m c 14 t : Vec Ideal S1x1x1024 .f32) (ix3 0 0 d) = m ((c : Thread nD τ).loc main_arg13) (ix3 (bat t) 0 d) := by
  have hN : t.val < 64 := t.isLt
  rw [← V_main_arg13 m c]
  blk_ext [iblk, idx t]
theorem in15 (c : Dev nD) (t : Fin cfg0.N) (d : Fin 1024) :
    (iblk m c 15 t : Vec Ideal S1x1x1024 .f32) (ix3 0 0 d) = m ((c : Thread nD τ).loc main_arg14) (ix3 (bat t) 0 d) := by
  have hN : t.val < 64 := t.isLt
  rw [← V_main_arg14 m c]
  blk_ext [iblk, idx t]
theorem in3 (c : Dev nD) (t : Fin cfg0.N) (k : Fin 512) :
    (iblk m c 3 t : Vec Ideal S1x512 .f32) (ix2 0 k) = m ((c : Thread nD τ).loc main_arg3) (ix2 0 k) := by
  have hN : t.val < 64 := t.isLt
  rw [← r512_apply (m ((c : Thread nD τ).loc main_arg3)), ← V_v23 m c]
  blk_ext [iblk, idx t]
theorem in4 (c : Dev nD) (t : Fin cfg0.N) (k : Fin 512) :
    (iblk m c 4 t : Vec Ideal S1x512 .f32) (ix2 0 k) = m ((c : Thread nD τ).loc main_arg4) (ix2 0 k) := by
  have hN : t.val < 64 := t.isLt
  rw [← r512_apply (m ((c : Thread nD τ).loc main_arg4)), ← V_v24 m c]
  blk_ext [iblk, idx t]
theorem in8 (c : Dev nD) (t : Fin cfg0.N) (k : Fin 512) :
    (iblk m c 8 t : Vec Ideal S1x512 .f32) (ix2 0 k) = m ((c : Thread nD τ).loc main_arg8) (ix2 0 (pl k)) := by
  have hN : t.val < 64 := t.isLt
  rw [← hnR_apply (m ((c : Thread nD τ).loc main_arg8)), ← V_v17 m c]
  blk_ext [iblk, idx t]
theorem in9 (c : Dev nD) (t : Fin cfg0.N) (l k : Fin 512) :
    (iblk m c 9 t : Vec Ideal S512x512 .bf16) (ix2 l k) = same l k := by
  have hN : t.val < 64 := t.isLt
  rw [← segR_apply, ← V_v7 m c]
  blk_ext [iblk, idx t]
theorem in11 (c : Dev nD) (t : Fin cfg0.N) (k n : Fin 1024) :
    (iblk m c 11 t : Vec Ideal S1024x1024 .bf16) (ix2 k n) = m ((c : Thread nD τ).loc main_arg10) (ix3 0 k n) := by
  have hN : t.val < 64 := t.isLt
  rw [← woR_apply (m ((c : Thread nD τ).loc main_arg10)), ← V_v21 m c]
  blk_ext [iblk, idx t]
theorem in13 (c : Dev nD) (t : Fin cfg0.N) (d : Fin 1024) :
    (iblk m c 13 t : Vec Ideal S1x1024 .f32) (ix2 0 d) = m ((c : Thread nD τ).loc main_arg12) (ix2 0 d) := by
  have hN : t.val < 64 := t.isLt
  rw [← r1024_apply (m ((c : Thread nD τ).loc main_arg12)), ← V_v25 m c]
  blk_ext [iblk, idx t]
theorem in16 (c : Dev nD) (t : Fin cfg0.N) (e : Fin 64) (d : Fin 1024) :
    (iblk m c 16 t : Vec Ideal S64x1024 .f32) (ix2 e d) = m ((c : Thread nD τ).loc main_arg15) (ix3 0 d ⟨e.val % 8 * 8 + e.val / 8, by omega⟩) := by
  have hN : t.val < 64 := t.isLt
  rw [← rtR_apply (m ((c : Thread nD τ).loc main_arg15)), ← V_v12 m c]
  blk_ext [iblk, idx t]

/-- A point's rows are the step's. -/
theorem res_at (c : Dev nD) (t : Fin cfg0.N) (s : Fin 512) (d : Fin 1024) :
    Block.res (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) s d = (args m c).res (bat t) (tok t s) d := by
  unfold Block.res Args.res Args.rw Args.hgr
  unfold Block.ys Block.os
  simp only [in0, in1, in2, in3, in4, in5, in6, in7, in8, in10, in11, in12]

theorem h2_at (c : Dev nD) (t : Fin cfg0.N) (s : Fin 512) (d : Fin 1024) :
    Block.h2 (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (iblk m c 14 t) (iblk m c 15 t) s d = (args m c).h2 (bat t) (tok t s) d := by
  unfold Block.h2 Args.h2
  rw [show Block.res (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) s = (args m c).res (bat t) (tok t s) from funext (res_at m c t s)]
  simp only [in13, in14, in15]

theorem final17 (c : Dev nD) : (dats m 0 c).arrAt 17 cfg0.N = (args m c).stream := by
  refine (dats m 0 c).arrAt_eq_of_covers 17 _ (by decide +kernel) fun t hf y => ?_
  blk_simp
  rw [after0_17]
  obtain ⟨s, d, rfl⟩ : ∃ (s : Fin 512) (d : Fin 1024), y = ix3 0 s d := ⟨y 1, y 2, by rw [eq_ix3 y]; congr 1; exact Subsingleton.elim _ _⟩
  have hN : t.val < 64 := t.isLt
  rw [Block.out17_apply _ _ _ _ _ _ _ _ _ _ _ _ _ _ _ _ _ (in9 m c t)]
  have e : (win0_17.blk t).view.emb (ix3 0 s d) = ix3 (bat t) (tok t s) d := by
    blk_ext [idx t]
  rw [e]
  exact res_at m c t s d

theorem final18 (c : Dev nD) : (dats m 0 c).arrAt 18 cfg0.N = (args m c).quarters := by
  refine (dats m 0 c).arrAt_eq_of_covers 18 _ (by decide +kernel) fun t hf y => ?_
  blk_simp
  rw [after0_18]
  obtain ⟨q, s, n, rfl⟩ : ∃ (q : Fin 4) (s : Fin 512) (n : Fin 256), y = ix3 q s n := ⟨y 0, y 1, y 2, eq_ix3 y⟩
  have hN : t.val < 64 := t.isLt
  rw [Block.out18_apply _ _ _ _ _ _ _ _ _ _ _ _ _ _ _ _ _ (in9 m c t)]
  have e : (win0_18.blk t).view.emb (ix3 q s n) = ix3 q (all t s) n := by
    blk_ext [idx t]
  rw [e]
  refine (h2_at m c t s _).trans ?_
  show _ = (args m c).h2 (Args.rb (all t s)) (Args.rp (all t s)) _
  rw [rb_all, rp_all]
  rfl

theorem final19 (c : Dev nD) : (dats m 0 c).arrAt 19 cfg0.N = (args m c).scores := by
  refine (dats m 0 c).arrAt_eq_of_covers 19 _ (by decide +kernel) fun t hf y => ?_
  blk_simp
  rw [after0_19]
  obtain ⟨e, s, rfl⟩ : ∃ (e : Fin 64) (s : Fin 512), y = ix2 e s := ⟨y 0, y 1, eq_ix2 y⟩
  have hN : t.val < 64 := t.isLt
  rw [Block.out19_apply _ _ _ _ _ _ _ _ _ _ _ _ _ _ _ _ _ (in9 m c t)]
  have he : (win0_19.blk t).view.emb (ix2 e s) = ix2 e (all t s) := by
    blk_ext [idx t]
  rw [he]
  simp only [h2_at, in16]
  show _ = ∑ d : Fin 1024, (args m c).h2 (Args.rb (all t s)) (Args.rp (all t s)) d * _
  rw [rb_all, rp_all]
  exact Finset.sum_congr rfl fun d _ => mul_comm _ _

set_option maxHeartbeats 4000000 in
/-- The kernel's run: the three results, and the arguments unchanged. -/
theorem run : θ_run defs (onTc (τ := τ) (main (F := Ideal))) ⟨m, fun _ => 0, ρ⟩ fun r => ∀ c : Dev nD,
      r.2.mem ((c : Thread nD τ).loc main_v26_0) = (args m c).stream
      ∧ r.2.mem ((c : Thread nD τ).loc main_v26_1) = (args m c).quarters
      ∧ r.2.mem ((c : Thread nD τ).loc main_v26_2) = (args m c).scores
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨((h c).1 17).trans (final17 m c), ((h c).1 18).trans (final18 m c), ((h c).1 19).trans (final19 m c),
      ((h c).1 0).trans (((dats m 0 c).arrAt_in 0 rfl _).trans (V_main_arg0 m c)),
      ((h c).1 1).trans (((dats m 0 c).arrAt_in 1 rfl _).trans (V_main_arg1 m c)),
      ((h c).1 2).trans (((dats m 0 c).arrAt_in 2 rfl _).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans (V_main_arg5 m c)),
      ((h c).1 6).trans (((dats m 0 c).arrAt_in 6 rfl _).trans (V_main_arg6 m c)),
      ((h c).1 7).trans (((dats m 0 c).arrAt_in 7 rfl _).trans (V_main_arg7 m c)),
      ((h c).2 main_arg8 (Pipeline.mem_restRefs_of main_arg8 (by decide) (by decide))).trans (V_main_arg8 m c),
      ((h c).1 10).trans (((dats m 0 c).arrAt_in 10 rfl _).trans (V_main_arg9 m c)),
      ((h c).2 main_arg10 (Pipeline.mem_restRefs_of main_arg10 (by decide) (by decide))).trans (V_main_arg10 m c),
      ((h c).1 12).trans (((dats m 0 c).arrAt_in 12 rfl _).trans (V_main_arg11 m c)),
      ((h c).2 main_arg12 (Pipeline.mem_restRefs_of main_arg12 (by decide) (by decide))).trans (V_main_arg12 m c),
      ((h c).1 14).trans (((dats m 0 c).arrAt_in 14 rfl _).trans (V_main_arg13 m c)),
      ((h c).1 15).trans (((dats m 0 c).arrAt_in 15 rfl _).trans (V_main_arg14 m c)),
      ((h c).2 main_arg15 (Pipeline.mem_restRefs_of main_arg15 (by decide) (by decide))).trans (V_main_arg15 m c)⟩)
    (run_main m ρ)

end Cert.Kernel4Ideal.Whole
-- ==== Proof.PrepRow.lean ====
/-
  The preparation of a token for the scan, as plain formulas over the extended reals: the convolution over the grid of 32
  rows of 64 tokens, the key brought to length one in each head, the decay, the learning rate, the bonus and the gate; and
  what a product in halves and a bonus in one sum come to where all are numbers.
-/
module

public import proofs.«01_k».proof.Proof.PostRow

@[expose] public section

noncomputable section

namespace Cert.Prep

open Idealize.ShloMosaic Cert.Combine Cert.Inproj Cert.Post

/-- A real number. -/
def Num (x : EReal) : Prop := ∃ r : ℝ, x = (r : EReal)

namespace Num
variable {x y : EReal}
theorem zero : Num 0 := ⟨0, rfl⟩
theorem one : Num 1 := ⟨1, rfl⟩
theorem add (hx : Num x) (hy : Num y) : Num (x + y) := by
  obtain ⟨a, rfl⟩ := hx; obtain ⟨b, rfl⟩ := hy; exact ⟨a + b, (EReal.coe_add a b).symm⟩
theorem sub (hx : Num x) (hy : Num y) : Num (x - y) := by
  obtain ⟨a, rfl⟩ := hx; obtain ⟨b, rfl⟩ := hy; exact ⟨a - b, (EReal.coe_sub a b).symm⟩
theorem mul (hx : Num x) (hy : Num y) : Num (x * y) := by
  obtain ⟨a, rfl⟩ := hx; obtain ⟨b, rfl⟩ := hy; exact ⟨a * b, (EReal.coe_mul a b).symm⟩
theorem self (hx : Num x) : x - x = 0 := by
  obtain ⟨a, rfl⟩ := hx; rw [← EReal.coe_sub, sub_self, EReal.coe_zero]
theorem sum {ι : Type} (s : Finset ι) (f : ι → EReal) (h : ∀ i ∈ s, Num (f i)) : Num (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
theorem add_mul (hx : Num x) (hy : Num y) {z : EReal} (hz : Num z) : (x + y) * z = x * z + y * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, _root_.add_mul]
theorem mul_add {z : EReal} (hz : Num z) (hx : Num x) (hy : Num y) : z * (x + y) = z * x + z * y := by
  rw [mul_comm, add_mul hx hy hz, mul_comm x, mul_comm y]
/-- What is less itself nothing is a number. -/
theorem of_self (h : x - x = 0) : Num x := by
  induction x with
  | bot => exact absurd h (by decide)
  | top => exact absurd h (by decide)
  | coe r => exact ⟨r, rfl⟩
theorem tanh (x : EReal) : Num (Ideal.tanh x) := by
  induction x with
  | bot => exact ⟨-1, by simp⟩
  | top => exact ⟨1, by simp⟩
  | coe r => exact ⟨_, Ideal.tanh_coe r⟩
theorem logistic (x : EReal) : Num (Ideal.logistic x) := by
  induction x with
  | bot =>
    have h : (1 : EReal) + ⊤ = ⊤ := rfl
    exact ⟨0, by simp [Ideal.logistic, Ideal.div, h]⟩
  | top => exact ⟨1, by simp [Ideal.logistic, Ideal.div]⟩
  | coe r =>
    have h : (1 : EReal) + Ideal.exp (-(r : EReal)) = ((1 + Real.exp (-r) : ℝ) : EReal) := by
      rw [← EReal.coe_neg, Ideal.exp_coe, EReal.coe_add, EReal.coe_one]
    have h0 : (1 + Real.exp (-r)) ≠ 0 := by positivity
    refine ⟨(1 + Real.exp (-r))⁻¹, ?_⟩
    unfold Ideal.logistic Ideal.div
    rw [h, if_neg (by exact_mod_cast h0), one_mul, EReal.coe_inv]
end Num

/-- The grid of tokens with a border of zeros, at row `y` and column `x` of the bordered grid. -/
def padAt (A : Fin 2048 → EReal) (y x : ℕ) : EReal :=
  if h : (1 ≤ y ∧ y ≤ 32) ∧ (1 ≤ x ∧ x ≤ 64) then A ⟨(y - 1) * 64 + (x - 1), by omega⟩ else 0

/-- The centred convolution at token `p`. -/
def conv (A : Fin 2048 → EReal) (κ : Fin 3 → Fin 3 → EReal) (p : Fin 2048) : EReal :=
  padAt A (p.val / 64 + 0) (p.val % 64 + 0) * κ 0 0 + padAt A (p.val / 64 + 0) (p.val % 64 + 1) * κ 0 1
    + padAt A (p.val / 64 + 0) (p.val % 64 + 2) * κ 0 2
    + padAt A (p.val / 64 + 1) (p.val % 64 + 0) * κ 1 0 + padAt A (p.val / 64 + 1) (p.val % 64 + 1) * κ 1 1
    + padAt A (p.val / 64 + 1) (p.val % 64 + 2) * κ 1 2
    + padAt A (p.val / 64 + 2) (p.val % 64 + 0) * κ 2 0 + padAt A (p.val / 64 + 2) (p.val % 64 + 1) * κ 2 1
    + padAt A (p.val / 64 + 2) (p.val % 64 + 2) * κ 2 2

/-- The block's rows between the last row of the grid before it and the first one after it, each of these times its mark. -/
def xe (pm nm : EReal) (prev : Fin 64 → EReal) (cur : Fin 512 → EReal) (next : Fin 64 → EReal) (e : Fin 640) : EReal :=
  if h : e.val < 64 then prev ⟨e.val, h⟩ * pm
  else if h2 : e.val < 576 then cur ⟨e.val - 64, by omega⟩
  else next ⟨e.val - 576, by omega⟩ * nm
/-- Its left neighbours, -/
def xl (E : Fin 640 → EReal) (e : Fin 640) : EReal := if e.val % 64 = 0 then 0 else E ⟨e.val - 1, by omega⟩
/-- and its right ones. -/
def xr (E : Fin 640 → EReal) (e : Fin 640) : EReal :=
  if h : e.val % 64 = 63 then 0 else E ⟨e.val + 1, by omega⟩

/-- The convolution at token `s` of the block. -/
def conv9 (E : Fin 640 → EReal) (κ : Fin 9 → EReal) (s : Fin 512) : EReal :=
  xl E ⟨0 + s.val, by omega⟩ * κ 0 + E ⟨0 + s.val, by omega⟩ * κ 1 + xr E ⟨0 + s.val, by omega⟩ * κ 2
    + xl E ⟨64 + s.val, by omega⟩ * κ 3 + E ⟨64 + s.val, by omega⟩ * κ 4 + xr E ⟨64 + s.val, by omega⟩ * κ 5
    + xl E ⟨128 + s.val, by omega⟩ * κ 6 + E ⟨128 + s.val, by omega⟩ * κ 7 + xr E ⟨128 + s.val, by omega⟩ * κ 8

/-- The token of row `e` of the grid's row before block `i`, -/
def prevTok (i : Fin 4) (e : Fin 64) : Fin 2048 := ⟨(i.val * 8 - 1) * 64 + e.val, by omega⟩
/-- of the block itself, -/
def curTok (i : Fin 4) (s : Fin 512) : Fin 2048 := ⟨i.val * 512 + s.val, by omega⟩
/-- and of the row after it. -/
def nextTok (i : Fin 4) (e : Fin 64) : Fin 2048 := ⟨(min ((i.val + 1) * 8) 31) * 64 + e.val, by omega⟩
/-- The row and the column of a tap. -/
def tapY (j : Fin 9) : Fin 3 := ⟨j.val / 3, by omega⟩
def tapX (j : Fin 9) : Fin 3 := ⟨j.val % 3, by omega⟩

section block
variable (A : Fin 2048 → EReal) (i : Fin 4) (pm nm : EReal)
  (hpm : pm = if 0 < i.val then 1 else 0) (hnm : nm = if i.val < 3 then 1 else 0)
  (prev : Fin 64 → EReal) (cur : Fin 512 → EReal) (next : Fin 64 → EReal)
  (hprev : ∀ e, prev e = A (prevTok i e))
  (hcur : ∀ s, cur s = A (curTok i s))
  (hnext : ∀ e, next e = A (nextTok i e))

include hpm hnm hprev hcur hnext in
theorem xe_eq (e : Fin 640) : xe pm nm prev cur next e = padAt A (i.val * 8 + e.val / 64) (e.val % 64 + 1) := by
  have hi := i.isLt
  unfold xe padAt
  by_cases h : e.val < 64
  · rw [dif_pos h, hprev, hpm]
    by_cases h0 : 0 < i.val
    · rw [if_pos h0, mul_one, dif_pos (by omega)]
      exact congrArg A (Fin.ext (by show (i.val * 8 - 1) * 64 + e.val = _; simp only []; omega))
    · rw [if_neg h0, mul_zero, dif_neg (by omega)]
  · rw [dif_neg h]
    by_cases h2 : e.val < 576
    · rw [dif_pos h2, hcur, dif_pos (by omega)]
      exact congrArg A (Fin.ext (by show i.val * 512 + (e.val - 64) = (i.val * 8 + e.val / 64 - 1) * 64 + (e.val % 64 + 1 - 1); omega))
    · rw [dif_neg h2, hnext, hnm]
      by_cases h0 : i.val < 3
      · rw [if_pos h0, mul_one, dif_pos (by omega)]
        exact congrArg A (Fin.ext (by
          show (min ((i.val + 1) * 8) 31) * 64 + (e.val - 576) = (i.val * 8 + e.val / 64 - 1) * 64 + (e.val % 64 + 1 - 1); omega))
      · rw [if_neg h0, mul_zero, dif_neg (by omega)]

include hpm hnm hprev hcur hnext in
theorem xl_eq (e : Fin 640) : xl (xe pm nm prev cur next) e = padAt A (i.val * 8 + e.val / 64) (e.val % 64) := by
  unfold xl
  by_cases h : e.val % 64 = 0
  · rw [if_pos h, padAt, dif_neg (by omega)]
  · rw [if_neg h, xe_eq A i pm nm hpm hnm prev cur next hprev hcur hnext]
    show padAt A (i.val * 8 + (e.val - 1) / 64) ((e.val - 1) % 64 + 1) = _
    rw [show (e.val - 1) / 64 = e.val / 64 by omega, show (e.val - 1) % 64 + 1 = e.val % 64 by omega]

include hpm hnm hprev hcur hnext in
theorem xr_eq (e : Fin 640) : xr (xe pm nm prev cur next) e = padAt A (i.val * 8 + e.val / 64) (e.val % 64 + 2) := by
  unfold xr
  by_cases h : e.val % 64 = 63
  · rw [dif_pos h, padAt, dif_neg (by omega)]
  · rw [dif_neg h, xe_eq A i pm nm hpm hnm prev cur next hprev hcur hnext]
    show padAt A (i.val * 8 + (e.val + 1) / 64) ((e.val + 1) % 64 + 1) = _
    rw [show (e.val + 1) / 64 = e.val / 64 by omega, show (e.val + 1) % 64 + 1 = e.val % 64 + 2 by omega]

include hpm hnm hprev hcur hnext in
/-- A block's convolution is the grid's. -/
theorem conv9_eq (κ : Fin 3 → Fin 3 → EReal) (s : Fin 512) :
    conv9 (xe pm nm prev cur next) (fun j => κ (tapY j) (tapX j)) s = conv A κ (curTok i s) := by
  unfold conv9 conv curTok
  have q : ∀ d : ℕ, i.val * 8 + (d * 64 + s.val) / 64 = (i.val * 512 + s.val) / 64 + d := fun d => by omega
  have r : ∀ d : ℕ, (d * 64 + s.val) % 64 = (i.val * 512 + s.val) % 64 := fun d => by omega
  simp only [xl_eq A i pm nm hpm hnm prev cur next hprev hcur hnext, xr_eq A i pm nm hpm hnm prev cur next hprev hcur hnext,
    xe_eq A i pm nm hpm hnm prev cur next hprev hcur hnext]
  have q0 := q 0; have q1 := q 1; have q2 := q 2
  have r0 := r 0; have r1 := r 1; have r2 := r 2
  simp only [Nat.zero_mul, Nat.reduceMul, Nat.one_mul] at q0 q1 q2 r0 r1 r2
  rw [q0, q1, q2, r0, r1, r2]
  rfl

end block

/-- A product in halves: the first factor and what is left of it against the second's first half, and the first factor
    against the second's other half. -/
def dsplit {n : ℕ} (x h l : Fin n → EReal) : EReal :=
  ((∑ k, x k * h k) + ∑ k, (x k - x k) * h k) + ∑ k, x k * l k
/-- Where both are numbers, it is the product. -/
theorem dsplit_eq {n : ℕ} (x w : Fin n → EReal) (hx : ∀ k, Num (x k)) (hw : ∀ k, Num (w k)) :
    dsplit x w (fun k => w k - w k) = ∑ k, x k * w k := by
  unfold dsplit
  simp only [fun k => (hx k).self, fun k => (hw k).self, zero_mul, mul_zero, Finset.sum_const_zero, add_zero]

/-- A key over its head's length. -/
def unit (y : Fin 512 → EReal) (c : Fin 512) : EReal :=
  Ideal.div (y c) (max (Ideal.sqrt (tot (fun l => y l * y l) (hd c))) (Ideal.ofBits .f32 0x2B8CBCCC#32))
/-- `log (1 + exp x)`, -/
def softplus (x : EReal) : EReal := max x 0 + Ideal.log1p (Ideal.exp (-(max x (-x))))
/-- and the logarithm of a decay from it. -/
def decay (z : EReal) : EReal := -Ideal.exp (-softplus (-z) - Ideal.ofBits .f32 0x3F000000#32)
/-- The key a direction adds to the state. -/
def dkey (k a ka : EReal) : EReal := k * (1 + (a - 1) * ka)

/-- The bonus over both directions, in one sum and in what is left of it, -/
def bonus' (r k0 k1 rk v : Fin 512 → EReal) (c : Fin 512) : EReal :=
  (tot (fun l => r l * (k0 l + k1 l) * rk l) (hd c)
    + tot (fun l => r l * (k0 l + k1 l) * rk l - r l * (k0 l + k1 l) * rk l) (hd c)) * v c
/-- and as the sum of the two directions' bonuses. -/
def bonus (r k0 k1 rk v : Fin 512 → EReal) (c : Fin 512) : EReal :=
  tot (fun l => r l * k0 l * rk l) (hd c) * v c + tot (fun l => r l * k1 l * rk l) (hd c) * v c
theorem bonus_eq (r k0 k1 rk v : Fin 512 → EReal) (hr : ∀ l, Num (r l)) (h0 : ∀ l, Num (k0 l)) (h1 : ∀ l, Num (k1 l))
    (hk : ∀ l, Num (rk l)) (hv : ∀ l, Num (v l)) (c : Fin 512) : bonus' r k0 k1 rk v c = bonus r k0 k1 rk v c := by
  unfold bonus' bonus tot
  simp only [fun l => (((hr l).mul ((h0 l).add (h1 l))).mul (hk l)).self, Finset.sum_const_zero, add_zero]
  rw [← Num.add_mul (Num.sum _ _ fun j _ => ((hr _).mul (h0 _)).mul (hk _))
    (Num.sum _ _ fun j _ => ((hr _).mul (h1 _)).mul (hk _)) (hv c), ← Finset.sum_add_distrib]
  refine congrArg (· * v c) (Finset.sum_congr rfl fun j _ => ?_)
  rw [Num.mul_add (hr _) (h0 _) (h1 _), Num.add_mul ((hr _).mul (h0 _)) ((hr _).mul (h1 _)) (hk _)]

theorem padAt_num (A : Fin 2048 → EReal) (hA : ∀ p, Num (A p)) (y x : ℕ) : Num (padAt A y x) := by
  unfold padAt
  split
  · exact hA _
  · exact Num.zero
theorem conv_num (A : Fin 2048 → EReal) (hA : ∀ p, Num (A p)) (κ : Fin 3 → Fin 3 → EReal) (hκ : ∀ a b, Num (κ a b))
    (p : Fin 2048) : Num (conv A κ p) := by
  have h : ∀ y x a b, Num (padAt A y x * κ a b) := fun y x a b => (padAt_num A hA y x).mul (hκ a b)
  unfold conv
  exact ((((((((h _ _ _ _).add (h _ _ _ _)).add (h _ _ _ _)).add (h _ _ _ _)).add (h _ _ _ _)).add (h _ _ _ _)).add
    (h _ _ _ _)).add (h _ _ _ _)).add (h _ _ _ _)
theorem dkey_num {k a ka : EReal} (hk : Num k) (ha : Num a) (hka : Num ka) : Num (dkey k a ka) :=
  hk.mul (Num.one.add ((ha.sub Num.one).mul hka))

/-- The arrays the preparation takes. -/
structure Args where
  u : (⟨3, ![16, 2048, 1536]⟩ : Shape).Idx → EReal
  lo : (⟨3, ![16, 2048, 384]⟩ : Shape).Idx → EReal
  cw : (⟨4, ![1, 3, 3, 1536]⟩ : Shape).Idx → EReal
  w0 : (⟨3, ![1, 2, 512]⟩ : Shape).Idx → EReal
  w2 : (⟨4, ![1, 2, 64, 512]⟩ : Shape).Idx → EReal
  a0 : (⟨3, ![1, 2, 512]⟩ : Shape).Idx → EReal
  a2 : (⟨4, ![1, 2, 64, 512]⟩ : Shape).Idx → EReal
  g2 : (⟨3, ![1, 128, 512]⟩ : Shape).Idx → EReal
  kk : (⟨2, ![1, 512]⟩ : Shape).Idx → EReal
  ka : (⟨2, ![1, 512]⟩ : Shape).Idx → EReal
  rk : (⟨3, ![1, 8, 64]⟩ : Shape).Idx → EReal

namespace Args

variable (A : Args)

/-- The convolution of channel `c` of part `t`: the receptances, the keys and the values. -/
def cv (t : Fin 3) (b : Fin 16) (p : Fin 2048) (c : Fin 512) : EReal :=
  conv (fun q => A.u (ix3 b q ⟨t.val * 512 + c.val, by omega⟩)) (fun y x => A.cw (ix4 0 y x ⟨t.val * 512 + c.val, by omega⟩)) p
/-- The key of length one, -/
def uk (b : Fin 16) (p : Fin 2048) (c : Fin 512) : EReal := unit (fun l => A.cv 1 b p l * A.kk (ix2 0 l)) c
/-- the decay's logarithm in direction `d`, -/
def ld (d : Fin 2) (b : Fin 16) (p : Fin 2048) (c : Fin 512) : EReal :=
  decay (A.w0 (ix3 0 d c) + ∑ k : Fin 64, Ideal.tanh (A.lo (ix3 b p ⟨d.val * 64 + k.val, by omega⟩)) * A.w2 (ix4 0 d k c))
/-- the learning rate, -/
def al (d : Fin 2) (b : Fin 16) (p : Fin 2048) (c : Fin 512) : EReal :=
  Ideal.logistic (A.a0 (ix3 0 d c) + ∑ k : Fin 64, A.lo (ix3 b p ⟨(2 + d.val) * 64 + k.val, by omega⟩) * A.a2 (ix4 0 d k c))
/-- the key added to the state, -/
def dk (d : Fin 2) (b : Fin 16) (p : Fin 2048) (c : Fin 512) : EReal := dkey (A.cv 1 b p c) (A.al d b p c) (A.ka (ix2 0 c))
/-- the bonus, -/
def bo (b : Fin 16) (p : Fin 2048) (c : Fin 512) : EReal :=
  bonus (A.cv 0 b p) (A.dk 0 b p) (A.dk 1 b p) (fun l => A.rk (ix3 0 (hd l) (pl l))) (A.cv 2 b p) c
/-- and the gate. -/
def ga (b : Fin 16) (p : Fin 2048) (c : Fin 512) : EReal :=
  ∑ k : Fin 128, Ideal.logistic (A.lo (ix3 b p ⟨256 + k.val, by omega⟩)) * A.g2 (ix3 0 k c)

/-- The operands of the scan, in pairs. -/
def ops (o : Fin 4) (j : Fin 2) (b : Fin 16) (p : Fin 2048) (c : Fin 512) : EReal :=
  if o = 0 then (if j = 0 then A.cv 0 b p c else A.uk b p c)
  else if o = 1 then A.cv 2 b p c
  else if o = 2 then (if j = 0 then A.dk 0 b p c else A.uk b p c * A.al 0 b p c)
  else (if j = 0 then A.dk 1 b p c else A.uk b p c * A.al 1 b p c)

/-- The four results: the operands, -/
def opsA : (⟨5, ![4, 2, 16, 2048, 512]⟩ : Shape).Idx → EReal := fun y => A.ops (y 0) (y 1) (y 2) (y 3) (y 4)
/-- the decays, -/
def ldA : (⟨4, ![2, 16, 2048, 512]⟩ : Shape).Idx → EReal := fun y => A.ld (y 0) (y 1) (y 2) (y 3)
/-- the bonus -/
def boA : (⟨3, ![16, 2048, 512]⟩ : Shape).Idx → EReal := fun y => A.bo (y 0) (y 1) (y 2)
/-- and the gate. -/
def gaA : (⟨3, ![16, 2048, 512]⟩ : Shape).Idx → EReal := fun y => A.ga (y 0) (y 1) (y 2)

/-- Those among the arrays that are taken in halves or summed in two parts hold numbers. -/
structure Numbers : Prop where
  u : ∀ i, Num (A.u i)
  lo : ∀ i, Num (A.lo i)
  cw : ∀ i, Num (A.cw i)
  w2 : ∀ i, Num (A.w2 i)
  a2 : ∀ i, Num (A.a2 i)
  g2 : ∀ i, Num (A.g2 i)
  ka : ∀ i, Num (A.ka i)
  rk : ∀ i, Num (A.rk i)

end Args

end Cert.Prep
-- ==== Proof.PrepOk.lean ====
/-
  What the precondition of the preparation says of its arrays.
-/
module

public import proofs.«01_k».proof.Proof.PrepRow
public import proofs.«01_k».proof.Proof.Gen.Pre_numbers
public import Idealize.ShloMosaic.Lib.ReduceAll
public import Idealize.ShloMosaic.Lib.IdealHost

@[expose] public section

set_option maxRecDepth 16384

noncomputable section

namespace Cert.Prep

open Idealize.ShloMosaic Cert.Pre_numbers

instance : Subsingleton (⟨0, ![]⟩ : Shape).Idx := ⟨fun _ _ => funext fun a => a.elim0⟩

/-- An entry that differs from itself by zero is a number. -/
theorem num_of_eq {x : EReal} (h : FloatOps.cmpf (F := Ideal) (φ := .f32) .oeq (FloatOps.subf (F := Ideal) (φ := .f32) x x) (FloatOps.ofBits (F := Ideal) .f32 0x00000000#32) = 1#1) : Num x := by
  refine Num.of_self ?_
  have h0 : (FloatOps.ofBits (F := Ideal) .f32 0x00000000#32 : EReal) = 0 := Ideal.ofBits_zero_f32
  rw [h0] at h
  by_contra hn
  have : FloatOps.cmpf (F := Ideal) (φ := .f32) .oeq (FloatOps.subf (F := Ideal) (φ := .f32) x x) (0 : EReal) = 0#1 := by
    show BitVec.ofBool (decide (x - x = 0)) = 0#1
    rw [decide_eq_false hn]
    rfl
  rw [this] at h
  exact absurd h (by decide)

theorem andi_one {x y : BitVec 1} (h : IntOp.andi x y = 1#1) : x = 1#1 ∧ y = 1#1 := by
  revert h
  revert x y
  decide

/-- One array's part of the precondition. -/
theorem num_of_all {s : Shape} {axes : List (Fin s.rank)} (x : FVec Ideal s .f32) (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .oeq (subf x x) (broadcastInDim s ![] hb (constant ⟨0, ![]⟩ .f32 0x00000000#32)))
      (constantI ⟨0, ![]⟩ 1 1#1) h hu j = 1#1) (i : s.Idx) : Num (x i) :=
  num_of_eq (Host.reduce_andi_all _ _ h hu j e i)

/-- The precondition says that the eight arrays hold numbers. -/
theorem numbers_of_pre [Pre_numbers.Facts] (x0 : FVec Ideal S16x2048x1536 .f32) (x1 : FVec Ideal S16x2048x384 .f32)
    (x2 : FVec Ideal S1x3x3x1536 .f32) (x3 : FVec Ideal S1x2x512 .f32) (x4 : FVec Ideal S1x2x64x512 .f32) (x5 : FVec Ideal S1x2x512 .f32)
    (x6 : FVec Ideal S1x2x64x512 .f32) (x7 : FVec Ideal S1x128x512 .f32) (x8 x9 : FVec Ideal S1x512 .f32) (x10 : FVec Ideal S1x8x64 .f32)
    (h : Pre_numbers.fn (F := Ideal) x0 x1 x2 x3 x4 x5 x6 x7 x8 x9 x10 = fun _ => 1#1) :
    Args.Numbers ⟨x0, x1, x2, x3, x4, x5, x6, x7, x8, x9, x10⟩ := by
  have e := congrFun h ix0
  unfold Pre_numbers.fn fn_part1 fn_part2 at e
  dsimp only at e
  obtain ⟨e, e10⟩ := andi_one e
  obtain ⟨e, e9⟩ := andi_one e
  obtain ⟨e, e7⟩ := andi_one e
  obtain ⟨e, e6⟩ := andi_one e
  obtain ⟨e, e4⟩ := andi_one e
  obtain ⟨e, e2⟩ := andi_one e
  obtain ⟨e0, e1⟩ := andi_one e
  exact ⟨num_of_all x0 _ _ _ _ e0, num_of_all x1 _ _ _ _ e1, num_of_all x2 _ _ _ _ e2, num_of_all x4 _ _ _ _ e4,
    num_of_all x6 _ _ _ _ e6, num_of_all x7 _ _ _ _ e7, num_of_all x9 _ _ _ _ e9, num_of_all x10 _ _ _ _ e10⟩

end Cert.Prep
-- ==== Proof.PrepRef.lean ====
/-
  What the reference of the preparation computes, read at an index.
-/
module

public import proofs.«01_k».proof.Proof.Gen.Reference5Ideal.Run
public import proofs.«01_k».proof.Proof.Gen.Reference5Ideal.Read
public import proofs.«01_k».proof.Proof.PrepRow
public import Idealize.ShloMosaic.Lib.Pointwise
public import Idealize.ShloMosaic.Lib.IdealHost
public import Idealize.ShloMosaic.Lib.KernelVsHost
public import Idealize.ShloMosaic.Lib.Pipeline.ValueKit

@[expose] public section

set_option maxRecDepth 16384

noncomputable section

namespace Cert.Reference5Ideal.At

open Cert.Reference5Ideal Cert.Reference5Ideal.Gen Cert.Reference5Ideal.Read Cert.Prep
open Cert.Post (hd pl ln tot hd_ln)
open Idealize.ShloMosaic Idealize.ShloMosaic.TcCoe Idealize.SL.Sem

variable (x0 : FVec Ideal S16x2048x1536 .f32) (x1 : FVec Ideal S16x2048x384 .f32) (x2 : FVec Ideal S1x3x3x1536 .f32)
  (x3 : FVec Ideal S1x2x512 .f32) (x4 : FVec Ideal S1x2x64x512 .f32) (x5 : FVec Ideal S1x2x512 .f32)
  (x6 : FVec Ideal S1x2x64x512 .f32) (x7 : FVec Ideal S1x128x512 .f32) (x8 x9 : FVec Ideal S1x512 .f32)
  (x10 : FVec Ideal S1x8x64 .f32)

/-- The grid with its border of zeros. -/
theorem pad_at (b : Fin 16) (y : Fin 34) (x : Fin 66) (e : Fin 1536) :
    (val_main_v1 (F := Ideal) x0 (ix4 b y x e) : EReal) = padAt (fun q => x0 (ix3 b q e)) y.val x.val := by
  unfold padAt
  pointwise [val_main_v1, val_main_v0, val_main_call0_v0, val_main_c]
  have hz : (FloatOps.sitofp (F := Ideal) (w := 32) .f32 0#32 : EReal) = 0 := by
    show (((0#32 : BitVec 32).toInt : ℝ) : EReal) = 0
    norm_num
  by_cases h : (1 ≤ y.val ∧ y.val ≤ 32) ∧ (1 ≤ x.val ∧ x.val ≤ 64)
  · rw [dif_pos h, dif_pos (by omega)]
  · rw [dif_neg h, dif_neg (by omega), hz]

/-- The convolution. -/
theorem conv_at (b : Fin 16) (p : Fin 2048) (e : Fin 1536) :
    (val_main_v65 (F := Ideal) x0 x2 (ix3 b p e) : EReal) = conv (fun q => x0 (ix3 b q e)) (fun y x => x2 (ix4 0 y x e)) p := by
  unfold conv
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65]
  simp only [pad_at, Nat.add_comm 1, Nat.add_comm 2]

theorem r_at (b : Fin 16) (p : Fin 2048) (c : Fin 512) :
    (val_main_v66 (F := Ideal) x0 x2 (ix3 b p c) : EReal) = Args.cv ⟨x0, x1, x2, x3, x4, x5, x6, x7, x8, x9, x10⟩ 0 b p c := by
  unfold Args.cv
  pointwise [val_main_v66]
  rw [conv_at]
theorem k_at (b : Fin 16) (p : Fin 2048) (c : Fin 512) :
    (val_main_v67 (F := Ideal) x0 x2 (ix3 b p c) : EReal) = Args.cv ⟨x0, x1, x2, x3, x4, x5, x6, x7, x8, x9, x10⟩ 1 b p c := by
  unfold Args.cv
  pointwise [val_main_v67]
  rw [conv_at]
theorem v_at (b : Fin 16) (p : Fin 2048) (c : Fin 512) :
    (val_main_v68 (F := Ideal) x0 x2 (ix3 b p c) : EReal) = Args.cv ⟨x0, x1, x2, x3, x4, x5, x6, x7, x8, x9, x10⟩ 2 b p c := by
  unfold Args.cv
  pointwise [val_main_v68]
  rw [conv_at]

/-- Where a lane of a head lies in a row, -/
theorem idx73 (b : Fin 16) (p : Fin 2048) (h : Fin 8) (j : Fin 64) : idx_main_v73 (ix4 b p h j) = ix3 b p (ln h j) := by
  funext a
  match a with
  | ⟨0, _⟩ => exact Fin.ext (by show (((b.val * 2048 + p.val) * 8 + h.val) * 64 + j.val) / 1048576 = b.val; omega)
  | ⟨1, _⟩ => exact Fin.ext (by show (((b.val * 2048 + p.val) * 8 + h.val) * 64 + j.val) / 512 % 2048 = p.val; omega)
  | ⟨2, _⟩ => exact Fin.ext (by show (((b.val * 2048 + p.val) * 8 + h.val) * 64 + j.val) % 512 = h.val * 64 + j.val; omega)
/-- and which lane of which head a place in a row is. -/
theorem idx82 (b : Fin 16) (p : Fin 2048) (c : Fin 512) : idx_main_v82 (ix3 b p c) = ix4 b p (hd c) (pl c) := by
  funext a
  match a with
  | ⟨0, _⟩ => exact Fin.ext (by show ((b.val * 2048 + p.val) * 512 + c.val) / 1048576 = b.val; omega)
  | ⟨1, _⟩ => exact Fin.ext (by show ((b.val * 2048 + p.val) * 512 + c.val) / 512 % 2048 = p.val; omega)
  | ⟨2, _⟩ => exact Fin.ext (by show ((b.val * 2048 + p.val) * 512 + c.val) / 64 % 8 = c.val / 64; omega)
  | ⟨3, _⟩ => exact Fin.ext (by show ((b.val * 2048 + p.val) * 512 + c.val) % 64 = c.val % 64; omega)
theorem ln_hd (c : Fin 512) : ln (hd c) (pl c) = c :=
  Fin.ext (by show c.val / 64 * 64 + c.val % 64 = c.val; omega)

theorem y_at (b : Fin 16) (p : Fin 2048) (h : Fin 8) (j : Fin 64) :
    (val_main_v73 (F := Ideal) x0 x2 x8 (ix4 b p h j) : EReal) = Args.cv ⟨x0, x1, x2, x3, x4, x5, x6, x7, x8, x9, x10⟩ 1 b p (ln h j) * x8 (ix2 0 (ln h j)) := by
  rw [← k_at, val_main_v73_apply, val_main_v72_apply, idx73]
  refine congrArg₂ (fun a b : EReal => a * b) rfl ?_
  pointwise [val_main_v69, val_main_v70, val_main_v71]

/-- The keys of length one. -/
theorem uk_at (b : Fin 16) (p : Fin 2048) (c : Fin 512) :
    (val_main_v82 (F := Ideal) x0 x2 x8 (ix3 b p c) : EReal) = Args.uk ⟨x0, x1, x2, x3, x4, x5, x6, x7, x8, x9, x10⟩ b p c := by
  unfold Args.uk
  generalize hw : (fun l => Args.cv ⟨x0, x1, x2, x3, x4, x5, x6, x7, x8, x9, x10⟩ 1 b p l * x8 (ix2 0 l)) = w
  have hy : ∀ h j, (val_main_v73 (F := Ideal) x0 x2 x8 (ix4 b p h j) : EReal) = w (ln h j) := fun h j =>
    (y_at x0 x1 x2 x3 x4 x5 x6 x7 x8 x9 x10 b p h j).trans (congrFun hw (ln h j))
  clear hw
  have hs : ∀ h j, (val_main_v74 (F := Ideal) x0 x2 x8 (ix4 b p h j) : EReal) = w (ln h j) * w (ln h j) := fun h j =>
    (val_main_v74_apply (F := Ideal) x0 x2 x8 _).trans (congrArg₂ (fun a b : EReal => a * b) (hy h j) (hy h j))
  rw [val_main_v82_apply, val_main_v81_apply, idx82]
  unfold unit tot
  refine congrArg₂ Ideal.div ((hy (hd c) (pl c)).trans (congrArg w (ln_hd c))) ?_
  unfold val_main_v80 val_main_v79 val_main_v77 val_main_v76 val_main_v75
  generalize val_main_v74 (F := Ideal) x0 x2 x8 = q at hs ⊢
  simp only [← hs]
  pointwise [val_main_v78, val_main_cst, val_main_cst_0]

theorem z0_at (b : Fin 16) (p : Fin 2048) (c : Fin 512) :
    (val_main_v99 (F := Ideal) x1 x3 x4 (ix3 b p c) : EReal)
      = x3 (ix3 0 0 c) + ∑ k : Fin 64, Ideal.tanh (x1 (ix3 b p ⟨(0 : Fin 2).val * 64 + k.val, by omega⟩)) * x4 (ix4 0 0 k c) := by
  pointwise [val_main_v89, val_main_v90, val_main_v91, val_main_v92, val_main_v93, val_main_v94, val_main_v95, val_main_v96, val_main_v97, val_main_v98, val_main_v99]
theorem z1_at (b : Fin 16) (p : Fin 2048) (c : Fin 512) :
    (val_main_v155 (F := Ideal) x1 x3 x4 (ix3 b p c) : EReal)
      = x3 (ix3 0 1 c) + ∑ k : Fin 64, Ideal.tanh (x1 (ix3 b p ⟨(1 : Fin 2).val * 64 + k.val, by omega⟩)) * x4 (ix4 0 1 k c) := by
  pointwise [val_main_v145, val_main_v146, val_main_v147, val_main_v148, val_main_v149, val_main_v150, val_main_v151, val_main_v152, val_main_v153, val_main_v154, val_main_v155]

/-- The decays. -/
theorem ld0_at (b : Fin 16) (p : Fin 2048) (c : Fin 512) :
    (val_main_v106 (F := Ideal) x1 x3 x4 (ix3 b p c) : EReal) = Args.ld ⟨x0, x1, x2, x3, x4, x5, x6, x7, x8, x9, x10⟩ 0 b p c := by
  have hz := z0_at x1 x3 x4 b p c
  unfold Args.ld decay softplus
  dsimp only
  rw [← hz]
  generalize hq : val_main_v99 (F := Ideal) x1 x3 x4 = q
  pointwise [val_main_v100, val_main_v101, val_main_v102, val_main_v103, val_main_v104, val_main_v105, val_main_v106, val_main_cst_1, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11]
  rw [hq]
  rw [if_neg fun h => h rfl]
  rfl
theorem ld1_at (b : Fin 16) (p : Fin 2048) (c : Fin 512) :
    (val_main_v162 (F := Ideal) x1 x3 x4 (ix3 b p c) : EReal) = Args.ld ⟨x0, x1, x2, x3, x4, x5, x6, x7, x8, x9, x10⟩ 1 b p c := by
  have hz := z1_at x1 x3 x4 b p c
  unfold Args.ld decay softplus
  dsimp only
  rw [← hz]
  generalize hq : val_main_v155 (F := Ideal) x1 x3 x4 = q
  pointwise [val_main_v156, val_main_v157, val_main_v158, val_main_v159, val_main_v160, val_main_v161, val_main_v162, val_main_cst_7, val_main_call2_cst, val_main_call2_v0, val_main_call2_v1, val_main_call2_v2, val_main_call2_v3, val_main_call2_v4, val_main_call2_v5, val_main_call2_v6, val_main_call2_v7, val_main_call2_v8, val_main_call2_v9, val_main_call2_v10, val_main_call2_v11]
  rw [hq]
  rw [if_neg fun h => h rfl]
  rfl

/-- The learning rates. -/
theorem al0_at (b : Fin 16) (p : Fin 2048) (c : Fin 512) :
    (val_main_v120 (F := Ideal) x1 x5 x6 (ix3 b p c) : EReal) = Args.al ⟨x0, x1, x2, x3, x4, x5, x6, x7, x8, x9, x10⟩ 0 b p c := by
  unfold Args.al Ideal.logistic
  pointwise [val_main_v107, val_main_v108, val_main_v109, val_main_v110, val_main_v111, val_main_v112, val_main_v113, val_main_v114, val_main_v115, val_main_v116, val_main_v117, val_main_v118, val_main_v119, val_main_v120, val_main_v90, val_main_cst_2, val_main_cst_3]
theorem al1_at (b : Fin 16) (p : Fin 2048) (c : Fin 512) :
    (val_main_v176 (F := Ideal) x1 x5 x6 (ix3 b p c) : EReal) = Args.al ⟨x0, x1, x2, x3, x4, x5, x6, x7, x8, x9, x10⟩ 1 b p c := by
  unfold Args.al Ideal.logistic
  pointwise [val_main_v163, val_main_v164, val_main_v165, val_main_v166, val_main_v167, val_main_v168, val_main_v169, val_main_v170, val_main_v171, val_main_v172, val_main_v173, val_main_v174, val_main_v175, val_main_v176, val_main_v146, val_main_cst_8, val_main_cst_9]

/-- The keys added. -/
theorem dk0_at (b : Fin 16) (p : Fin 2048) (c : Fin 512) :
    (val_main_v129 (F := Ideal) x0 x1 x2 x5 x6 x9 (ix3 b p c) : EReal) = Args.dk ⟨x0, x1, x2, x3, x4, x5, x6, x7, x8, x9, x10⟩ 0 b p c := by
  rw [val_main_v129_apply]
  unfold Args.dk dkey
  rw [← k_at, ← al0_at]
  refine congrArg₂ (fun a b : EReal => a * b) rfl ?_
  pointwise [val_main_v121, val_main_v122, val_main_v123, val_main_v124, val_main_v125, val_main_v126, val_main_v127, val_main_v128, val_main_cst_4, val_main_cst_5]
theorem dk1_at (b : Fin 16) (p : Fin 2048) (c : Fin 512) :
    (val_main_v185 (F := Ideal) x0 x1 x2 x5 x6 x9 (ix3 b p c) : EReal) = Args.dk ⟨x0, x1, x2, x3, x4, x5, x6, x7, x8, x9, x10⟩ 1 b p c := by
  rw [val_main_v185_apply]
  unfold Args.dk dkey
  rw [← k_at, ← al1_at]
  refine congrArg₂ (fun a b : EReal => a * b) rfl ?_
  pointwise [val_main_v177, val_main_v178, val_main_v179, val_main_v180, val_main_v181, val_main_v182, val_main_v183, val_main_v184, val_main_cst_10, val_main_cst_11]

/-- The bonus of each direction, -/
theorem bo0_at (b : Fin 16) (p : Fin 2048) (h : Fin 8) (j : Fin 64) :
    (val_main_v144 (F := Ideal) x0 x1 x2 x5 x6 x9 x10 (ix4 b p h j) : EReal)
      = tot (fun l => Args.cv ⟨x0, x1, x2, x3, x4, x5, x6, x7, x8, x9, x10⟩ 0 b p l * Args.dk ⟨x0, x1, x2, x3, x4, x5, x6, x7, x8, x9, x10⟩ 0 b p l * x10 (ix3 0 (hd l) (pl l))) h * Args.cv ⟨x0, x1, x2, x3, x4, x5, x6, x7, x8, x9, x10⟩ 2 b p (ln h j) := by
  have hr := r_at x0 x1 x2 x3 x4 x5 x6 x7 x8 x9 x10 b p
  have hv := v_at x0 x1 x2 x3 x4 x5 x6 x7 x8 x9 x10 b p
  have h0 := dk0_at x0 x1 x2 x3 x4 x5 x6 x7 x8 x9 x10 b p
  generalize Args.cv ⟨x0, x1, x2, x3, x4, x5, x6, x7, x8, x9, x10⟩ 0 b p = r at hr ⊢
  generalize Args.cv ⟨x0, x1, x2, x3, x4, x5, x6, x7, x8, x9, x10⟩ 2 b p = v at hv ⊢
  generalize Args.dk ⟨x0, x1, x2, x3, x4, x5, x6, x7, x8, x9, x10⟩ 0 b p = k at h0 ⊢
  have hp : ∀ j, (val_main_v139 (F := Ideal) x0 x1 x2 x5 x6 x9 x10 (ix4 b p h j) : EReal)
      = r (ln h j) * k (ln h j) * x10 (ix3 0 (hd (ln h j)) (pl (ln h j))) := fun j => by
    rw [val_main_v139_apply, val_main_v135_apply, val_main_v134_apply]
    refine congrArg₂ (fun a b : EReal => a * b) (congrArg₂ (fun a b : EReal => a * b) ?_ ?_) ?_
    · exact (congrArg (val_main_v66 (F := Ideal) x0 x2) (idx73 b p h j)).trans (hr _)
    · exact (congrArg (val_main_v129 (F := Ideal) x0 x1 x2 x5 x6 x9) (idx73 b p h j)).trans (h0 _)
    · rw [hd_ln, show pl (ln h j) = j from Fin.ext (by show (h.val * 64 + j.val) % 64 = j.val; omega)]
      pointwise [val_main_v136, val_main_v137, val_main_v138]
  rw [val_main_v144_apply]
  refine congrArg₂ (fun a b : EReal => a * b) ?_ ?_
  · unfold tot
    simp only [← hp]
    unfold val_main_v143 val_main_v141 val_main_v140
    generalize val_main_v139 (F := Ideal) x0 x1 x2 x5 x6 x9 x10 = q
    pointwise [val_main_cst_6]
  · rw [val_main_v142_apply]
    exact (congrArg (val_main_v68 (F := Ideal) x0 x2) (idx73 b p h j)).trans (hv _)
theorem bo1_at (b : Fin 16) (p : Fin 2048) (h : Fin 8) (j : Fin 64) :
    (val_main_v200 (F := Ideal) x0 x1 x2 x5 x6 x9 x10 (ix4 b p h j) : EReal)
      = tot (fun l => Args.cv ⟨x0, x1, x2, x3, x4, x5, x6, x7, x8, x9, x10⟩ 0 b p l * Args.dk ⟨x0, x1, x2, x3, x4, x5, x6, x7, x8, x9, x10⟩ 1 b p l * x10 (ix3 0 (hd l) (pl l))) h * Args.cv ⟨x0, x1, x2, x3, x4, x5, x6, x7, x8, x9, x10⟩ 2 b p (ln h j) := by
  have hr := r_at x0 x1 x2 x3 x4 x5 x6 x7 x8 x9 x10 b p
  have hv := v_at x0 x1 x2 x3 x4 x5 x6 x7 x8 x9 x10 b p
  have h0 := dk1_at x0 x1 x2 x3 x4 x5 x6 x7 x8 x9 x10 b p
  generalize Args.cv ⟨x0, x1, x2, x3, x4, x5, x6, x7, x8, x9, x10⟩ 0 b p = r at hr ⊢
  generalize Args.cv ⟨x0, x1, x2, x3, x4, x5, x6, x7, x8, x9, x10⟩ 2 b p = v at hv ⊢
  generalize Args.dk ⟨x0, x1, x2, x3, x4, x5, x6, x7, x8, x9, x10⟩ 1 b p = k at h0 ⊢
  have hp : ∀ j, (val_main_v195 (F := Ideal) x0 x1 x2 x5 x6 x9 x10 (ix4 b p h j) : EReal)
      = r (ln h j) * k (ln h j) * x10 (ix3 0 (hd (ln h j)) (pl (ln h j))) := fun j => by
    rw [val_main_v195_apply, val_main_v191_apply, val_main_v190_apply]
    refine congrArg₂ (fun a b : EReal => a * b) (congrArg₂ (fun a b : EReal => a * b) ?_ ?_) ?_
    · exact (congrArg (val_main_v66 (F := Ideal) x0 x2) (idx73 b p h j)).trans (hr _)
    · exact (congrArg (val_main_v185 (F := Ideal) x0 x1 x2 x5 x6 x9) (idx73 b p h j)).trans (h0 _)
    · rw [hd_ln, show pl (ln h j) = j from Fin.ext (by show (h.val * 64 + j.val) % 64 = j.val; omega)]
      pointwise [val_main_v192, val_main_v193, val_main_v194]
  rw [val_main_v200_apply]
  refine congrArg₂ (fun a b : EReal => a * b) ?_ ?_
  · unfold tot
    simp only [← hp]
    unfold val_main_v199 val_main_v197 val_main_v196
    generalize val_main_v195 (F := Ideal) x0 x1 x2 x5 x6 x9 x10 = q
    pointwise [val_main_cst_12]
  · rw [val_main_v198_apply]
    exact (congrArg (val_main_v68 (F := Ideal) x0 x2) (idx73 b p h j)).trans (hv _)
/-- and their sum. -/
theorem bo_at (b : Fin 16) (p : Fin 2048) (c : Fin 512) :
    (val_main_v221 (F := Ideal) x0 x1 x2 x5 x6 x9 x10 (ix3 b p c) : EReal) = Args.bo ⟨x0, x1, x2, x3, x4, x5, x6, x7, x8, x9, x10⟩ b p c := by
  rw [val_main_v221_apply, val_main_v220_apply]
  unfold Args.bo bonus
  refine congrArg₂ (fun a b : EReal => a + b) ?_ ?_
  · refine (congrArg (val_main_v144 (F := Ideal) x0 x1 x2 x5 x6 x9 x10) (idx82 b p c)).trans ?_
    rw [bo0_at x0 x1 x2 x3 x4 x5 x6 x7 x8 x9 x10, ln_hd]
  · refine (congrArg (val_main_v200 (F := Ideal) x0 x1 x2 x5 x6 x9 x10) (idx82 b p c)).trans ?_
    rw [bo1_at x0 x1 x2 x3 x4 x5 x6 x7 x8 x9 x10, ln_hd]

/-- The gate. -/
theorem ga_at (b : Fin 16) (p : Fin 2048) (c : Fin 512) :
    (val_main_v209 (F := Ideal) x1 x7 (ix3 b p c) : EReal) = Args.ga ⟨x0, x1, x2, x3, x4, x5, x6, x7, x8, x9, x10⟩ b p c := by
  unfold Args.ga Ideal.logistic
  pointwise [val_main_v201, val_main_v202, val_main_v203, val_main_v204, val_main_v205, val_main_v206, val_main_v207, val_main_v208, val_main_v209, val_main_cst_13, val_main_cst_14]

/-- The operands of the scan. -/
theorem ops_at (o : Fin 4) (j : Fin 2) (b : Fin 16) (p : Fin 2048) (c : Fin 512) :
    (val_main_v215 (F := Ideal) x0 x1 x2 x5 x6 x8 x9 (ix5 o j b p c) : EReal) = Args.ops ⟨x0, x1, x2, x3, x4, x5, x6, x7, x8, x9, x10⟩ o j b p c := by
  have hr := r_at x0 x1 x2 x3 x4 x5 x6 x7 x8 x9 x10 b p c
  have hv := v_at x0 x1 x2 x3 x4 x5 x6 x7 x8 x9 x10 b p c
  have hu := uk_at x0 x1 x2 x3 x4 x5 x6 x7 x8 x9 x10 b p c
  have h0 := dk0_at x0 x1 x2 x3 x4 x5 x6 x7 x8 x9 x10 b p c
  have h1 := dk1_at x0 x1 x2 x3 x4 x5 x6 x7 x8 x9 x10 b p c
  have l0 : (val_main_v130 (F := Ideal) x0 x1 x2 x5 x6 x8 (ix3 b p c) : EReal) = Args.uk ⟨x0, x1, x2, x3, x4, x5, x6, x7, x8, x9, x10⟩ b p c * Args.al ⟨x0, x1, x2, x3, x4, x5, x6, x7, x8, x9, x10⟩ 0 b p c :=
    (val_main_v130_apply (F := Ideal) x0 x1 x2 x5 x6 x8 _).trans
      (congrArg₂ (fun a b : EReal => a * b) hu (al0_at x0 x1 x2 x3 x4 x5 x6 x7 x8 x9 x10 b p c))
  have l1 : (val_main_v186 (F := Ideal) x0 x1 x2 x5 x6 x8 (ix3 b p c) : EReal) = Args.uk ⟨x0, x1, x2, x3, x4, x5, x6, x7, x8, x9, x10⟩ b p c * Args.al ⟨x0, x1, x2, x3, x4, x5, x6, x7, x8, x9, x10⟩ 1 b p c :=
    (val_main_v186_apply (F := Ideal) x0 x1 x2 x5 x6 x8 _).trans
      (congrArg₂ (fun a b : EReal => a * b) hu (al1_at x0 x1 x2 x3 x4 x5 x6 x7 x8 x9 x10 b p c))
  unfold Args.ops
  rw [← l0, ← l1, ← hr, ← hv, ← hu, ← h0, ← h1]
  clear hr hv hu h0 h1 l0 l1
  unfold val_main_v215 val_main_v214 val_main_v213 val_main_v212 val_main_v211 val_main_v210 val_main_v189 val_main_v188 val_main_v187 val_main_v133 val_main_v132 val_main_v131 val_main_v88 val_main_v87 val_main_v86 val_main_v85 val_main_v84 val_main_v83
  generalize val_main_v66 (F := Ideal) x0 x2 = r
  generalize val_main_v68 (F := Ideal) x0 x2 = v
  generalize val_main_v82 (F := Ideal) x0 x2 x8 = u
  generalize val_main_v129 (F := Ideal) x0 x1 x2 x5 x6 x9 = k0
  generalize val_main_v185 (F := Ideal) x0 x1 x2 x5 x6 x9 = k1
  generalize val_main_v130 (F := Ideal) x0 x1 x2 x5 x6 x8 = a0
  generalize val_main_v186 (F := Ideal) x0 x1 x2 x5 x6 x8 = a1
  fin_cases o <;> fin_cases j <;> pointwise

/-- The decays, in pairs. -/
theorem lds_at (j : Fin 2) (b : Fin 16) (p : Fin 2048) (c : Fin 512) :
    (val_main_v219 (F := Ideal) x1 x3 x4 (ix4 j b p c) : EReal) = Args.ld ⟨x0, x1, x2, x3, x4, x5, x6, x7, x8, x9, x10⟩ j b p c := by
  have h0 := ld0_at x0 x1 x2 x3 x4 x5 x6 x7 x8 x9 x10 b p c
  have h1 := ld1_at x0 x1 x2 x3 x4 x5 x6 x7 x8 x9 x10 b p c
  have e : Args.ld ⟨x0, x1, x2, x3, x4, x5, x6, x7, x8, x9, x10⟩ j b p c = if j = 0 then Args.ld ⟨x0, x1, x2, x3, x4, x5, x6, x7, x8, x9, x10⟩ 0 b p c else Args.ld ⟨x0, x1, x2, x3, x4, x5, x6, x7, x8, x9, x10⟩ 1 b p c := by
    fin_cases j <;> rfl
  rw [e, ← h0, ← h1]
  clear h0 h1 e
  unfold val_main_v219 val_main_v218 val_main_v217 val_main_v216
  generalize val_main_v106 (F := Ideal) x1 x3 x4 = l0
  generalize val_main_v162 (F := Ideal) x1 x3 x4 = l1
  fin_cases j <;> pointwise

theorem res0 : (val_main_v215 (F := Ideal) x0 x1 x2 x5 x6 x8 x9 : S4x2x16x2048x512.Idx → EReal) = Args.opsA ⟨x0, x1, x2, x3, x4, x5, x6, x7, x8, x9, x10⟩ := by
  funext i
  obtain ⟨o, j, b, p, c, rfl⟩ : ∃ (o : Fin 4) (j : Fin 2) (b : Fin 16) (p : Fin 2048) (c : Fin 512), i = ix5 o j b p c :=
    ⟨i 0, i 1, i 2, i 3, i 4, eq_ix5 i⟩
  exact ops_at x0 x1 x2 x3 x4 x5 x6 x7 x8 x9 x10 o j b p c
theorem res1 : (val_main_v219 (F := Ideal) x1 x3 x4 : S2x16x2048x512.Idx → EReal) = Args.ldA ⟨x0, x1, x2, x3, x4, x5, x6, x7, x8, x9, x10⟩ := by
  funext i
  obtain ⟨j, b, p, c, rfl⟩ : ∃ (j : Fin 2) (b : Fin 16) (p : Fin 2048) (c : Fin 512), i = ix4 j b p c :=
    ⟨i 0, i 1, i 2, i 3, eq_ix4 i⟩
  exact lds_at x0 x1 x2 x3 x4 x5 x6 x7 x8 x9 x10 j b p c
theorem res2 : (val_main_v221 (F := Ideal) x0 x1 x2 x5 x6 x9 x10 : S16x2048x512.Idx → EReal) = Args.boA ⟨x0, x1, x2, x3, x4, x5, x6, x7, x8, x9, x10⟩ := by
  funext i
  obtain ⟨b, p, c, rfl⟩ : ∃ (b : Fin 16) (p : Fin 2048) (c : Fin 512), i = ix3 b p c := ⟨i 0, i 1, i 2, eq_ix3 i⟩
  exact bo_at x0 x1 x2 x3 x4 x5 x6 x7 x8 x9 x10 b p c
theorem res3 : (val_main_v209 (F := Ideal) x1 x7 : S16x2048x512.Idx → EReal) = Args.gaA ⟨x0, x1, x2, x3, x4, x5, x6, x7, x8, x9, x10⟩ := by
  funext i
  obtain ⟨b, p, c, rfl⟩ : ∃ (b : Fin 16) (p : Fin 2048) (c : Fin 512), i = ix3 b p c := ⟨i 0, i 1, i 2, eq_ix3 i⟩
  exact ga_at x0 x1 x2 x3 x4 x5 x6 x7 x8 x9 x10 b p c

/-- The reference's arguments on device `c`. -/
abbrev args (m : (ℓ : Loc nD τ sig) → Buf (Elt Ideal) ℓ) (c : Dev nD) : Prep.Args :=
  { u := m ((c : Thread nD τ).loc main_arg0),
    lo := m ((c : Thread nD τ).loc main_arg1),
    cw := m ((c : Thread nD τ).loc main_arg2),
    w0 := m ((c : Thread nD τ).loc main_arg3),
    w2 := m ((c : Thread nD τ).loc main_arg4),
    a0 := m ((c : Thread nD τ).loc main_arg5),
    a2 := m ((c : Thread nD τ).loc main_arg6),
    g2 := m ((c : Thread nD τ).loc main_arg7),
    kk := m ((c : Thread nD τ).loc main_arg8),
    ka := m ((c : Thread nD τ).loc main_arg9),
    rk := m ((c : Thread nD τ).loc main_arg10) }

end Cert.Reference5Ideal.At
-- ==== Proof.PrepBlock.lean ====
/-
  What one grid point of the preparation's kernel computes.
-/
module

public import proofs.«01_k».proof.Proof.Gen.Kernel5Ideal.Frame
public import proofs.«01_k».proof.Proof.PrepRow
public import Idealize.ShloMosaic.Lib.Pointwise
public import Idealize.ShloMosaic.Lib.KernelVsHost
public import Idealize.ShloMosaic.Lib.Pipeline.ValueKit

@[expose] public section

set_option maxRecDepth 16384

noncomputable section

namespace Cert.Kernel5Ideal.Block

open Cert.Kernel5Ideal Cert.Kernel5Ideal.Gen Cert.Prep Cert.Post
open Idealize.ShloMosaic Idealize.ShloMosaic.TcCoe Idealize.SL.Sem

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The column of a row of the block. -/
theorem pay5_apply (e : Fin 640) (c : Fin 512) : k0_pay5 (ix2 e c) = BitVec.ofNat 32 (e.val % 64) := by
  pointwise [k0_pay5]
  revert e
  decide +kernel

/-- The block between the rows before and after it, -/
theorem pay6_apply (i : grid0.Coords) (v21 : Vec Ideal S1x64x512 .f32) (v25 : Vec Ideal S1x512x512 .f32) (v27 : Vec Ideal S1x64x512 .f32)
    (e : Fin 640) (c : Fin 512) :
    k0_pay6 (F := Ideal) i v21 v25 v27 (ix2 e c)
      = xe (k0_pay3 (F := Ideal) i) (k0_pay4 (F := Ideal) i) (fun e => v21 (ix3 0 e c)) (fun s => v25 (ix3 0 s c)) (fun e => v27 (ix3 0 e c)) e := by
  unfold xe
  generalize hp : k0_pay3 (F := Ideal) i = pm
  generalize hn : k0_pay4 (F := Ideal) i = nm
  unfold k0_pay6
  rw [hp, hn]
  pointwise
  by_cases h : e.val < 64
  · rw [dif_pos h, dif_pos h]
  · rw [dif_neg h, dif_neg h]
    by_cases h2 : e.val < 576
    · rw [dif_pos h2, dif_pos (by omega)]
    · rw [dif_neg h2, dif_neg (by omega)]
      rfl

/-- A choice by whether a column is the one named. -/
theorem select_col (n m : ℕ) (hn : n < 64) (hm : m < 64) (a b : EReal) :
    Scalar.select (IntOp.cmpi .eq (BitVec.ofNat 32 n) (BitVec.ofNat 32 m)) a b = if n = m then a else b := by
  by_cases h : n = m
  · subst h
    rw [if_pos rfl, show IntOp.cmpi .eq (BitVec.ofNat 32 n) (BitVec.ofNat 32 n) = 1#1 by simp [IntOp.cmpi]]
    rfl
  · have : BitVec.ofNat 32 n ≠ BitVec.ofNat 32 m := fun e => h (by
      have := congrArg BitVec.toNat e
      simp only [BitVec.toNat_ofNat] at this
      omega)
    rw [if_neg h, show IntOp.cmpi .eq (BitVec.ofNat 32 n) (BitVec.ofNat 32 m) = 0#1 by
      show BitVec.ofBool (BitVec.ofNat 32 n == BitVec.ofNat 32 m) = 0#1
      rw [beq_eq_false_iff_ne.2 this]
      rfl]
    rfl

section
variable (v : FVec Ideal S640x512 .f32)

/-- its left neighbours -/
theorem left_apply (e : Fin 640) (c : Fin 512) :
    (k0_pay9 (F := Ideal) k0_pay5 (dynamicRotate 0 1#32 none v rotates_S640x512_d0) 0#32 (ix2 e c) : EReal) = xl (fun e => v (ix2 e c)) e := by
  unfold xl
  rw [show k0_pay9 (F := Ideal) k0_pay5 (dynamicRotate 0 1#32 none v rotates_S640x512_d0) 0#32 (ix2 e c)
    = Scalar.select (IntOp.cmpi .eq (k0_pay5 (ix2 e c)) (BitVec.ofNat 32 0)) (Scalar.ofBits .f32 0x00000000#32 : Ideal .f32)
        (dynamicRotate 0 1#32 none v rotates_S640x512_d0 (ix2 e c)) from rfl, pay5_apply]
  refine (select_col _ _ (by omega) (by omega) _ _).trans ?_
  by_cases h : e.val % 64 = 0
  · rw [if_pos h, if_pos h]
    pointwise
  · rw [if_neg h, if_neg h]
    exact dynamicRotate_apply 0 1#32 v rotates_S640x512_d0 _ _ fun b => by
      fin_cases b
      · show e.val - 1 = (e.val + 640 - 1 % 640) % 640
        omega
      · rfl

/-- and its right ones. -/
theorem right_apply (e : Fin 640) (c : Fin 512) :
    (k0_pay10 (F := Ideal) k0_pay5 (dynamicRotate 0 639#32 none v rotates_S640x512_d0) (ix2 e c) : EReal) = xr (fun e => v (ix2 e c)) e := by
  unfold xr
  rw [show k0_pay10 (F := Ideal) k0_pay5 (dynamicRotate 0 639#32 none v rotates_S640x512_d0) (ix2 e c)
    = Scalar.select (IntOp.cmpi .eq (k0_pay5 (ix2 e c)) (BitVec.ofNat 32 63)) (Scalar.ofBits .f32 0x00000000#32 : Ideal .f32)
        (dynamicRotate 0 639#32 none v rotates_S640x512_d0 (ix2 e c)) from rfl, pay5_apply]
  refine (select_col _ _ (by omega) (by omega) _ _).trans ?_
  by_cases h : e.val % 64 = 63
  · rw [if_pos h, dif_pos h]
    pointwise
  · rw [if_neg h, dif_neg h]
    exact dynamicRotate_apply 0 639#32 v rotates_S640x512_d0 _ _ fun b => by
      fin_cases b
      · show e.val + 1 = (e.val + 640 - 639 % 640) % 640
        omega
      · rfl
end

variable (i : grid0.Coords) (x0 : Vec Ideal S1x512x1536 .f32) (x1 x2 : Vec Ideal S1x64x1536 .f32) (x3 : Vec Ideal S1x512x384 .f32)
  (x4 : Vec Ideal S9x1536 .f32) (x5 : Vec Ideal S2x512 .f32) (x6 : Vec Ideal S2x2x64x512 .bf16) (x7 : Vec Ideal S2x512 .f32)
  (x8 : Vec Ideal S2x2x64x512 .bf16) (x9 : Vec Ideal S2x128x512 .bf16) (x10 x11 x12 : Vec Ideal S1x512 .f32)
  (x13 : Vec Ideal S512x512 .bf16)

/-- The channel of lane `c` of part `t`. -/
abbrev ch (t : Fin 3) (c : Fin 512) : Fin 1536 := ⟨t.val * 512 + c.val, by omega⟩

/-- The convolution of part `t` at token `s` of the block. -/
def cvB (t : Fin 3) (s : Fin 512) (c : Fin 512) : EReal :=
  conv9 (xe (k0_pay3 (F := Ideal) i) (k0_pay4 (F := Ideal) i) (fun e => x1 (ix3 0 e (ch t c))) (fun s => x0 (ix3 0 s (ch t c)))
    (fun e => x2 (ix3 0 e (ch t c)))) (fun j => x4 (ix2 j (ch t c))) s

/-- The receptances, -/
theorem pay71_apply (s c : Fin 512) :
    (k0_pay71 (F := Ideal) i x0 x1 x2 x3 x4 x5 x6 x7 x8 x9 x10 x11 x12 x13 (ix2 s c) : EReal) = cvB i x0 x1 x2 x4 0 s c := by
  have hc : ch 0 c = (⟨c.val, by omega⟩ : Fin 1536) := Fin.ext (by show 0 * 512 + c.val = _; simp)
  have hE : (fun e => (k0_pay6 (F := Ideal) i (View.ld x1 r0_0) (View.ld x0 r0_1) (View.ld x2 r0_0) (ix2 e c) : EReal))
      = xe (k0_pay3 (F := Ideal) i) (k0_pay4 (F := Ideal) i) (fun e => x1 (ix3 0 e (ch 0 c))) (fun s => x0 (ix3 0 s (ch 0 c)))
          (fun e => x2 (ix3 0 e (ch 0 c))) := by
    funext e
    rw [pay6_apply, hc]
    congr 1
    · funext e; pointwise
    · funext e; pointwise
    · funext e; pointwise
  unfold cvB conv9
  rw [← hE, hc]
  simp only [← left_apply, ← right_apply]
  unfold k0_pay71 k0_pay70 k0_pay69 k0_pay68 k0_pay67 k0_pay7 k0_pay8 k0_pay11 k0_pay12
  generalize k0_pay6 (F := Ideal) i _ _ _ = E
  generalize k0_pay9 (F := Ideal) _ _ _ = L
  generalize k0_pay10 (F := Ideal) _ _ = R
  pointwise [k0_pay13]

/-- the keys -/
theorem pay74_apply (s c : Fin 512) :
    (k0_pay74 (F := Ideal) i x0 x1 x2 x3 x4 x5 x6 x7 x8 x9 x10 x11 x12 x13 (ix2 s c) : EReal) = cvB i x0 x1 x2 x4 1 s c := by
  have hc : ch 1 c = (⟨512 + c.val, by omega⟩ : Fin 1536) := Fin.ext (by show 1 * 512 + c.val = _; simp)
  have hE : (fun e => (k0_pay6 (F := Ideal) i (View.ld x1 r0_11) (View.ld x0 r0_12) (View.ld x2 r0_11) (ix2 e c) : EReal))
      = xe (k0_pay3 (F := Ideal) i) (k0_pay4 (F := Ideal) i) (fun e => x1 (ix3 0 e (ch 1 c))) (fun s => x0 (ix3 0 s (ch 1 c)))
          (fun e => x2 (ix3 0 e (ch 1 c))) := by
    funext e
    rw [pay6_apply, hc]
    congr 1
    · funext e; pointwise
    · funext e; pointwise
    · funext e; pointwise
  unfold cvB conv9
  rw [← hE, hc]
  simp only [← left_apply, ← right_apply]
  rw [show k0_pay74 (F := Ideal) i x0 x1 x2 x3 x4 x5 x6 x7 x8 x9 x10 x11 x12 x13
    = (let E := k0_pay6 (F := Ideal) i (View.ld x1 r0_11) (View.ld x0 r0_12) (View.ld x2 r0_11)
       let L := k0_pay9 (F := Ideal) k0_pay5 (dynamicRotate 0 1#32 none E rotates_S640x512_d0) 0#32
       let R := k0_pay10 (F := Ideal) k0_pay5 (dynamicRotate 0 639#32 none E rotates_S640x512_d0)
       k0_pay20 R (k0_pay18 E L R (extractStridedSlice S512x512 ![0, 0] L slices_S640x512_o0_0_S512x512) (View.ld x4 r0_13) (View.ld x4 r0_14) (View.ld x4 r0_15)
         (View.ld x4 r0_16) (View.ld x4 r0_17) (View.ld x4 r0_18) (View.ld x4 r0_19)) (k0_pay19 E (View.ld x4 r0_20)) (View.ld x4 r0_21)) from rfl]
  dsimp only
  generalize k0_pay6 (F := Ideal) i _ _ _ = E
  generalize k0_pay9 (F := Ideal) _ _ _ = L
  generalize k0_pay10 (F := Ideal) _ _ = R
  pointwise [k0_pay20, k0_pay19, k0_pay18]

/-- and the values. -/
theorem pay25_apply (s c : Fin 512) :
    (k0_pay25 (F := Ideal) (k0_pay75 i x0 x1 x2 x3 x4 x5 x6 x7 x8 x9 x10 x11 x12 x13) (k0_pay76 i x0 x1 x2 x3 x4 x5 x6 x7 x8 x9 x10 x11 x12 x13)
        (k0_pay77 i x0 x1 x2 x3 x4 x5 x6 x7 x8 x9 x10 x11 x12 x13) (k0_pay78 i x0 x1 x2 x3 x4 x5 x6 x7 x8 x9 x10 x11 x12 x13)
        (View.ld x4 r0_26) (View.ld x4 r0_27) (View.ld x4 r0_28) (View.ld x4 r0_29) (View.ld x4 r0_30) (View.ld x4 r0_31) (View.ld x4 r0_32) (ix2 s c) : EReal)
      = cvB i x0 x1 x2 x4 2 s c := by
  have hc : ch 2 c = (⟨1024 + c.val, by omega⟩ : Fin 1536) := Fin.ext (by show 2 * 512 + c.val = _; simp)
  have hE : (fun e => (k0_pay6 (F := Ideal) i (View.ld x1 r0_22) (View.ld x0 r0_23) (View.ld x2 r0_22) (ix2 e c) : EReal))
      = xe (k0_pay3 (F := Ideal) i) (k0_pay4 (F := Ideal) i) (fun e => x1 (ix3 0 e (ch 2 c))) (fun s => x0 (ix3 0 s (ch 2 c)))
          (fun e => x2 (ix3 0 e (ch 2 c))) := by
    funext e
    rw [pay6_apply, hc]
    congr 1
    · funext e; pointwise
    · funext e; pointwise
    · funext e; pointwise
  unfold cvB conv9
  rw [← hE, hc]
  simp only [← left_apply, ← right_apply]
  unfold k0_pay78 k0_pay24
  rw [show k0_pay75 (F := Ideal) i x0 x1 x2 x3 x4 x5 x6 x7 x8 x9 x10 x11 x12 x13
    = k0_pay6 (F := Ideal) i (View.ld x1 r0_22) (View.ld x0 r0_23) (View.ld x2 r0_22) from rfl,
    show k0_pay76 (F := Ideal) i x0 x1 x2 x3 x4 x5 x6 x7 x8 x9 x10 x11 x12 x13
    = k0_pay9 (F := Ideal) k0_pay5 (dynamicRotate 0 1#32 none (k0_pay6 (F := Ideal) i (View.ld x1 r0_22) (View.ld x0 r0_23) (View.ld x2 r0_22)) rotates_S640x512_d0) 0#32 from rfl,
    show k0_pay77 (F := Ideal) i x0 x1 x2 x3 x4 x5 x6 x7 x8 x9 x10 x11 x12 x13
    = k0_pay10 (F := Ideal) k0_pay5 (dynamicRotate 0 639#32 none (k0_pay6 (F := Ideal) i (View.ld x1 r0_22) (View.ld x0 r0_23) (View.ld x2 r0_22)) rotates_S640x512_d0) from rfl,
    show k0_pay22 (F := Ideal) (k0_pay3 (F := Ideal) i) (k0_pay4 (F := Ideal) i) (k0_pay67 (F := Ideal) i x0 x1 x2 x3 x4 x5 x6 x7 x8 x9 x10 x11 x12 x13) (View.ld x1 r0_22) (View.ld x0 r0_23) (View.ld x2 r0_22)
    = k0_pay9 (F := Ideal) k0_pay5 (dynamicRotate 0 1#32 none (k0_pay6 (F := Ideal) i (View.ld x1 r0_22) (View.ld x0 r0_23) (View.ld x2 r0_22)) rotates_S640x512_d0) 0#32 from rfl,
    show k0_pay21 (F := Ideal) (k0_pay3 (F := Ideal) i) (k0_pay4 (F := Ideal) i) (View.ld x1 r0_22) (View.ld x0 r0_23) (View.ld x2 r0_22)
    = k0_pay6 (F := Ideal) i (View.ld x1 r0_22) (View.ld x0 r0_23) (View.ld x2 r0_22) from rfl]
  generalize k0_pay6 (F := Ideal) i _ _ _ = E
  generalize k0_pay9 (F := Ideal) _ _ _ = L
  generalize k0_pay10 (F := Ideal) _ _ = R
  pointwise [k0_pay25]

/-- A product with the lanes' matrix is a sum over the lane's head. -/
theorem sum_seg (hS : ∀ l k : Fin 512, (x13 (ix2 l k) : EReal) = same l k) (f : Fin 512 → EReal) (k : Fin 512) :
    ∑ l : Fin 512, f l * (x13 (ix2 l k) : EReal) = tot f (hd k) := by
  simp only [hS]
  exact sum_same f k

/-- The keys of length one. -/
theorem pay29_apply (hS : ∀ l k : Fin 512, (x13 (ix2 l k) : EReal) = same l k) (v : FVec Ideal S512x512 .f32) (s c : Fin 512) :
    (k0_pay29 (F := Ideal) v (View.ld x10 r0_34) (View.ld x13 r0_35) (ix2 s c) : EReal)
      = unit (fun l => v (ix2 s l) * x10 (ix2 0 l)) c := by
  unfold unit
  rw [← sum_seg x13 hS]
  pointwise [k0_pay29]

/-- The first half of direction `0`'s weights -/
theorem w00 (x : Vec Ideal S2x2x64x512 .bf16) (k : Fin 64) (c : Fin 512) :
    (View.ld (shapeCast S2x64x512 (View.ld x r0_39) squeezes_S1x2x64x512_S2x64x512.numel_eq) r0_40 (ix3 0 k c) : EReal) = x (ix4 0 0 k c) := by
  pointwise
/-- and the other half, -/
theorem w01 (x : Vec Ideal S2x2x64x512 .bf16) (k : Fin 64) (c : Fin 512) :
    (View.ld (shapeCast S2x64x512 (View.ld x r0_39) squeezes_S1x2x64x512_S2x64x512.numel_eq) r0_41 (ix3 0 k c) : EReal) = x (ix4 0 1 k c) := by
  pointwise
/-- and those of direction `1`. -/
theorem w10 (x : Vec Ideal S2x2x64x512 .bf16) (k : Fin 64) (c : Fin 512) :
    (View.ld (shapeCast S2x64x512 (View.ld x r0_44) squeezes_S1x2x64x512_S2x64x512.numel_eq) r0_40 (ix3 0 k c) : EReal) = x (ix4 1 0 k c) := by
  pointwise
theorem w11 (x : Vec Ideal S2x2x64x512 .bf16) (k : Fin 64) (c : Fin 512) :
    (View.ld (shapeCast S2x64x512 (View.ld x r0_44) squeezes_S1x2x64x512_S2x64x512.numel_eq) r0_41 (ix3 0 k c) : EReal) = x (ix4 1 1 k c) := by
  pointwise

/-- The gate. -/
theorem out17_apply (s c : Fin 512) :
    (out0_17 i x0 x1 x2 x3 x4 x5 x6 x7 x8 x9 x10 x11 x12 x13 (ix3 0 s c) : EReal)
      = dsplit (fun k : Fin 128 => Ideal.logistic (x3 (ix3 0 s ⟨256 + k.val, by omega⟩))) (fun k => x9 (ix3 0 k c)) (fun k => x9 (ix3 1 k c)) := by
  unfold out0_17 dsplit
  rw [View.canon_unit_zero zero3]
  unfold k0_pay80
  pointwise [k0_pay2, k0_pay31]

/-- The learning rate of direction `0` -/
def alB (d : Fin 2) (s c : Fin 512) : EReal :=
  Ideal.logistic (x7 (ix2 d c) + dsplit (fun k : Fin 64 => x3 (ix3 0 s ⟨(2 + d.val) * 64 + k.val, by omega⟩)) (fun k => x8 (ix4 d 0 k c)) (fun k => x8 (ix4 d 1 k c)))

theorem pay49_apply (s c : Fin 512) :
    (k0_pay49 (F := Ideal) (k0_pay86 i x0 x1 x2 x3 x4 x5 x6 x7 x8 x9 x10 x11 x12 x13) (k0_pay87 i x0 x1 x2 x3 x4 x5 x6 x7 x8 x9 x10 x11 x12 x13)
      (k0_pay88 i x0 x1 x2 x3 x4 x5 x6 x7 x8 x9 x10 x11 x12 x13) (k0_pay89 i x0 x1 x2 x3 x4 x5 x6 x7 x8 x9 x10 x11 x12 x13)
      (k0_pay85 i x0 x1 x2 x3 x4 x5 x6 x7 x8 x9 x10 x11 x12 x13) (ix2 s c) : EReal) = alB x3 x7 x8 0 s c := by
  unfold alB dsplit
  simp only [← w00, ← w01]
  unfold k0_pay86 k0_pay87 k0_pay88 k0_pay89 k0_pay85 k0_pay81
  generalize View.ld (shapeCast S2x64x512 (View.ld x8 r0_39) squeezes_S1x2x64x512_S2x64x512.numel_eq) r0_40 = W
  generalize View.ld (shapeCast S2x64x512 (View.ld x8 r0_39) squeezes_S1x2x64x512_S2x64x512.numel_eq) r0_41 = W'
  pointwise [k0_pay49, k0_pay47, k0_pay46, k0_pay48, k0_pay45, k0_pay33, k0_pay31]

/-- and of direction `1`. -/
theorem pay60_apply (s c : Fin 512) :
    (k0_pay60 (F := Ideal) (k0_pay90 i x0 x1 x2 x3 x4 x5 x6 x7 x8 x9 x10 x11 x12 x13) (View.ld x7 r0_43)
      (View.ld (shapeCast S2x64x512 (View.ld x8 r0_44) squeezes_S1x2x64x512_S2x64x512.numel_eq) r0_40)
      (View.ld (shapeCast S2x64x512 (View.ld x8 r0_44) squeezes_S1x2x64x512_S2x64x512.numel_eq) r0_40)
      (View.ld (shapeCast S2x64x512 (View.ld x8 r0_44) squeezes_S1x2x64x512_S2x64x512.numel_eq) r0_41) (ix2 s c) : EReal) = alB x3 x7 x8 1 s c := by
  unfold alB dsplit
  simp only [← w10, ← w11]
  unfold k0_pay90 k0_pay80
  generalize View.ld (shapeCast S2x64x512 (View.ld x8 r0_44) squeezes_S1x2x64x512_S2x64x512.numel_eq) r0_40 = W
  generalize View.ld (shapeCast S2x64x512 (View.ld x8 r0_44) squeezes_S1x2x64x512_S2x64x512.numel_eq) r0_41 = W'
  pointwise [k0_pay60, k0_pay53, k0_pay31]

/-- A number compared with itself. -/
theorem cmp_self (x : EReal) : Ideal.cmp .one x x = 0#1 := by simp [Ideal.cmp]

/-- The decay's argument. -/
def zB (d : Fin 2) (s c : Fin 512) : EReal :=
  x5 (ix2 d c) + dsplit (fun k : Fin 64 => Ideal.tanh (x3 (ix3 0 s ⟨d.val * 64 + k.val, by omega⟩))) (fun k => x6 (ix4 d 0 k c)) (fun k => x6 (ix4 d 1 k c))

theorem pay38_apply (s c : Fin 512) :
    (k0_pay38 (F := Ideal) (k0_pay82 i x0 x1 x2 x3 x4 x5 x6 x7 x8 x9 x10 x11 x12 x13) (k0_pay83 i x0 x1 x2 x3 x4 x5 x6 x7 x8 x9 x10 x11 x12 x13)
      (k0_pay84 i x0 x1 x2 x3 x4 x5 x6 x7 x8 x9 x10 x11 x12 x13)
      (View.ld (shapeCast S2x64x512 (View.ld x6 r0_39) squeezes_S1x2x64x512_S2x64x512.numel_eq) r0_40)
      (View.ld (shapeCast S2x64x512 (View.ld x6 r0_39) squeezes_S1x2x64x512_S2x64x512.numel_eq) r0_40)
      (View.ld (shapeCast S2x64x512 (View.ld x6 r0_39) squeezes_S1x2x64x512_S2x64x512.numel_eq) r0_41) (ix2 s c) : EReal) = -zB x3 x5 x6 0 s c := by
  unfold zB dsplit
  rw [← zero_sub]
  simp only [← w00, ← w01]
  unfold k0_pay82 k0_pay83 k0_pay84
  generalize View.ld (shapeCast S2x64x512 (View.ld x6 r0_39) squeezes_S1x2x64x512_S2x64x512.numel_eq) r0_40 = W
  generalize View.ld (shapeCast S2x64x512 (View.ld x6 r0_39) squeezes_S1x2x64x512_S2x64x512.numel_eq) r0_41 = W'
  pointwise [k0_pay38, k0_pay34, k0_pay36, k0_pay37, k0_pay35, k0_pay31]

theorem ld0_apply (v : FVec Ideal S1x512 .f32) (a : FVec Ideal S512x64 .bf16) (b : FVec Ideal S512x64 .f32) (w w' w'' : Vec Ideal S1x64x512 .bf16)
    (s c : Fin 512) (z : EReal) (hz : (k0_pay38 (F := Ideal) v a b w w' w'' (ix2 s c) : EReal) = -z) :
    (k0_pay44 (F := Ideal) (k0_pay39 v a b w w' w'') (k0_pay41 v a b w w' w'') (k0_pay42 v a b w w' w'') (k0_pay43 v a b w w' w'') (ix2 s c) : EReal)
      = decay z := by
  unfold k0_pay39 k0_pay41 k0_pay42 k0_pay43 k0_pay40
  generalize k0_pay38 (F := Ideal) v a b w w' w'' = q at hz
  unfold decay softplus
  rw [← hz]
  pointwise [k0_pay44]
  rw [if_neg (fun h => h rfl), zero_sub, zero_sub, zero_sub]
  rfl

theorem pay59_apply (s c : Fin 512) :
    (k0_pay59 (F := Ideal) (k0_pay54 (View.ld x5 r0_43)) (k0_pay56 (k0_pay80 i x0 x1 x2 x3 x4 x5 x6 x7 x8 x9 x10 x11 x12 x13)) (k0_pay57 (k0_pay80 i x0 x1 x2 x3 x4 x5 x6 x7 x8 x9 x10 x11 x12 x13)) (k0_pay58 (k0_pay80 i x0 x1 x2 x3 x4 x5 x6 x7 x8 x9 x10 x11 x12 x13) (View.ld (shapeCast S2x64x512 (View.ld x6 r0_44) squeezes_S1x2x64x512_S2x64x512.numel_eq) r0_40)) (View.ld (shapeCast S2x64x512 (View.ld x6 r0_44) squeezes_S1x2x64x512_S2x64x512.numel_eq) r0_40) (View.ld (shapeCast S2x64x512 (View.ld x6 r0_44) squeezes_S1x2x64x512_S2x64x512.numel_eq) r0_41) (ix2 s c) : EReal) = decay (zB x3 x5 x6 1 s c) := by
  have hz : (x5 (ix2 1 c) : EReal) + dsplit (fun k : Fin 64 => Ideal.tanh (x3 (ix3 0 s ⟨64 + k.val, by omega⟩))) (fun k => x6 (ix4 1 0 k c)) (fun k => x6 (ix4 1 1 k c))
      = zB x3 x5 x6 1 s c := rfl
  unfold dsplit at hz
  simp only [← w10, ← w11] at hz
  unfold k0_pay80
  generalize View.ld (shapeCast S2x64x512 (View.ld x6 r0_44) squeezes_S1x2x64x512_S2x64x512.numel_eq) r0_40 = W at hz ⊢
  generalize View.ld (shapeCast S2x64x512 (View.ld x6 r0_44) squeezes_S1x2x64x512_S2x64x512.numel_eq) r0_41 = W' at hz ⊢
  rw [← hz]
  unfold decay softplus
  simp only [← zero_sub (_ : EReal)]
  pointwise [k0_pay59, k0_pay54, k0_pay58, k0_pay57, k0_pay56, k0_pay55, k0_pay31]
  rw [if_neg (fun h => h rfl)]
  have ha (x : EReal) : FloatOps.absf (F := Ideal) (φ := .f32) x = max x (0 - x) := by rw [zero_sub]; rfl
  rw [ha]

/-- The decays of both directions. -/
theorem out15_apply (d : Fin 2) (s c : Fin 512) :
    (out0_15 i x0 x1 x2 x3 x4 x5 x6 x7 x8 x9 x10 x11 x12 x13 (ix4 d 0 s c) : EReal) = decay (zB x3 x5 x6 d s c) := by
  unfold out0_15
  rw [View.canon_unit_zero zero4]
  have h0 := ld0_apply (k0_pay82 i x0 x1 x2 x3 x4 x5 x6 x7 x8 x9 x10 x11 x12 x13) (k0_pay83 i x0 x1 x2 x3 x4 x5 x6 x7 x8 x9 x10 x11 x12 x13) (k0_pay84 i x0 x1 x2 x3 x4 x5 x6 x7 x8 x9 x10 x11 x12 x13) (View.ld (shapeCast S2x64x512 (View.ld x6 r0_39) squeezes_S1x2x64x512_S2x64x512.numel_eq) r0_40) (View.ld (shapeCast S2x64x512 (View.ld x6 r0_39) squeezes_S1x2x64x512_S2x64x512.numel_eq) r0_40) (View.ld (shapeCast S2x64x512 (View.ld x6 r0_39) squeezes_S1x2x64x512_S2x64x512.numel_eq) r0_41) s c _ (pay38_apply i x0 x1 x2 x3 x4 x5 x6 x7 x8 x9 x10 x11 x12 x13 s c)
  have h1 := pay59_apply i x0 x1 x2 x3 x4 x5 x6 x7 x8 x9 x10 x11 x12 x13 s c
  generalize k0_pay44 (F := Ideal) _ _ _ _ = p at h0 ⊢
  generalize k0_pay59 (F := Ideal) _ _ _ _ _ _ = q at h1 ⊢
  fin_cases d
  · refine Eq.trans ?_ h0
    pointwise [k0_pay65]
  · refine Eq.trans ?_ h1
    pointwise [k0_pay65]

/-- The key of length one -/
def ukB (s c : Fin 512) : EReal := unit (fun l => cvB i x0 x1 x2 x4 1 s l * x10 (ix2 0 l)) c
/-- and the key added to the state. -/
def dkB (d : Fin 2) (s c : Fin 512) : EReal := dkey (cvB i x0 x1 x2 x4 1 s c) (alB x3 x7 x8 d s c) (x11 (ix2 0 c))

theorem pay79_apply (hS : ∀ l k : Fin 512, (x13 (ix2 l k) : EReal) = same l k) (s c : Fin 512) :
    (k0_pay79 (F := Ideal) i x0 x1 x2 x3 x4 x5 x6 x7 x8 x9 x10 x11 x12 x13 (ix2 s c) : EReal) = ukB i x0 x1 x2 x4 x10 s c := by
  unfold k0_pay79 ukB
  rw [pay29_apply x10 x13 hS]
  simp only [pay74_apply]

theorem pay50_apply (s c : Fin 512) :
    (k0_pay50 (F := Ideal) (k0_pay74 i x0 x1 x2 x3 x4 x5 x6 x7 x8 x9 x10 x11 x12 x13) (k0_pay86 i x0 x1 x2 x3 x4 x5 x6 x7 x8 x9 x10 x11 x12 x13) (k0_pay87 i x0 x1 x2 x3 x4 x5 x6 x7 x8 x9 x10 x11 x12 x13) (k0_pay88 i x0 x1 x2 x3 x4 x5 x6 x7 x8 x9 x10 x11 x12 x13) (k0_pay89 i x0 x1 x2 x3 x4 x5 x6 x7 x8 x9 x10 x11 x12 x13) (k0_pay85 i x0 x1 x2 x3 x4 x5 x6 x7 x8 x9 x10 x11 x12 x13) (View.ld x11 r0_34) (ix2 s c) : EReal)
      = dkB i x0 x1 x2 x3 x4 x7 x8 x11 0 s c := by
  unfold dkB dkey
  rw [← pay74_apply i x0 x1 x2 x3 x4 x5 x6 x7 x8 x9 x10 x11 x12 x13, ← pay49_apply i x0 x1 x2 x3 x4 x5 x6 x7 x8 x9 x10 x11 x12 x13]
  unfold k0_pay50
  generalize k0_pay49 (F := Ideal) _ _ _ _ _ = a
  generalize k0_pay74 (F := Ideal) i _ _ _ _ _ _ _ _ _ _ _ _ _ _ = k
  pointwise

theorem pay63_apply (s c : Fin 512) :
    (k0_pay63 (F := Ideal) (k0_pay74 i x0 x1 x2 x3 x4 x5 x6 x7 x8 x9 x10 x11 x12 x13) (k0_pay91 i x0 x1 x2 x3 x4 x5 x6 x7 x8 x9 x10 x11 x12 x13) (k0_pay92 i x0 x1 x2 x3 x4 x5 x6 x7 x8 x9 x10 x11 x12 x13) (ix2 s c) : EReal)
      = dkB i x0 x1 x2 x3 x4 x7 x8 x11 1 s c := by
  unfold dkB dkey
  rw [← pay74_apply i x0 x1 x2 x3 x4 x5 x6 x7 x8 x9 x10 x11 x12 x13, ← pay60_apply i x0 x1 x2 x3 x4 x5 x6 x7 x8 x9 x10 x11 x12 x13]
  unfold k0_pay91 k0_pay61 k0_pay92 k0_pay62
  generalize k0_pay60 (F := Ideal) _ _ _ _ _ = a
  generalize k0_pay74 (F := Ideal) i _ _ _ _ _ _ _ _ _ _ _ _ _ _ = k
  pointwise [k0_pay63]

/-- The bonus. -/
theorem out16_apply (hS : ∀ l k : Fin 512, (x13 (ix2 l k) : EReal) = same l k) (s c : Fin 512) :
    (out0_16 i x0 x1 x2 x3 x4 x5 x6 x7 x8 x9 x10 x11 x12 x13 (ix3 0 s c) : EReal)
      = bonus' (cvB i x0 x1 x2 x4 0 s) (dkB i x0 x1 x2 x3 x4 x7 x8 x11 0 s) (dkB i x0 x1 x2 x3 x4 x7 x8 x11 1 s)
          (fun l => x12 (ix2 0 l)) (cvB i x0 x1 x2 x4 2 s) c := by
  unfold out0_16 bonus'
  rw [View.canon_unit_zero zero3, ← sum_seg x13 hS, ← sum_seg x13 hS]
  simp only [← pay71_apply i x0 x1 x2 x3 x4 x5 x6 x7 x8 x9 x10 x11 x12 x13, ← pay25_apply i x0 x1 x2 x3 x4 x5 x6 x7 x8 x9 x10 x11 x12 x13, ← pay50_apply i x0 x1 x2 x3 x4 x5 x6 x7 x8 x9 x10 x11 x12 x13, ← pay63_apply i x0 x1 x2 x3 x4 x5 x6 x7 x8 x9 x10 x11 x12 x13]
  unfold k0_pay66 k0_pay52
  generalize k0_pay50 (F := Ideal) _ _ _ _ _ _ _ = k0
  generalize k0_pay63 (F := Ideal) _ _ _ = k1
  generalize k0_pay71 (F := Ideal) i _ _ _ _ _ _ _ _ _ _ _ _ _ _ = r
  generalize k0_pay25 (F := Ideal) _ _ _ _ _ _ _ _ _ _ _ = v
  pointwise [k0_pay1, k0_pay32]

/-- The operands of the scan. -/
def opB (o : Fin 4) (j : Fin 2) (s c : Fin 512) : EReal :=
  if o = 0 then (if j = 0 then cvB i x0 x1 x2 x4 0 s c else ukB i x0 x1 x2 x4 x10 s c)
  else if o = 1 then cvB i x0 x1 x2 x4 2 s c
  else if o = 2 then (if j = 0 then dkB i x0 x1 x2 x3 x4 x7 x8 x11 0 s c else ukB i x0 x1 x2 x4 x10 s c * alB x3 x7 x8 0 s c)
  else (if j = 0 then dkB i x0 x1 x2 x3 x4 x7 x8 x11 1 s c else ukB i x0 x1 x2 x4 x10 s c * alB x3 x7 x8 1 s c)

theorem pay30_apply (hS : ∀ l k : Fin 512, (x13 (ix2 l k) : EReal) = same l k) (j : Fin 2) (s c : Fin 512) :
    (k0_pay30 (F := Ideal) (k0_pay71 i x0 x1 x2 x3 x4 x5 x6 x7 x8 x9 x10 x11 x12 x13) (k0_pay74 i x0 x1 x2 x3 x4 x5 x6 x7 x8 x9 x10 x11 x12 x13) (View.ld x10 r0_34) (View.ld x13 r0_35) (ix5 0 j 0 s c) : EReal)
      = opB i x0 x1 x2 x3 x4 x7 x8 x10 x11 0 j s c := by
  have h0 := pay71_apply i x0 x1 x2 x3 x4 x5 x6 x7 x8 x9 x10 x11 x12 x13 s c
  have h1 := pay79_apply i x0 x1 x2 x3 x4 x5 x6 x7 x8 x9 x10 x11 x12 x13 hS s c
  unfold k0_pay79 at h1
  unfold k0_pay30
  generalize k0_pay71 (F := Ideal) i _ _ _ _ _ _ _ _ _ _ _ _ _ _ = p at h0 ⊢
  generalize k0_pay29 (F := Ideal) _ _ _ = q at h1 ⊢
  fin_cases j
  · refine Eq.trans ?_ h0
    pointwise
  · refine Eq.trans ?_ h1
    pointwise

theorem pay28_apply (j : Fin 2) (s c : Fin 512) :
    (k0_pay28 (F := Ideal) (k0_pay26 (k0_pay75 i x0 x1 x2 x3 x4 x5 x6 x7 x8 x9 x10 x11 x12 x13) (k0_pay76 i x0 x1 x2 x3 x4 x5 x6 x7 x8 x9 x10 x11 x12 x13) (k0_pay77 i x0 x1 x2 x3 x4 x5 x6 x7 x8 x9 x10 x11 x12 x13) (k0_pay78 i x0 x1 x2 x3 x4 x5 x6 x7 x8 x9 x10 x11 x12 x13) (View.ld x4 r0_26) (View.ld x4 r0_27) (View.ld x4 r0_28) (View.ld x4 r0_29) (View.ld x4 r0_30) (View.ld x4 r0_31) (View.ld x4 r0_32)) (k0_pay27 (k0_pay75 i x0 x1 x2 x3 x4 x5 x6 x7 x8 x9 x10 x11 x12 x13) (k0_pay76 i x0 x1 x2 x3 x4 x5 x6 x7 x8 x9 x10 x11 x12 x13) (k0_pay77 i x0 x1 x2 x3 x4 x5 x6 x7 x8 x9 x10 x11 x12 x13) (k0_pay78 i x0 x1 x2 x3 x4 x5 x6 x7 x8 x9 x10 x11 x12 x13) (View.ld x4 r0_26) (View.ld x4 r0_27) (View.ld x4 r0_28) (View.ld x4 r0_29) (View.ld x4 r0_30) (View.ld x4 r0_31) (View.ld x4 r0_32)) (ix5 0 j 0 s c) : EReal)
      = opB i x0 x1 x2 x3 x4 x7 x8 x10 x11 1 j s c := by
  have h0 := pay25_apply i x0 x1 x2 x3 x4 x5 x6 x7 x8 x9 x10 x11 x12 x13 s c
  unfold k0_pay26 k0_pay27
  generalize k0_pay25 (F := Ideal) _ _ _ _ _ _ _ _ _ _ _ = p at h0 ⊢
  fin_cases j
  · refine Eq.trans ?_ h0
    pointwise [k0_pay28]
  · refine Eq.trans ?_ h0
    pointwise [k0_pay28]

theorem pay51_apply (hS : ∀ l k : Fin 512, (x13 (ix2 l k) : EReal) = same l k) (j : Fin 2) (s c : Fin 512) :
    (k0_pay51 (F := Ideal) (k0_pay74 i x0 x1 x2 x3 x4 x5 x6 x7 x8 x9 x10 x11 x12 x13) (k0_pay79 i x0 x1 x2 x3 x4 x5 x6 x7 x8 x9 x10 x11 x12 x13) (k0_pay86 i x0 x1 x2 x3 x4 x5 x6 x7 x8 x9 x10 x11 x12 x13) (k0_pay87 i x0 x1 x2 x3 x4 x5 x6 x7 x8 x9 x10 x11 x12 x13) (k0_pay88 i x0 x1 x2 x3 x4 x5 x6 x7 x8 x9 x10 x11 x12 x13) (k0_pay89 i x0 x1 x2 x3 x4 x5 x6 x7 x8 x9 x10 x11 x12 x13) (k0_pay85 i x0 x1 x2 x3 x4 x5 x6 x7 x8 x9 x10 x11 x12 x13) (View.ld x11 r0_34) (ix5 0 j 0 s c) : EReal)
      = opB i x0 x1 x2 x3 x4 x7 x8 x10 x11 2 j s c := by
  have h0 := pay50_apply i x0 x1 x2 x3 x4 x5 x6 x7 x8 x9 x10 x11 x12 x13 s c
  have h1 := pay79_apply i x0 x1 x2 x3 x4 x5 x6 x7 x8 x9 x10 x11 x12 x13 hS s c
  have h2 := pay49_apply i x0 x1 x2 x3 x4 x5 x6 x7 x8 x9 x10 x11 x12 x13 s c
  unfold k0_pay51
  generalize k0_pay50 (F := Ideal) _ _ _ _ _ _ _ = p at h0 ⊢
  generalize k0_pay79 (F := Ideal) i _ _ _ _ _ _ _ _ _ _ _ _ _ _ = q at h1 ⊢
  generalize k0_pay49 (F := Ideal) _ _ _ _ _ = a at h2 ⊢
  fin_cases j
  · refine Eq.trans ?_ h0
    pointwise
  · refine Eq.trans ?_ (congrArg₂ (· * ·) h1 h2)
    pointwise

theorem pay64_apply (hS : ∀ l k : Fin 512, (x13 (ix2 l k) : EReal) = same l k) (j : Fin 2) (s c : Fin 512) :
    (k0_pay64 (F := Ideal) (k0_pay74 i x0 x1 x2 x3 x4 x5 x6 x7 x8 x9 x10 x11 x12 x13) (k0_pay79 i x0 x1 x2 x3 x4 x5 x6 x7 x8 x9 x10 x11 x12 x13) (k0_pay60 (F := Ideal) (k0_pay90 i x0 x1 x2 x3 x4 x5 x6 x7 x8 x9 x10 x11 x12 x13) (View.ld x7 r0_43) (View.ld (shapeCast S2x64x512 (View.ld x8 r0_44) squeezes_S1x2x64x512_S2x64x512.numel_eq) r0_40) (View.ld (shapeCast S2x64x512 (View.ld x8 r0_44) squeezes_S1x2x64x512_S2x64x512.numel_eq) r0_40) (View.ld (shapeCast S2x64x512 (View.ld x8 r0_44) squeezes_S1x2x64x512_S2x64x512.numel_eq) r0_41)) (k0_pay91 i x0 x1 x2 x3 x4 x5 x6 x7 x8 x9 x10 x11 x12 x13) (k0_pay92 i x0 x1 x2 x3 x4 x5 x6 x7 x8 x9 x10 x11 x12 x13) (ix5 0 j 0 s c) : EReal)
      = opB i x0 x1 x2 x3 x4 x7 x8 x10 x11 3 j s c := by
  have h0 := pay63_apply i x0 x1 x2 x3 x4 x5 x6 x7 x8 x9 x10 x11 x12 x13 s c
  have h1 := pay79_apply i x0 x1 x2 x3 x4 x5 x6 x7 x8 x9 x10 x11 x12 x13 hS s c
  have h2 := pay60_apply i x0 x1 x2 x3 x4 x5 x6 x7 x8 x9 x10 x11 x12 x13 s c
  unfold k0_pay64
  generalize k0_pay63 (F := Ideal) _ _ _ = p at h0 ⊢
  generalize k0_pay79 (F := Ideal) i _ _ _ _ _ _ _ _ _ _ _ _ _ _ = q at h1 ⊢
  generalize k0_pay60 (F := Ideal) _ _ _ _ _ = a at h2 ⊢
  fin_cases j
  · refine Eq.trans ?_ h0
    pointwise
  · refine Eq.trans ?_ (congrArg₂ (· * ·) h1 h2)
    pointwise

/-- All four stores together. -/
def opsB : Vec Ideal S4x2x1x512x512 .bf16 := fun y => opB i x0 x1 x2 x3 x4 x7 x8 x10 x11 (y 0) (y 1) (y 3) (y 4)

theorem out14_apply (hS : ∀ l k : Fin 512, (x13 (ix2 l k) : EReal) = same l k) (o : Fin 4) (j : Fin 2) (s c : Fin 512) :
    (out0_14 i x0 x1 x2 x3 x4 x5 x6 x7 x8 x9 x10 x11 x12 x13 (ix5 o j 0 s c) : EReal) = opB i x0 x1 x2 x3 x4 x7 x8 x10 x11 o j s c := by
  unfold out0_14
  refine View.canon_apply_of_pieces (opsB i x0 x1 x2 x3 x4 x7 x8 x10 x11) _ (fun p hp x => ?_) (ix5 o j 0 s c) (cover0_14 _ _ _ _ _)
  have hcase : ∀ x : S1x2x1x512x512.Idx, ∃ (j : Fin 2) (s c : Fin 512), x = ix5 0 j 0 s c := fun x =>
    ⟨x 1, x 3, x 4, by rw [eq_ix5 x]; congr 1 <;> exact Subsingleton.elim _ _⟩
  simp only [List.mem_cons, List.not_mem_nil, or_false] at hp
  rcases hp with rfl | rfl | rfl | rfl
  · obtain ⟨j, s, c, rfl⟩ := hcase x
    refine (pay64_apply i x0 x1 x2 x3 x4 x5 x6 x7 x8 x9 x10 x11 x12 x13 hS j s c).trans ?_
    have e : r0_45.emb (ix5 0 j 0 s c) = ix5 3 j 0 s c := by
      blk_ext []
    show _ = opsB i x0 x1 x2 x3 x4 x7 x8 x10 x11 (r0_45.emb (ix5 0 j 0 s c))
    rw [e]
    rfl
  · obtain ⟨j, s, c, rfl⟩ := hcase x
    refine (pay51_apply i x0 x1 x2 x3 x4 x5 x6 x7 x8 x9 x10 x11 x12 x13 hS j s c).trans ?_
    have e : r0_42.emb (ix5 0 j 0 s c) = ix5 2 j 0 s c := by
      blk_ext []
    show _ = opsB i x0 x1 x2 x3 x4 x7 x8 x10 x11 (r0_42.emb (ix5 0 j 0 s c))
    rw [e]
    rfl
  · obtain ⟨j, s, c, rfl⟩ := hcase x
    refine (pay30_apply i x0 x1 x2 x3 x4 x5 x6 x7 x8 x9 x10 x11 x12 x13 hS j s c).trans ?_
    have e : r0_36.emb (ix5 0 j 0 s c) = ix5 0 j 0 s c := by
      blk_ext []
    show _ = opsB i x0 x1 x2 x3 x4 x7 x8 x10 x11 (r0_36.emb (ix5 0 j 0 s c))
    rw [e]
    rfl
  · obtain ⟨j, s, c, rfl⟩ := hcase x
    refine (pay28_apply i x0 x1 x2 x3 x4 x5 x6 x7 x8 x9 x10 x11 x12 x13 j s c).trans ?_
    have e : r0_33.emb (ix5 0 j 0 s c) = ix5 1 j 0 s c := by
      blk_ext []
    show _ = opsB i x0 x1 x2 x3 x4 x7 x8 x10 x11 (r0_33.emb (ix5 0 j 0 s c))
    rw [e]
    rfl

end Cert.Kernel5Ideal.Block
-- ==== Proof.PrepArrays.lean ====
/-
  The arrays the host prepares for the preparation's kernel, read at an index.
-/
module

public import proofs.«01_k».proof.Proof.PrepBlock
public import Idealize.ShloMosaic.Lib.Pipeline.ValueKit
public import Idealize.ShloMosaic.Lib.Claim

@[expose] public section

set_option maxRecDepth 16384

noncomputable section

namespace Cert.Kernel5Ideal.Whole

open Cert.Kernel5Ideal Cert.Kernel5Ideal.Gen Cert.Prep Cert.Post Cert.Inproj Cert.Combine
open Idealize.ShloMosaic Idealize.ShloMosaic.TcCoe Idealize.ShloMosaic.Tactic Idealize.SL.Sem
open Idealize.ShloMosaic.Pipeline (Dat)

/-- Every lane's number over 64, rounded down, as the host divides. -/
def heads : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem heads_apply : ∀ l : Fin 512, heads (ix1 l) = BitVec.ofNat 32 (l.val / 64) := by
  decide +kernel

/-- The lanes' matrix. -/
def segR : FVec Ideal S512x512 .bf16 :=
  uitofp .bf16 (cmpi .eq
    (broadcastInDim S512x512 ![0, 1] bcast_S512x1_S512x512_0_1 (broadcastInDim S512x1 ![0] bcast_S512_S512x1_0 heads))
    (broadcastInDim S512x512 ![0, 1] bcast_S1x512_S512x512_0_1 (broadcastInDim S1x512 ![1] bcast_S512_S1x512_1 heads)))

theorem segR_apply (l k : Fin 512) : (segR (ix2 l k) : EReal) = same l k := by
  unfold segR
  generalize hh : heads = h
  pointwise
  rw [← hh, heads_apply, heads_apply]
  unfold same
  have he : BitVec.ofNat 32 (l.val / 64) = BitVec.ofNat 32 (k.val / 64) ↔ l.val / 64 = k.val / 64 := by
    constructor
    · intro h
      have h' := congrArg BitVec.toNat h
      simp only [BitVec.toNat_ofNat] at h'
      omega
    · intro h
      rw [h]
  by_cases hlk : l.val / 64 = k.val / 64
  · rw [if_pos hlk, hlk]
    rw [show IntOp.cmpi .eq (BitVec.ofNat 32 (k.val / 64)) (BitVec.ofNat 32 (k.val / 64)) = 1#1 by simp [IntOp.cmpi]]
    show (((1#1 : BitVec 1).toNat : ℝ) : EReal) = 1
    norm_num
  · rw [if_neg hlk]
    have : ¬ BitVec.ofNat 32 (l.val / 64) = BitVec.ofNat 32 (k.val / 64) := fun h => hlk (he.mp h)
    rw [show IntOp.cmpi .eq (BitVec.ofNat 32 (l.val / 64)) (BitVec.ofNat 32 (k.val / 64)) = 0#1 by
      unfold IntOp.cmpi; simp only [beq_eq_false_iff_ne.mpr this]; rfl]
    show (((0#1 : BitVec 1).toNat : ℝ) : EReal) = 0
    norm_num

/-- The taps of the convolution in one column, -/
def kernR (w : FVec Ideal S1x3x3x1536 .f32) : FVec Ideal S9x1536 .f32 :=
  shapeCast S9x1536 (shapeCast S3x3x1536 w shapeCasts_S1x3x3x1536_S3x3x1536) shapeCasts_S3x3x1536_S9x1536
/-- a row for each direction, -/
def vecR (w : FVec Ideal S1x2x512 .f32) : FVec Ideal S2x512 .f32 := shapeCast S2x512 w shapeCasts_S1x2x512_S2x512
/-- the weights of each direction in halves, -/
def halvesR (w : FVec Ideal S1x2x64x512 .f32) : FVec Ideal S2x2x64x512 .bf16 :=
  let v := shapeCast S2x64x512 w shapeCasts_S1x2x64x512_S2x64x512
  let h : FVec Ideal S2x64x512 .bf16 := truncf .bf16 v bitsLt_bf16_f32
  let l : FVec Ideal S2x64x512 .bf16 := truncf .bf16 (subf v (extf .f32 h bitsLt_bf16_f32)) bitsLt_bf16_f32
  transpose S2x2x64x512 [1, 0, 2, 3] (concatenate S2x2x64x512 0
    [⟨S1x2x64x512, broadcastInDim S1x2x64x512 ![1, 2, 3] bcast_S2x64x512_S1x2x64x512_1_2_3 h⟩,
     ⟨S1x2x64x512, broadcastInDim S1x2x64x512 ![1, 2, 3] bcast_S2x64x512_S1x2x64x512_1_2_3 l⟩]
    concatenates_S1x2x64x512_S1x2x64x512_S2x2x64x512_d0) transposes_S2x2x64x512_S2x2x64x512_1_0_2_3
/-- the gate's weights in halves, -/
def gateR (w : FVec Ideal S1x128x512 .f32) : FVec Ideal S2x128x512 .bf16 :=
  let v := shapeCast S128x512 w shapeCasts_S1x128x512_S128x512
  let h : FVec Ideal S128x512 .bf16 := truncf .bf16 v bitsLt_bf16_f32
  let l : FVec Ideal S128x512 .bf16 := truncf .bf16 (subf v (extf .f32 h bitsLt_bf16_f32)) bitsLt_bf16_f32
  concatenate S2x128x512 0
    [⟨S1x128x512, broadcastInDim S1x128x512 ![1, 2] bcast_S128x512_S1x128x512_1_2 h⟩,
     ⟨S1x128x512, broadcastInDim S1x128x512 ![1, 2] bcast_S128x512_S1x128x512_1_2 l⟩]
    concatenates_S1x128x512_S1x128x512_S2x128x512_d0
/-- a row of 512 -/
def rowR (w : FVec Ideal S1x512 .f32) : FVec Ideal S1x512 .f32 :=
  shapeCast S1x512 (shapeCast S512 w shapeCasts_S1x512_S512) shapeCasts_S512_S1x512
/-- and one from the heads' rows. -/
def bonR (w : FVec Ideal S1x8x64 .f32) : FVec Ideal S1x512 .f32 :=
  shapeCast S1x512 (shapeCast S8x64 w shapeCasts_S1x8x64_S8x64) shapeCasts_S8x64_S1x512

theorem kernR_apply (w : FVec Ideal S1x3x3x1536 .f32) (j : Fin 9) (c : Fin 1536) :
    kernR w (ix2 j c) = w (ix4 0 ⟨j.val / 3, by omega⟩ ⟨j.val % 3, by omega⟩ c) := by
  unfold kernR
  pointwise
theorem vecR_apply (w : FVec Ideal S1x2x512 .f32) (d : Fin 2) (c : Fin 512) : vecR w (ix2 d c) = w (ix3 0 d c) := by
  unfold vecR
  pointwise
theorem halvesR_hi (w : FVec Ideal S1x2x64x512 .f32) (d : Fin 2) (k : Fin 64) (c : Fin 512) :
    (halvesR w (ix4 d 0 k c) : EReal) = w (ix4 0 d k c) := by
  unfold halvesR
  pointwise
theorem halvesR_lo (w : FVec Ideal S1x2x64x512 .f32) (d : Fin 2) (k : Fin 64) (c : Fin 512) :
    (halvesR w (ix4 d 1 k c) : EReal) = w (ix4 0 d k c) - w (ix4 0 d k c) := by
  unfold halvesR
  pointwise
theorem gateR_hi (w : FVec Ideal S1x128x512 .f32) (k : Fin 128) (c : Fin 512) : (gateR w (ix3 0 k c) : EReal) = w (ix3 0 k c) := by
  unfold gateR
  pointwise
theorem gateR_lo (w : FVec Ideal S1x128x512 .f32) (k : Fin 128) (c : Fin 512) :
    (gateR w (ix3 1 k c) : EReal) = w (ix3 0 k c) - w (ix3 0 k c) := by
  unfold gateR
  pointwise
theorem rowR_apply (w : FVec Ideal S1x512 .f32) (k : Fin 512) : rowR w (ix2 0 k) = w (ix2 0 k) := by
  unfold rowR
  pointwise
theorem bonR_apply (w : FVec Ideal S1x8x64 .f32) (k : Fin 512) : bonR w (ix2 0 k) = w (ix3 0 (hd k) (pl k)) := by
  unfold bonR
  pointwise

variable (m : (ℓ : Loc nD τ sig) → Buf (Elt Ideal) ℓ)

theorem V_v9 (c : Dev nD) : V m c main_v9 = segR := by
  unfold_abbrev_sides
  simp only [List.flatten_cons, List.flatten_nil, List.append_nil, hostOps0, hostOps0_1, hostOps0_2, List.cons_append, List.nil_append]
  after_results
  rfl

theorem V_v1 (c : Dev nD) : V m c main_v1 = kernR (m ((c : Thread nD τ).loc main_arg2)) := by
  unfold_abbrev_sides
  simp only [List.flatten_cons, List.flatten_nil, List.append_nil, hostOps0, hostOps0_1, hostOps0_2, List.cons_append, List.nil_append]
  after_results
  rfl

theorem V_v10 (c : Dev nD) : V m c main_v10 = vecR (m ((c : Thread nD τ).loc main_arg3)) := by
  unfold_abbrev_sides
  simp only [List.flatten_cons, List.flatten_nil, List.append_nil, hostOps0, hostOps0_1, hostOps0_2, List.cons_append, List.nil_append]
  after_results
  rfl

theorem V_v19 (c : Dev nD) : V m c main_v19 = halvesR (m ((c : Thread nD τ).loc main_arg4)) := by
  unfold_abbrev_sides
  simp only [List.flatten_cons, List.flatten_nil, List.append_nil, hostOps0, hostOps0_1, hostOps0_2, List.cons_append, List.nil_append]
  after_results
  rfl

theorem V_v20 (c : Dev nD) : V m c main_v20 = vecR (m ((c : Thread nD τ).loc main_arg5)) := by
  unfold_abbrev_sides
  simp only [List.flatten_cons, List.flatten_nil, List.append_nil, hostOps0, hostOps0_1, hostOps0_2, List.cons_append, List.nil_append]
  after_results
  rfl

theorem V_v29 (c : Dev nD) : V m c main_v29 = halvesR (m ((c : Thread nD τ).loc main_arg6)) := by
  unfold_abbrev_sides
  simp only [List.flatten_cons, List.flatten_nil, List.append_nil, hostOps0, hostOps0_1, hostOps0_2, List.cons_append, List.nil_append]
  after_results
  rfl

theorem V_v37 (c : Dev nD) : V m c main_v37 = gateR (m ((c : Thread nD τ).loc main_arg7)) := by
  unfold_abbrev_sides
  simp only [List.flatten_cons, List.flatten_nil, List.append_nil, hostOps0, hostOps0_1, hostOps0_2, List.cons_append, List.nil_append]
  after_results
  rfl

theorem V_v41 (c : Dev nD) : V m c main_v41 = rowR (m ((c : Thread nD τ).loc main_arg8)) := by
  unfold_abbrev_sides
  simp only [List.flatten_cons, List.flatten_nil, List.append_nil, hostOps0, hostOps0_1, hostOps0_2, List.cons_append, List.nil_append]
  after_results
  rfl

theorem V_v42 (c : Dev nD) : V m c main_v42 = rowR (m ((c : Thread nD τ).loc main_arg9)) := by
  unfold_abbrev_sides
  simp only [List.flatten_cons, List.flatten_nil, List.append_nil, hostOps0, hostOps0_1, hostOps0_2, List.cons_append, List.nil_append]
  after_results
  rfl

theorem V_v43 (c : Dev nD) : V m c main_v43 = bonR (m ((c : Thread nD τ).loc main_arg10)) := by
  unfold_abbrev_sides
  simp only [List.flatten_cons, List.flatten_nil, List.append_nil, hostOps0, hostOps0_1, hostOps0_2, List.cons_append, List.nil_append]
  after_results
  rfl

end Cert.Kernel5Ideal.Whole
-- ==== Proof.PrepValue.lean ====
/-
  The preparation's four results after its run, from the step's arguments.
-/
module

public import proofs.«01_k».proof.Proof.PrepArrays

@[expose] public section

set_option maxRecDepth 16384

noncomputable section

namespace Cert.Kernel5Ideal.Whole

open Cert.Kernel5Ideal Cert.Kernel5Ideal.Gen Cert.Prep Cert.Post Cert.Inproj Cert.Combine
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s arguments. -/
abbrev args (c : Dev nD) : Prep.Args :=
  { u := m ((c : Thread nD τ).loc main_arg0),
    lo := m ((c : Thread nD τ).loc main_arg1),
    cw := m ((c : Thread nD τ).loc main_arg2),
    w0 := m ((c : Thread nD τ).loc main_arg3),
    w2 := m ((c : Thread nD τ).loc main_arg4),
    a0 := m ((c : Thread nD τ).loc main_arg5),
    a2 := m ((c : Thread nD τ).loc main_arg6),
    g2 := m ((c : Thread nD τ).loc main_arg7),
    kk := m ((c : Thread nD τ).loc main_arg8),
    ka := m ((c : Thread nD τ).loc main_arg9),
    rk := m ((c : Thread nD τ).loc main_arg10) }

/-- The block each window is at, at point `t` of the 16 × 4 grid. -/
theorem idx : ∀ t : Fin cfg0.N,
    win0_0.index t = ![t.val / 4, t.val % 4, 0]
      ∧ win0_1.index t = ![t.val / 4, t.val % 4 * 8 - 1, 0]
      ∧ win0_2.index t = ![t.val / 4, min ((t.val % 4 + 1) * 8) 31, 0]
      ∧ win0_3.index t = ![t.val / 4, t.val % 4, 0]
      ∧ win0_4.index t = ![0, 0]
      ∧ win0_5.index t = ![0, 0]
      ∧ win0_6.index t = ![0, 0, 0, 0]
      ∧ win0_7.index t = ![0, 0]
      ∧ win0_8.index t = ![0, 0, 0, 0]
      ∧ win0_9.index t = ![0, 0, 0]
      ∧ win0_10.index t = ![0, 0]
      ∧ win0_11.index t = ![0, 0]
      ∧ win0_12.index t = ![0, 0]
      ∧ win0_13.index t = ![0, 0]
      ∧ win0_14.index t = ![0, 0, t.val / 4, t.val % 4, 0]
      ∧ win0_15.index t = ![0, t.val / 4, t.val % 4, 0]
      ∧ win0_16.index t = ![t.val / 4, t.val % 4, 0]
      ∧ win0_17.index t = ![t.val / 4, t.val % 4, 0] :=
  (by decide +kernel : ∀ t : Fin grid0.N, _)
/-- Its place in the batch. -/
theorem coord1 : ∀ t : Fin cfg0.N, ((grid0.coords t) 1).val = t.val % 4 :=
  (by decide +kernel : ∀ t : Fin grid0.N, _)

/-- The batch point `t` works on, -/
abbrev bat (t : Fin cfg0.N) : Fin 16 := ⟨t.val / 4, by have h : t.val < 64 := t.isLt; omega⟩
/-- and the token its row `s` is. -/
abbrev tok (t : Fin cfg0.N) (s : Fin 512) : Fin 2048 := ⟨t.val % 4 * 512 + s.val, by omega⟩

/-! The blocks a point is given, read at the arrays. -/

theorem in0 (c : Dev nD) (t : Fin cfg0.N) (s : Fin 512) (e : Fin 1536) :
    (iblk m c 0 t : Vec Ideal S1x512x1536 .f32) (ix3 0 s e) = m ((c : Thread nD τ).loc main_arg0) (ix3 (bat t) (tok t s) e) := by
  have hN : t.val < 64 := t.isLt
  rw [← V_main_arg0 m c]
  blk_ext [iblk, idx t]

theorem in1 (c : Dev nD) (t : Fin cfg0.N) (s : Fin 64) (e : Fin 1536) :
    (iblk m c 1 t : Vec Ideal S1x64x1536 .f32) (ix3 0 s e) = m ((c : Thread nD τ).loc main_arg0) (ix3 (bat t) ⟨(t.val % 4 * 8 - 1) * 64 + s.val, by omega⟩ e) := by
  have hN : t.val < 64 := t.isLt
  rw [← V_main_arg0 m c]
  blk_ext [iblk, idx t]

theorem in2 (c : Dev nD) (t : Fin cfg0.N) (s : Fin 64) (e : Fin 1536) :
    (iblk m c 2 t : Vec Ideal S1x64x1536 .f32) (ix3 0 s e) = m ((c : Thread nD τ).loc main_arg0) (ix3 (bat t) ⟨(min ((t.val % 4 + 1) * 8) 31) * 64 + s.val, by omega⟩ e) := by
  have hN : t.val < 64 := t.isLt
  rw [← V_main_arg0 m c]
  blk_ext [iblk, idx t]

theorem in3 (c : Dev nD) (t : Fin cfg0.N) (s : Fin 512) (e : Fin 384) :
    (iblk m c 3 t : Vec Ideal S1x512x384 .f32) (ix3 0 s e) = m ((c : Thread nD τ).loc main_arg1) (ix3 (bat t) (tok t s) e) := by
  have hN : t.val < 64 := t.isLt
  rw [← V_main_arg1 m c]
  blk_ext [iblk, idx t]

theorem in4 (c : Dev nD) (t : Fin cfg0.N) (j : Fin 9) (e : Fin 1536) :
    (iblk m c 4 t : Vec Ideal S9x1536 .f32) (ix2 j e) = m ((c : Thread nD τ).loc main_arg2) (ix4 0 ⟨j.val / 3, by omega⟩ ⟨j.val % 3, by omega⟩ e) := by
  have hN : t.val < 64 := t.isLt
  rw [← kernR_apply (m ((c : Thread nD τ).loc main_arg2)), ← V_v1 m c]
  blk_ext [iblk, idx t]

theorem in5 (c : Dev nD) (t : Fin cfg0.N) (d : Fin 2) (k : Fin 512) :
    (iblk m c 5 t : Vec Ideal S2x512 .f32) (ix2 d k) = m ((c : Thread nD τ).loc main_arg3) (ix3 0 d k) := by
  have hN : t.val < 64 := t.isLt
  rw [← vecR_apply (m ((c : Thread nD τ).loc main_arg3)), ← V_v10 m c]
  blk_ext [iblk, idx t]

theorem in7 (c : Dev nD) (t : Fin cfg0.N) (d : Fin 2) (k : Fin 512) :
    (iblk m c 7 t : Vec Ideal S2x512 .f32) (ix2 d k) = m ((c : Thread nD τ).loc main_arg5) (ix3 0 d k) := by
  have hN : t.val < 64 := t.isLt
  rw [← vecR_apply (m ((c : Thread nD τ).loc main_arg5)), ← V_v20 m c]
  blk_ext [iblk, idx t]

theorem in10 (c : Dev nD) (t : Fin cfg0.N) (k : Fin 512) :
    (iblk m c 10 t : Vec Ideal S1x512 .f32) (ix2 0 k) = m ((c : Thread nD τ).loc main_arg8) (ix2 0 k) := by
  have hN : t.val < 64 := t.isLt
  rw [← rowR_apply (m ((c : Thread nD τ).loc main_arg8)), ← V_v41 m c]
  blk_ext [iblk, idx t]

theorem in11 (c : Dev nD) (t : Fin cfg0.N) (k : Fin 512) :
    (iblk m c 11 t : Vec Ideal S1x512 .f32) (ix2 0 k) = m ((c : Thread nD τ).loc main_arg9) (ix2 0 k) := by
  have hN : t.val < 64 := t.isLt
  rw [← rowR_apply (m ((c : Thread nD τ).loc main_arg9)), ← V_v42 m c]
  blk_ext [iblk, idx t]

theorem in12 (c : Dev nD) (t : Fin cfg0.N) (k : Fin 512) :
    (iblk m c 12 t : Vec Ideal S1x512 .f32) (ix2 0 k) = m ((c : Thread nD τ).loc main_arg10) (ix3 0 (hd k) (pl k)) := by
  have hN : t.val < 64 := t.isLt
  rw [← bonR_apply (m ((c : Thread nD τ).loc main_arg10)), ← V_v43 m c]
  blk_ext [iblk, idx t]

theorem in13 (c : Dev nD) (t : Fin cfg0.N) (l k : Fin 512) :
    (iblk m c 13 t : Vec Ideal S512x512 .bf16) (ix2 l k) = same l k := by
  have hN : t.val < 64 := t.isLt
  rw [← segR_apply, ← V_v9 m c]
  blk_ext [iblk, idx t]

theorem in6h (c : Dev nD) (t : Fin cfg0.N) (d : Fin 2) (k : Fin 64) (e : Fin 512) :
    ((iblk m c 6 t : Vec Ideal S2x2x64x512 .bf16) (ix4 d 0 k e) : EReal) = m ((c : Thread nD τ).loc main_arg4) (ix4 0 d k e) := by
  rw [← halvesR_hi (m ((c : Thread nD τ).loc main_arg4)), ← V_v19 m c]
  blk_ext [iblk, idx t]
theorem in6l (c : Dev nD) (t : Fin cfg0.N) (d : Fin 2) (k : Fin 64) (e : Fin 512) :
    ((iblk m c 6 t : Vec Ideal S2x2x64x512 .bf16) (ix4 d 1 k e) : EReal) = (args m c).w2 (ix4 0 d k e) - (args m c).w2 (ix4 0 d k e) := by
  refine Eq.trans ?_ (halvesR_lo (m ((c : Thread nD τ).loc main_arg4)) d k e)
  rw [← V_v19 m c]
  blk_ext [iblk, idx t]

theorem in8h (c : Dev nD) (t : Fin cfg0.N) (d : Fin 2) (k : Fin 64) (e : Fin 512) :
    ((iblk m c 8 t : Vec Ideal S2x2x64x512 .bf16) (ix4 d 0 k e) : EReal) = m ((c : Thread nD τ).loc main_arg6) (ix4 0 d k e) := by
  rw [← halvesR_hi (m ((c : Thread nD τ).loc main_arg6)), ← V_v29 m c]
  blk_ext [iblk, idx t]
theorem in8l (c : Dev nD) (t : Fin cfg0.N) (d : Fin 2) (k : Fin 64) (e : Fin 512) :
    ((iblk m c 8 t : Vec Ideal S2x2x64x512 .bf16) (ix4 d 1 k e) : EReal) = (args m c).a2 (ix4 0 d k e) - (args m c).a2 (ix4 0 d k e) := by
  refine Eq.trans ?_ (halvesR_lo (m ((c : Thread nD τ).loc main_arg6)) d k e)
  rw [← V_v29 m c]
  blk_ext [iblk, idx t]

theorem in9h (c : Dev nD) (t : Fin cfg0.N) (k : Fin 128) (e : Fin 512) :
    ((iblk m c 9 t : Vec Ideal S2x128x512 .bf16) (ix3 0 k e) : EReal) = m ((c : Thread nD τ).loc main_arg7) (ix3 0 k e) := by
  rw [← gateR_hi (m ((c : Thread nD τ).loc main_arg7)), ← V_v37 m c]
  blk_ext [iblk, idx t]
theorem in9l (c : Dev nD) (t : Fin cfg0.N) (k : Fin 128) (e : Fin 512) :
    ((iblk m c 9 t : Vec Ideal S2x128x512 .bf16) (ix3 1 k e) : EReal) = (args m c).g2 (ix3 0 k e) - (args m c).g2 (ix3 0 k e) := by
  refine Eq.trans ?_ (gateR_lo (m ((c : Thread nD τ).loc main_arg7)) k e)
  rw [← V_v37 m c]
  blk_ext [iblk, idx t]

/-- The mark of the rows before the block is zero at the first block of a batch, -/
theorem mark_prev : ∀ n : Fin 4, (Scalar.cmpi .sgt (BitVec.ofNat 32 n.val) 0#32) = if 0 < n.val then 1#1 else 0#1 := by decide
/-- and that of the rows after it at the last. -/
theorem mark_next : ∀ n : Fin 4, (Scalar.cmpi .slt (BitVec.ofNat 32 n.val) 3#32) = if n.val < 3 then 1#1 else 0#1 := by decide
theorem one_bits : (Scalar.ofBits .f32 0x3F800000#32 : Ideal .f32) = (1 : EReal) := by
  show Ideal.ofBits .f32 0x3F800000#32 = 1
  pointwise
theorem zero_bits : (Scalar.ofBits .f32 0x00000000#32 : Ideal .f32) = (0 : EReal) := by
  show Ideal.ofBits .f32 0x00000000#32 = 0
  pointwise
theorem pm_at (t : Fin cfg0.N) : (k0_pay3 (F := Ideal) (grid0.coords t) : EReal) = if 0 < t.val % 4 then 1 else 0 := by
  show Scalar.select (Scalar.cmpi .sgt (BitVec.ofNat 32 ((grid0.coords t) 1).val) 0#32) (Scalar.ofBits .f32 0x3F800000#32 : Ideal .f32) (Scalar.ofBits .f32 0x00000000#32) = _
  rw [coord1, mark_prev ⟨t.val % 4, by omega⟩, one_bits, zero_bits]
  by_cases h : 0 < t.val % 4
  · rw [if_pos h, if_pos h]; rfl
  · rw [if_neg h, if_neg h]; rfl
theorem nm_at (t : Fin cfg0.N) : (k0_pay4 (F := Ideal) (grid0.coords t) : EReal) = if t.val % 4 < 3 then 1 else 0 := by
  show Scalar.select (Scalar.cmpi .slt (BitVec.ofNat 32 ((grid0.coords t) 1).val) 3#32) (Scalar.ofBits .f32 0x3F800000#32 : Ideal .f32) (Scalar.ofBits .f32 0x00000000#32) = _
  rw [coord1, mark_next ⟨t.val % 4, by omega⟩, one_bits, zero_bits]
  by_cases h : t.val % 4 < 3
  · rw [if_pos h, if_pos h]; rfl
  · rw [if_neg h, if_neg h]; rfl

/-- A point's convolution is the grid's. -/
theorem cv_at (c : Dev nD) (t : Fin cfg0.N) (p : Fin 3) (s k : Fin 512) :
    Block.cvB (grid0.coords t) (iblk m c 0 t) (iblk m c 1 t) (iblk m c 2 t) (iblk m c 4 t) p s k = (args m c).cv p (bat t) (tok t s) k := by
  unfold Block.cvB Prep.Args.cv
  simp only [in0, in1, in2, in4]
  exact conv9_eq (fun q => (args m c).u (ix3 (bat t) q (Block.ch p k))) ⟨t.val % 4, by omega⟩ _ _ (pm_at t) (nm_at t) _ _ _
    (fun _ => rfl) (fun _ => rfl) (fun _ => rfl) (fun y x => (args m c).cw (ix4 0 y x (Block.ch p k))) s

theorem uk_at (c : Dev nD) (t : Fin cfg0.N) (s k : Fin 512) :
    Block.ukB (grid0.coords t) (iblk m c 0 t) (iblk m c 1 t) (iblk m c 2 t) (iblk m c 4 t) (iblk m c 10 t) s k = (args m c).uk (bat t) (tok t s) k := by
  unfold Block.ukB Prep.Args.uk
  simp only [cv_at, in10]

variable (c : Dev nD) (hA : (args m c).Numbers)
include hA

theorem ld_at (t : Fin cfg0.N) (d : Fin 2) (s k : Fin 512) :
    decay (Block.zB (iblk m c 3 t) (iblk m c 5 t) (iblk m c 6 t) d s k) = (args m c).ld d (bat t) (tok t s) k := by
  unfold Block.zB Prep.Args.ld
  simp only [in3, in5, in6h, in6l]
  rw [dsplit_eq _ _ (fun _ => Num.tanh _) (fun _ => hA.w2 _)]

theorem al_at (t : Fin cfg0.N) (d : Fin 2) (s k : Fin 512) :
    Block.alB (iblk m c 3 t) (iblk m c 7 t) (iblk m c 8 t) d s k = (args m c).al d (bat t) (tok t s) k := by
  unfold Block.alB Prep.Args.al
  simp only [in3, in7, in8h, in8l]
  rw [dsplit_eq _ _ (fun _ => hA.lo _) (fun _ => hA.a2 _)]

theorem dk_at (t : Fin cfg0.N) (d : Fin 2) (s k : Fin 512) :
    Block.dkB (grid0.coords t) (iblk m c 0 t) (iblk m c 1 t) (iblk m c 2 t) (iblk m c 3 t) (iblk m c 4 t) (iblk m c 7 t) (iblk m c 8 t) (iblk m c 11 t) d s k = (args m c).dk d (bat t) (tok t s) k := by
  unfold Block.dkB Prep.Args.dk
  rw [cv_at, al_at m c hA, in11]

theorem cv_num (p : Fin 3) (b : Fin 16) (q : Fin 2048) (k : Fin 512) : Num ((args m c).cv p b q k) :=
  conv_num _ (fun _ => hA.u _) _ (fun _ _ => hA.cw _) _
theorem dk_num (d : Fin 2) (b : Fin 16) (q : Fin 2048) (k : Fin 512) : Num ((args m c).dk d b q k) :=
  dkey_num (cv_num m c hA 1 b q k) (Num.logistic _) (hA.ka _)

theorem bo_at (t : Fin cfg0.N) (s k : Fin 512) :
    bonus' (Block.cvB (grid0.coords t) (iblk m c 0 t) (iblk m c 1 t) (iblk m c 2 t) (iblk m c 4 t) 0 s) (Block.dkB (grid0.coords t) (iblk m c 0 t) (iblk m c 1 t) (iblk m c 2 t) (iblk m c 3 t) (iblk m c 4 t) (iblk m c 7 t) (iblk m c 8 t) (iblk m c 11 t) 0 s)
      (Block.dkB (grid0.coords t) (iblk m c 0 t) (iblk m c 1 t) (iblk m c 2 t) (iblk m c 3 t) (iblk m c 4 t) (iblk m c 7 t) (iblk m c 8 t) (iblk m c 11 t) 1 s) (fun l => (iblk m c 12 t : Vec Ideal S1x512 .f32) (ix2 0 l))
      (Block.cvB (grid0.coords t) (iblk m c 0 t) (iblk m c 1 t) (iblk m c 2 t) (iblk m c 4 t) 2 s) k = (args m c).bo (bat t) (tok t s) k := by
  rw [show Block.cvB (grid0.coords t) (iblk m c 0 t) (iblk m c 1 t) (iblk m c 2 t) (iblk m c 4 t) 0 s = (args m c).cv 0 (bat t) (tok t s) from funext (cv_at m c t 0 s),
    show Block.cvB (grid0.coords t) (iblk m c 0 t) (iblk m c 1 t) (iblk m c 2 t) (iblk m c 4 t) 2 s = (args m c).cv 2 (bat t) (tok t s) from funext (cv_at m c t 2 s),
    show Block.dkB (grid0.coords t) (iblk m c 0 t) (iblk m c 1 t) (iblk m c 2 t) (iblk m c 3 t) (iblk m c 4 t) (iblk m c 7 t) (iblk m c 8 t) (iblk m c 11 t) 0 s = (args m c).dk 0 (bat t) (tok t s) from funext (dk_at m c hA t 0 s),
    show Block.dkB (grid0.coords t) (iblk m c 0 t) (iblk m c 1 t) (iblk m c 2 t) (iblk m c 3 t) (iblk m c 4 t) (iblk m c 7 t) (iblk m c 8 t) (iblk m c 11 t) 1 s = (args m c).dk 1 (bat t) (tok t s) from funext (dk_at m c hA t 1 s)]
  simp only [in12]
  exact bonus_eq _ _ _ _ _ (cv_num m c hA 0 _ _) (dk_num m c hA 0 _ _) (dk_num m c hA 1 _ _) (fun _ => hA.rk _) (cv_num m c hA 2 _ _) k

theorem op_at (t : Fin cfg0.N) (o : Fin 4) (j : Fin 2) (s k : Fin 512) :
    Block.opB (grid0.coords t) (iblk m c 0 t) (iblk m c 1 t) (iblk m c 2 t) (iblk m c 3 t) (iblk m c 4 t) (iblk m c 7 t) (iblk m c 8 t) (iblk m c 10 t) (iblk m c 11 t) o j s k = (args m c).ops o j (bat t) (tok t s) k := by
  unfold Block.opB Prep.Args.ops
  rw [cv_at, cv_at, uk_at, dk_at m c hA, dk_at m c hA, al_at m c hA, al_at m c hA]

theorem final14 : (dats m 0 c).arrAt 14 cfg0.N = (args m c).opsA := by
  refine (dats m 0 c).arrAt_eq_of_covers 14 _ (by decide +kernel) fun t hf y => ?_
  blk_simp
  rw [after0_14]
  obtain ⟨o, j, s, k, rfl⟩ : ∃ (o : Fin 4) (j : Fin 2) (s k : Fin 512), y = ix5 o j 0 s k := ⟨y 0, y 1, y 3, y 4, by rw [eq_ix5 y]; congr 1; exact Subsingleton.elim _ _⟩
  have hN : t.val < 64 := t.isLt
  rw [Block.out14_apply _ _ _ _ _ _ _ _ _ _ _ _ _ _ _ (in13 m c t)]
  have e : (win0_14.blk t).view.emb (ix5 o j 0 s k) = ix5 o j (bat t) (tok t s) k := by
    blk_ext [idx t]
  rw [e]
  exact op_at m c hA t o j s k

theorem final15 : (dats m 0 c).arrAt 15 cfg0.N = (args m c).ldA := by
  refine (dats m 0 c).arrAt_eq_of_covers 15 _ (by decide +kernel) fun t hf y => ?_
  blk_simp
  rw [after0_15]
  obtain ⟨d, s, k, rfl⟩ : ∃ (d : Fin 2) (s k : Fin 512), y = ix4 d 0 s k := ⟨y 0, y 2, y 3, by rw [eq_ix4 y]; congr 1; exact Subsingleton.elim _ _⟩
  have hN : t.val < 64 := t.isLt
  rw [Block.out15_apply]
  have e : (win0_15.blk t).view.emb (ix4 d 0 s k) = ix4 d (bat t) (tok t s) k := by
    blk_ext [idx t]
  rw [e]
  exact ld_at m c hA t d s k

theorem final16 : (dats m 0 c).arrAt 16 cfg0.N = (args m c).boA := by
  refine (dats m 0 c).arrAt_eq_of_covers 16 _ (by decide +kernel) fun t hf y => ?_
  blk_simp
  rw [after0_16]
  obtain ⟨s, k, rfl⟩ : ∃ (s k : Fin 512), y = ix3 0 s k := ⟨y 1, y 2, by rw [eq_ix3 y]; congr 1; exact Subsingleton.elim _ _⟩
  have hN : t.val < 64 := t.isLt
  rw [Block.out16_apply _ _ _ _ _ _ _ _ _ _ _ _ _ _ _ (in13 m c t)]
  have e : (win0_16.blk t).view.emb (ix3 0 s k) = ix3 (bat t) (tok t s) k := by
    blk_ext [idx t]
  rw [e]
  exact bo_at m c hA t s k

theorem final17 : (dats m 0 c).arrAt 17 cfg0.N = (args m c).gaA := by
  refine (dats m 0 c).arrAt_eq_of_covers 17 _ (by decide +kernel) fun t hf y => ?_
  blk_simp
  rw [after0_17]
  obtain ⟨s, k, rfl⟩ : ∃ (s k : Fin 512), y = ix3 0 s k := ⟨y 1, y 2, by rw [eq_ix3 y]; congr 1; exact Subsingleton.elim _ _⟩
  have hN : t.val < 64 := t.isLt
  rw [Block.out17_apply]
  have e : (win0_17.blk t).view.emb (ix3 0 s k) = ix3 (bat t) (tok t s) k := by
    blk_ext [idx t]
  rw [e]
  simp only [in3, in9h, in9l]
  rw [dsplit_eq _ _ (fun _ => Num.logistic _) (fun _ => hA.g2 _)]
  rfl

omit hA in
set_option maxHeartbeats 4000000 in
/-- The kernel's run: the four results, and the arguments unchanged. -/
theorem run (hN : ∀ c : Dev nD, (args m c).Numbers) : θ_run defs (onTc (τ := τ) (main (F := Ideal))) ⟨m, fun _ => 0, ρ⟩ fun r => ∀ c : Dev nD,
      r.2.mem ((c : Thread nD τ).loc main_v44_0) = (args m c).opsA
      ∧ r.2.mem ((c : Thread nD τ).loc main_v44_1) = (args m c).ldA
      ∧ r.2.mem ((c : Thread nD τ).loc main_v44_2) = (args m c).boA
      ∧ r.2.mem ((c : Thread nD τ).loc main_v44_3) = (args m c).gaA
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 14).trans (final14 m c (hN c)), ((h c).1 15).trans (final15 m c (hN c)),
      ((h c).1 16).trans (final16 m c (hN c)), ((h c).1 17).trans (final17 m c (hN c)),
      ((h c).1 0).trans (((dats m 0 c).arrAt_in 0 rfl _).trans (V_main_arg0 m c)),
      ((h c).1 3).trans (((dats m 0 c).arrAt_in 3 rfl _).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.Kernel5Ideal.Whole
-- ==== Proof.lean ====
/-
  The claims about the layer's last call, about its first step, about its routed experts, about its output
  projection and about the preparation of the rwkv scan.
-/
module

public import proofs.«01_k».proof.Defs
public import proofs.«01_k».proof.Proof.Gen.Kernel.Frame
public import proofs.«01_k».proof.Proof.CombineValue
public import proofs.«01_k».proof.Proof.CombineRef
public import proofs.«01_k».proof.Proof.InprojRef
public import proofs.«01_k».proof.Proof.InprojValue
public import proofs.«01_k».proof.Proof.Gen.Kernel2.Frame
public import proofs.«01_k».proof.Proof.ExpertsRef
public import proofs.«01_k».proof.Proof.ExpertsValue
public import proofs.«01_k».proof.Proof.ExpertsBits
public import proofs.«01_k».proof.Proof.Gen.Kernel4.Frame
public import proofs.«01_k».proof.Proof.PostRef
public import proofs.«01_k».proof.Proof.PostValue
public import proofs.«01_k».proof.Proof.Gen.Kernel5.Frame
public import proofs.«01_k».proof.Proof.PrepOk
public import proofs.«01_k».proof.Proof.PrepRef
public import proofs.«01_k».proof.Proof.PrepValue

@[expose] public section

noncomputable section

namespace Cert.Proof

open Idealize.ShloMosaic Idealize.SL.Sem

theorem frameRef : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Both programs end with the layer's result. -/
theorem value : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Whole.G m c, ?_, ?_⟩
  · exact Cert.KernelIdeal.Whole.run m ρ
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8⟩ := hagree c
    refine (h c).1.trans ((Cert.ReferenceIdeal.At.res_eq m' c).trans ?_)
    rw [h0, h1, h2, h3, h4, h5, h6, h7, h8]

theorem frameRef2 : Cert.quiescent_Reference2Ideal (hReference2Ideal := Cert.Reference2Ideal.Gen.facts) := fun m ρ _ =>
  (θ_run Cert.Reference2Ideal.defs _ _).mono
    (fun r h => ⟨fun c => (h c).2.2.2.2.2.2, Idealize.ShloMosaic.sem_eq_zero_of_no_sems (by decide) r.2⟩)
    (Cert.Reference2Ideal.Value.run (F := Ideal) m ρ)

/-- The first step: both programs end with the same six projections. -/
theorem value2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Whole.Glat m 1536 0 (by decide) c, fun c => Cert.Kernel2Ideal.Whole.Glat m 384 1536 (by decide) c,
    fun c => Cert.Kernel2Ideal.Whole.Glat m 2560 1920 (by decide) c, fun c => Cert.Kernel2Ideal.Whole.Gctx m 1536 0 (by decide) c,
    fun c => Cert.Kernel2Ideal.Whole.Gctx m 384 1536 (by decide) c, fun c => Cert.Kernel2Ideal.Whole.Gctx m 2560 1920 (by decide) c,
    Cert.Kernel2Ideal.Whole.run m ρ, ?_⟩
  refine (θ_run Cert.Reference2Ideal.defs _ _).mono (fun r h c => ?_) (Cert.Reference2Ideal.Value.run (F := Ideal) m' ρ')
  obtain ⟨a0, a1, a2, a3, a4, a5, a6, a7⟩ := hagree c
  obtain ⟨h0, h1, h2, h3, h4, h5, hargs⟩ := h c
  refine ⟨(h0.trans (Cert.Reference2Ideal.Read.val_main_v62_eq _ _ _ _ _ _)).trans ((Cert.Reference2Ideal.At.res0 _ _ _ _ _ _).trans ?_),
    (h1.trans (Cert.Reference2Ideal.Read.val_main_v63_eq _ _ _ _ _ _)).trans ((Cert.Reference2Ideal.At.res1 _ _ _ _ _ _).trans ?_),
    (h2.trans (Cert.Reference2Ideal.Read.val_main_v64_eq _ _ _ _ _ _)).trans ((Cert.Reference2Ideal.At.res2 _ _ _ _ _ _).trans ?_),
    (h3.trans (Cert.Reference2Ideal.Read.val_main_v65_eq _ _ _ _ _ _)).trans ((Cert.Reference2Ideal.At.res3 _ _ _ _ _ _).trans ?_),
    (h4.trans (Cert.Reference2Ideal.Read.val_main_v66_eq _ _ _ _ _ _)).trans ((Cert.Reference2Ideal.At.res4 _ _ _ _ _ _).trans ?_),
    (h5.trans (Cert.Reference2Ideal.Read.val_main_v67_eq _ _ _ _ _ _)).trans ((Cert.Reference2Ideal.At.res5 _ _ _ _ _ _).trans ?_), hargs⟩
  · rw [a0, a1, a4, a5, a6, a7]
  · rw [a0, a1, a4, a5, a6, a7]
  · rw [a0, a1, a4, a5, a6, a7]
  · rw [a2, a3, a4, a5, a6, a7]
  · rw [a2, a3, a4, a5, a6, a7]
  · rw [a2, a3, a4, a5, a6, a7]

/-- The routed experts: the arguments are unchanged. -/
theorem frame3 : Cert.quiescent_Kernel3 (hKernel3 := Cert.Kernel3.Gen.facts) (hPre_names_experts := Cert.Pre_names_experts.Gen.facts) :=
  fun m ρ h => Cert.Kernel3.Experts.frame m ρ (Cert.Experts.named_of_pre _ _ _ _ _ (h 0))

theorem frameIdeal3 : Cert.quiescent_Kernel3Ideal (hKernel3Ideal := Cert.Kernel3Ideal.Gen.facts) (hPre_names_experts := Cert.Pre_names_experts.Gen.facts) :=
  fun m ρ h => Cert.Kernel3Ideal.Experts.frame_of_named m ρ (Cert.Experts.named_of_pre _ _ _ _ _ (h 0))

theorem frameRef3 : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The routed experts: both programs end with the same rows in the blocks the plan counts. -/
theorem value3 : Cert.algebraic_Kernel3Ideal_Reference3Ideal_on_rows_in_use (hKernel3Ideal := Cert.Kernel3Ideal.Gen.facts)
    (hReference3Ideal := Cert.Reference3Ideal.Gen.facts) (hPre_names_experts := Cert.Pre_names_experts.Gen.facts)
    (hOn_rows_in_use := Cert.On_rows_in_use.Gen.facts) := by
  intro m ρ m' ρ' hpre hagree
  have hA : ∀ c : Dev Cert.Kernel3Ideal.nD, Cert.Experts.Named (m ((c.tc : Thread Cert.Kernel3Ideal.nD Cert.Kernel3Ideal.τ).loc Cert.Kernel3Ideal.main_arg0)) :=
    fun c => Cert.Experts.named_of_pre _ _ _ _ _ (hpre c)
  have hP := Cert.Kernel3Ideal.Experts.named_of_arg m 0 (hA 0)
  refine ⟨fun c i => Cert.Kernel3Ideal.Experts.G m c (i 0) (i 1) (i 2), ?_, ?_⟩
  · refine (θ_run Cert.Kernel3Ideal.defs _ _).mono (fun r h c => ⟨fun i hi => ?_, (h c).2⟩)
      (Cert.Kernel3Ideal.Experts.run m ρ (Cert.Kernel3Ideal.Experts.ok_of_named m hP) hP)
    obtain ⟨j, q, k, rfl⟩ : ∃ (j : Fin 4) (q : Fin 327680) (k : Fin 256), i = ix3 j q k := ⟨_, _, _, eq_ix3 (n0 := 4) (n1 := 327680) (n2 := 256) i⟩
    refine (h c).1 j q k ?_
    rw [Cert.Kernel3Ideal.Experts.tbl_arg m c]
    exact Cert.Experts.used_of_mask _ _ _ _ _ j q k hi
  · refine (θ_run Cert.Reference3Ideal.defs _ _).mono (fun r h c => ⟨fun i _ => ?_, (h c).2⟩)
      (Cert.Reference3Ideal.Value.run (F := Ideal) m' ρ')
    obtain ⟨j, q, k, rfl⟩ : ∃ (j : Fin 4) (q : Fin 327680) (k : Fin 256), i = ix3 j q k := ⟨_, _, _, eq_ix3 (n0 := 4) (n1 := 327680) (n2 := 256) i⟩
    obtain ⟨h0, h1, h2, h3, h4⟩ := hagree c
    refine (congrFun (h c).1 _).trans ((Cert.Reference3Ideal.At.res_eq m' c ?_ j q k).trans ?_)
    · rw [h0]; exact hA c
    · show _ = Cert.Kernel3Ideal.Experts.G m c j q k
      unfold Cert.Kernel3Ideal.Experts.G
      rw [h0, h1, h2, h3, h4, Cert.Kernel3Ideal.Experts.tbl_arg m c]

theorem frameRef4 : Cert.quiescent_Reference4Ideal (hReference4Ideal := Cert.Reference4Ideal.Gen.facts) := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

/-- The output projection: both programs end with the same stream, quarters and scores. -/
theorem value4 : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => (Cert.Kernel4Ideal.Whole.args m c).stream, fun c => (Cert.Kernel4Ideal.Whole.args m c).quarters,
    fun c => (Cert.Kernel4Ideal.Whole.args m c).scores, Cert.Kernel4Ideal.Whole.run m ρ, ?_⟩
  refine (θ_run Cert.Reference4Ideal.defs _ _).mono (fun r h c => ?_) (Cert.Reference4Ideal.Value.run (F := Ideal) m' ρ')
  have hA : Cert.Reference4Ideal.At.args m' c = Cert.Kernel4Ideal.Whole.args m c := by
    obtain ⟨a0, a1, a2, a3, a4, a5, a6, a7, a8, a9, a10, a11, a12, a13, a14, a15⟩ := hagree c
    unfold Cert.Reference4Ideal.At.args Cert.Kernel4Ideal.Whole.args
    rw [a0, a1, a2, a3, a4, a5, a6, a7, a8, a9, a10, a11, a12, a13, a14, a15]
  obtain ⟨h0, h1, h2, hargs⟩ := h c
  exact ⟨h0.trans ((Cert.Reference4Ideal.At.run0 m' c).trans (congrArg Cert.Post.Args.stream hA)),
    h1.trans ((Cert.Reference4Ideal.At.run1 m' c).trans (congrArg Cert.Post.Args.quarters hA)),
    h2.trans ((Cert.Reference4Ideal.At.run2 m' c).trans (congrArg Cert.Post.Args.scores hA)), hargs⟩

theorem frameRef5 : Cert.quiescent_Reference5Ideal (hReference5Ideal := Cert.Reference5Ideal.Gen.facts) := fun m ρ _ =>
  (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)

set_option maxHeartbeats 4000000 in
/-- The preparation: where the arrays hold numbers, both programs end with the same operands, decays, bonus and gate. -/
theorem value5 : Cert.algebraic_Kernel5Ideal_Reference5Ideal_pre_numbers (hKernel5Ideal := Cert.Kernel5Ideal.Gen.facts)
    (hReference5Ideal := Cert.Reference5Ideal.Gen.facts) (hPre_numbers := Cert.Pre_numbers.Gen.facts) := by
  intro m ρ m' ρ' hpre hagree
  have hN : ∀ c, (Cert.Kernel5Ideal.Whole.args m c).Numbers := fun c =>
    Cert.Prep.numbers_of_pre (h := hpre c)
  refine ⟨fun c => (Cert.Kernel5Ideal.Whole.args m c).opsA, fun c => (Cert.Kernel5Ideal.Whole.args m c).ldA,
    fun c => (Cert.Kernel5Ideal.Whole.args m c).boA, fun c => (Cert.Kernel5Ideal.Whole.args m c).gaA,
    Cert.Kernel5Ideal.Whole.run m ρ hN, ?_⟩
  refine (θ_run Cert.Reference5Ideal.defs _ _).mono (fun r h c => ?_) (Cert.Reference5Ideal.Value.run (F := Ideal) m' ρ')
  have hA : Cert.Reference5Ideal.At.args m' c = Cert.Kernel5Ideal.Whole.args m c := by
    obtain ⟨a0, a1, a2, a3, a4, a5, a6, a7, a8, a9, a10⟩ := hagree c
    unfold Cert.Reference5Ideal.At.args Cert.Kernel5Ideal.Whole.args
    rw [a0, a1, a2, a3, a4, a5, a6, a7, a8, a9, a10]
  obtain ⟨h0, h1, h2, h3, hargs⟩ := h c
  exact ⟨(h0.trans (Cert.Reference5Ideal.Read.val_main_v215_eq _)).trans
      ((Cert.Reference5Ideal.At.res0 _ _ _ _ _ _ _ _ _ _ _).trans (congrArg Cert.Prep.Args.opsA hA)),
    (h1.trans (Cert.Reference5Ideal.Read.val_main_v219_eq _)).trans
      ((Cert.Reference5Ideal.At.res1 _ _ _ _ _ _ _ _ _ _ _).trans (congrArg Cert.Prep.Args.ldA hA)),
    (h2.trans (Cert.Reference5Ideal.Read.val_main_v221_eq _)).trans
      ((Cert.Reference5Ideal.At.res2 _ _ _ _ _ _ _ _ _ _ _).trans (congrArg Cert.Prep.Args.boA hA)),
    (h3.trans (Cert.Reference5Ideal.Read.val_main_v209_eq _)).trans
      ((Cert.Reference5Ideal.At.res3 _ _ _ _ _ _ _ _ _ _ _).trans (congrArg Cert.Prep.Args.gaA hA)), hargs⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_names_experts.Gen.facts, Cert.Pre_numbers.Gen.facts, Cert.On_rows_in_use.Gen.facts,
    fun m ρ _ => Cert.Kernel.Gen.frame m ρ, fun m ρ _ => Cert.KernelIdeal.Gen.frame m ρ, frameRef,
    fun m ρ _ => Cert.Kernel2.Gen.frame m ρ, fun m ρ _ => Cert.Kernel2Ideal.Gen.frame m ρ, frameRef2,
    frame3, frameIdeal3, frameRef3, fun m ρ _ => frameRef3 m ρ trivial,
    fun m ρ _ => Cert.Kernel4.Gen.frame m ρ, fun m ρ _ => Cert.Kernel4Ideal.Gen.frame m ρ, frameRef4,
    fun m ρ _ => Cert.Kernel5.Gen.frame m ρ, fun m ρ _ => Cert.Kernel5Ideal.Gen.frame m ρ,
    fun m ρ _ => Cert.Kernel5Ideal.Gen.frame m ρ, frameRef5, fun m ρ _ => frameRef5 m ρ trivial,
    trivial, value, trivial, value2, trivial, value3, trivial, value4, trivial, value5⟩

end Cert.Proof

end
